-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 512]⟩ ⟨2, ![768, 8192]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 512]⟩ ⟨2, ![768, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![8192, 768]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x768 : Shape := ⟨3, ![2, 256, 768]⟩
abbrev S768x512 : Shape := ⟨2, ![768, 512]⟩
abbrev S512x768 : Shape := ⟨2, ![512, 768]⟩
abbrev S_ : Shape := ⟨0, ![]⟩

class Facts : Prop where
  bitsLt_bf16_f32 : FTy.bits .bf16 < FTy.bits .f32
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_

variable [Facts]

def fn {F : FTy → Type} [FloatOps F] (main_arg0 : FVec F S2x256x768 .bf16) (main_arg1 : FVec F S768x512 .bf16) (main_arg2 : FVec F S768x512 .bf16) (main_arg3 : FVec F S768x512 .bf16) (main_arg4 : FVec F S512x768 .bf16) : IVec S_ 1 :=
  let main_v0 : FVec F S2x256x768 .f32 := (extf .f32 · bitsLt_bf16_f32) main_arg0
  let main_v1 : FVec F S2x256x768 .f32 := Host.absf main_v0
  let main_cst : FVec F S_ .f32 := constant S_ .f32 0x7F800000#32
  let main_v2 : FVec F S2x256x768 .f32 := broadcastInDim S2x256x768 ![] bcast_S_S2x256x768 main_cst
  let main_v3 : IVec S2x256x768 1 := cmpf .olt main_v1 main_v2
  let main_c : IVec S_ 1 := constantI S_ 1 1#1
  let main_v4 : IVec S_ 1 := (fun x v => Host.reduce IntOp.andi x v reducesTo_S2x256x768_S_d0_1_2 h_S_) main_v3 main_c
  let main_v5 : FVec F S768x512 .f32 := (extf .f32 · bitsLt_bf16_f32) main_arg1
  let main_v6 : FVec F S768x512 .f32 := Host.absf main_v5
  let main_cst_0 : FVec F S_ .f32 := constant S_ .f32 0x7F800000#32
  let main_v7 : FVec F S768x512 .f32 := broadcastInDim S768x512 ![] bcast_S_S768x512 main_cst_0
  let main_v8 : IVec S768x512 1 := cmpf .olt main_v6 main_v7
  let main_c_1 : IVec S_ 1 := constantI S_ 1 1#1
  let main_v9 : IVec S_ 1 := (fun x v => Host.reduce IntOp.andi x v reducesTo_S768x512_S_d0_1 h_S_) main_v8 main_c_1
  let main_v10 : IVec S_ 1 := andi main_v4 main_v9
  let main_v11 : FVec F S768x512 .f32 := (extf .f32 · bitsLt_bf16_f32) main_arg2
  let main_v12 : FVec F S768x512 .f32 := Host.absf main_v11
  let main_cst_2 : FVec F S_ .f32 := constant S_ .f32 0x7F800000#32
  let main_v13 : FVec F S768x512 .f32 := broadcastInDim S768x512 ![] bcast_S_S768x512 main_cst_2
  let main_v14 : IVec S768x512 1 := cmpf .olt main_v12 main_v13
  let main_c_3 : IVec S_ 1 := constantI S_ 1 1#1
  let main_v15 : IVec S_ 1 := (fun x v => Host.reduce IntOp.andi x v reducesTo_S768x512_S_d0_1 h_S_) main_v14 main_c_3
  let main_v16 : IVec S_ 1 := andi main_v10 main_v15
  main_v16
-- ==== Pre_finite_ReferenceIdeal.lean ====
abbrev S2x256x768 : Shape := ⟨3, ![2, 256, 768]⟩
abbrev S768x8192 : Shape := ⟨2, ![768, 8192]⟩
abbrev S8192x768 : Shape := ⟨2, ![8192, 768]⟩
abbrev S_ : Shape := ⟨0, ![]⟩

class Facts : Prop where
  bitsLt_bf16_f32 : FTy.bits .bf16 < FTy.bits .f32
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x8192 : S_.BroadcastsInDim S768x8192 (![] : Fin 0 → Fin S768x8192.rank)
  reducesTo_S768x8192_S_d0_1 : S768x8192.ReducesTo [0, 1] S_

variable [Facts]

def fn {F : FTy → Type} [FloatOps F] (main_arg0 : FVec F S2x256x768 .bf16) (main_arg1 : FVec F S768x8192 .bf16) (main_arg2 : FVec F S768x8192 .bf16) (main_arg3 : FVec F S768x8192 .bf16) (main_arg4 : FVec F S8192x768 .bf16) : IVec S_ 1 :=
  let main_v0 : FVec F S2x256x768 .f32 := (extf .f32 · bitsLt_bf16_f32) main_arg0
  let main_v1 : FVec F S2x256x768 .f32 := Host.absf main_v0
  let main_cst : FVec F S_ .f32 := constant S_ .f32 0x7F800000#32
  let main_v2 : FVec F S2x256x768 .f32 := broadcastInDim S2x256x768 ![] bcast_S_S2x256x768 main_cst
  let main_v3 : IVec S2x256x768 1 := cmpf .olt main_v1 main_v2
  let main_c : IVec S_ 1 := constantI S_ 1 1#1
  let main_v4 : IVec S_ 1 := (fun x v => Host.reduce IntOp.andi x v reducesTo_S2x256x768_S_d0_1_2 h_S_) main_v3 main_c
  let main_v5 : FVec F S768x8192 .f32 := (extf .f32 · bitsLt_bf16_f32) main_arg1
  let main_v6 : FVec F S768x8192 .f32 := Host.absf main_v5
  let main_cst_0 : FVec F S_ .f32 := constant S_ .f32 0x7F800000#32
  let main_v7 : FVec F S768x8192 .f32 := broadcastInDim S768x8192 ![] bcast_S_S768x8192 main_cst_0
  let main_v8 : IVec S768x8192 1 := cmpf .olt main_v6 main_v7
  let main_c_1 : IVec S_ 1 := constantI S_ 1 1#1
  let main_v9 : IVec S_ 1 := (fun x v => Host.reduce IntOp.andi x v reducesTo_S768x8192_S_d0_1 h_S_) main_v8 main_c_1
  let main_v10 : IVec S_ 1 := andi main_v4 main_v9
  let main_v11 : FVec F S768x8192 .f32 := (extf .f32 · bitsLt_bf16_f32) main_arg2
  let main_v12 : FVec F S768x8192 .f32 := Host.absf main_v11
  let main_cst_2 : FVec F S_ .f32 := constant S_ .f32 0x7F800000#32
  let main_v13 : FVec F S768x8192 .f32 := broadcastInDim S768x8192 ![] bcast_S_S768x8192 main_cst_2
  let main_v14 : IVec S768x8192 1 := cmpf .olt main_v12 main_v13
  let main_c_3 : IVec S_ 1 := constantI S_ 1 1#1
  let main_v15 : IVec S_ 1 := (fun x v => Host.reduce IntOp.andi x v reducesTo_S768x8192_S_d0_1 h_S_) main_v14 main_c_3
  let main_v16 : IVec S_ 1 := andi main_v10 main_v15
  main_v16
-- ==== Kernel.lean ====
abbrev S2x256x768 : Shape := ⟨3, ![2, 256, 768]⟩
abbrev S768x512 : Shape := ⟨2, ![768, 512]⟩
abbrev S512x768 : Shape := ⟨2, ![512, 768]⟩
abbrev S512x512 : Shape := ⟨2, ![512, 512]⟩
abbrev S16x32x768 : Shape := ⟨3, ![16, 32, 768]⟩
abbrev S16 : Shape := ⟨1, ![16]⟩
abbrev S1x256x768 : Shape := ⟨3, ![1, 256, 768]⟩
abbrev S256x768 : Shape := ⟨2, ![256, 768]⟩
abbrev S256x512 : Shape := ⟨2, ![256, 512]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S_ : Shape := ⟨0, ![]⟩
abbrev S1 : Shape := ⟨1, ![1]⟩
abbrev S1x32x768 : Shape := ⟨3, ![1, 32, 768]⟩
abbrev S32x768 : Shape := ⟨2, ![32, 768]⟩

abbrev nBuf : Space → Nat
  | .hbm => 6
  | .vmem => 9
  | .smem => 0
  | _ => 0

abbrev bufTy : (tb : Table) → Fin (tcTables nBuf tb) → BufTy
  | .hbm, ⟨0, _⟩ => ⟨S2x256x768, .bf16⟩
  | .hbm, ⟨1, _⟩ => ⟨S768x512, .bf16⟩
  | .hbm, ⟨2, _⟩ => ⟨S768x512, .bf16⟩
  | .hbm, ⟨3, _⟩ => ⟨S768x512, .bf16⟩
  | .hbm, ⟨4, _⟩ => ⟨S512x768, .bf16⟩
  | .hbm, ⟨5, _⟩ => ⟨S2x256x768, .bf16⟩
  | .local _ .vmem, ⟨0, _⟩ => ⟨S2x256x768, .bf16⟩
  | .local _ .vmem, ⟨1, _⟩ => ⟨S768x512, .bf16⟩
  | .local _ .vmem, ⟨2, _⟩ => ⟨S512x768, .bf16⟩
  | .local _ .vmem, ⟨3, _⟩ => ⟨S768x512, .bf16⟩
  | .local _ .vmem, ⟨4, _⟩ => ⟨S768x512, .bf16⟩
  | .local _ .vmem, ⟨5, _⟩ => ⟨S2x256x768, .bf16⟩
  | .local _ .vmem, ⟨6, _⟩ => ⟨S512x512, .bf16⟩
  | .local _ .vmem, ⟨7, _⟩ => ⟨S512x768, .bf16⟩
  | .local _ .vmem, ⟨8, _⟩ => ⟨S16x32x768, .bf16⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_59 : BitVec 32 := 1#32
  let v164 : BitVec 32 := Scalar.addi v2 c1_i32_59
  let c16_i32_60 : BitVec 32 := 16#32
  let v165 : BitVec 32 := Scalar.remsi v164 c16_i32_60
  let c1_i32_62 : BitVec 32 := 1#32
  let v166 : BitVec 32 := Scalar.muli v165 c1_i32_62
  let v167 : BitVec 32 := Scalar.addi c0_i32 v166
  v167.toNat
def k0_dev2 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v168 : BitVec 32 := Scalar.addi v2 c2_i32
  let c16_i32_63 : BitVec 32 := 16#32
  let v169 : BitVec 32 := Scalar.remsi v168 c16_i32_63
  let c1_i32_65 : BitVec 32 := 1#32
  let v170 : BitVec 32 := Scalar.muli v169 c1_i32_65
  let v171 : BitVec 32 := Scalar.addi c0_i32_66 v170
  v171.toNat
def k0_dev3 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v172 : BitVec 32 := Scalar.addi v2 c3_i32
  let c16_i32_67 : BitVec 32 := 16#32
  let v173 : BitVec 32 := Scalar.remsi v172 c16_i32_67
  let c1_i32_69 : BitVec 32 := 1#32
  let v174 : BitVec 32 := Scalar.muli v173 c1_i32_69
  let v175 : BitVec 32 := Scalar.addi c0_i32_70 v174
  v175.toNat
def k0_dev4 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v176 : BitVec 32 := Scalar.addi v2 c4_i32
  let c16_i32_71 : BitVec 32 := 16#32
  let v177 : BitVec 32 := Scalar.remsi v176 c16_i32_71
  let c1_i32_73 : BitVec 32 := 1#32
  let v178 : BitVec 32 := Scalar.muli v177 c1_i32_73
  let v179 : BitVec 32 := Scalar.addi c0_i32_74 v178
  v179.toNat
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v180 : BitVec 32 := Scalar.addi v2 c5_i32
  let c16_i32_75 : BitVec 32 := 16#32
  let v181 : BitVec 32 := Scalar.remsi v180 c16_i32_75
  let c1_i32_77 : BitVec 32 := 1#32
  let v182 : BitVec 32 := Scalar.muli v181 c1_i32_77
  let v183 : BitVec 32 := Scalar.addi c0_i32_78 v182
  v183.toNat
def k0_dev6 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v184 : BitVec 32 := Scalar.addi v2 c6_i32
  let c16_i32_79 : BitVec 32 := 16#32
  let v185 : BitVec 32 := Scalar.remsi v184 c16_i32_79
  let c1_i32_81 : BitVec 32 := 1#32
  let v186 : BitVec 32 := Scalar.muli v185 c1_i32_81
  let v187 : BitVec 32 := Scalar.addi c0_i32_82 v186
  v187.toNat
def k0_dev7 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v188 : BitVec 32 := Scalar.addi v2 c7_i32
  let c16_i32_83 : BitVec 32 := 16#32
  let v189 : BitVec 32 := Scalar.remsi v188 c16_i32_83
  let c1_i32_85 : BitVec 32 := 1#32
  let v190 : BitVec 32 := Scalar.muli v189 c1_i32_85
  let v191 : BitVec 32 := Scalar.addi c0_i32_86 v190
  v191.toNat
def k0_dev8 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v192 : BitVec 32 := Scalar.addi v2 c8_i32
  let c16_i32_87 : BitVec 32 := 16#32
  let v193 : BitVec 32 := Scalar.remsi v192 c16_i32_87
  let c1_i32_89 : BitVec 32 := 1#32
  let v194 : BitVec 32 := Scalar.muli v193 c1_i32_89
  let v195 : BitVec 32 := Scalar.addi c0_i32_90 v194
  v195.toNat
def k0_dev9 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v196 : BitVec 32 := Scalar.addi v2 c9_i32
  let c16_i32_91 : BitVec 32 := 16#32
  let v197 : BitVec 32 := Scalar.remsi v196 c16_i32_91
  let c1_i32_93 : BitVec 32 := 1#32
  let v198 : BitVec 32 := Scalar.muli v197 c1_i32_93
  let v199 : BitVec 32 := Scalar.addi c0_i32_94 v198
  v199.toNat
def k0_dev10 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v200 : BitVec 32 := Scalar.addi v2 c10_i32
  let c16_i32_95 : BitVec 32 := 16#32
  let v201 : BitVec 32 := Scalar.remsi v200 c16_i32_95
  let c1_i32_97 : BitVec 32 := 1#32
  let v202 : BitVec 32 := Scalar.muli v201 c1_i32_97
  let v203 : BitVec 32 := Scalar.addi c0_i32_98 v202
  v203.toNat
def k0_dev11 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v204 : BitVec 32 := Scalar.addi v2 c11_i32
  let c16_i32_99 : BitVec 32 := 16#32
  let v205 : BitVec 32 := Scalar.remsi v204 c16_i32_99
  let c1_i32_101 : BitVec 32 := 1#32
  let v206 : BitVec 32 := Scalar.muli v205 c1_i32_101
  let v207 : BitVec 32 := Scalar.addi c0_i32_102 v206
  v207.toNat
def k0_dev12 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v208 : BitVec 32 := Scalar.addi v2 c12_i32
  let c16_i32_103 : BitVec 32 := 16#32
  let v209 : BitVec 32 := Scalar.remsi v208 c16_i32_103
  let c1_i32_105 : BitVec 32 := 1#32
  let v210 : BitVec 32 := Scalar.muli v209 c1_i32_105
  let v211 : BitVec 32 := Scalar.addi c0_i32_106 v210
  v211.toNat
def k0_dev13 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v212 : BitVec 32 := Scalar.addi v2 c13_i32
  let c16_i32_107 : BitVec 32 := 16#32
  let v213 : BitVec 32 := Scalar.remsi v212 c16_i32_107
  let c1_i32_109 : BitVec 32 := 1#32
  let v214 : BitVec 32 := Scalar.muli v213 c1_i32_109
  let v215 : BitVec 32 := Scalar.addi c0_i32_110 v214
  v215.toNat
def k0_dev14 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v216 : BitVec 32 := Scalar.addi v2 c14_i32
  let c16_i32_111 : BitVec 32 := 16#32
  let v217 : BitVec 32 := Scalar.remsi v216 c16_i32_111
  let c1_i32_113 : BitVec 32 := 1#32
  let v218 : BitVec 32 := Scalar.muli v217 c1_i32_113
  let v219 : BitVec 32 := Scalar.addi c0_i32_114 v218
  v219.toNat
def k0_dev15 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v220 : BitVec 32 := Scalar.addi v2 c15_i32
  let c16_i32_115 : BitVec 32 := 16#32
  let v221 : BitVec 32 := Scalar.remsi v220 c16_i32_115
  let c1_i32_117 : BitVec 32 := 1#32
  let v222 : BitVec 32 := Scalar.muli v221 c1_i32_117
  let v223 : BitVec 32 := Scalar.addi c0_i32_118 v222
  v223.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_120 : BitVec 32 := 1#32
  let v224 : BitVec 32 := Scalar.addi v2 c1_i32_120
  let c16_i32_121 : BitVec 32 := 16#32
  let v225 : BitVec 32 := Scalar.remsi v224 c16_i32_121
  let c8_i32_150 : BitVec 32 := 8#32
  let v254 : BitVec 1 := Scalar.cmpi .slt v225 c8_i32_150
  let v255 : BitVec 32 := Scalar.extui v254
  let c0_i32_151 : BitVec 32 := 0#32
  let v256 : BitVec 1 := Scalar.cmpi .ne v255 c0_i32_151
  v256

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_120 : BitVec 32 := 1#32
  let v224 : BitVec 32 := Scalar.addi v2 c1_i32_120
  let c16_i32_121 : BitVec 32 := 16#32
  let v225 : BitVec 32 := Scalar.remsi v224 c16_i32_121
  let c32_i32_821 : BitVec 32 := 32#32
  let v1144 : BitVec 32 := Scalar.muli v225 c32_i32_821
  let c0_i32_829 : BitVec 32 := 0#32
  ![v1144.toNat, 0]
def k0_dev16 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_120 : BitVec 32 := 1#32
  let v224 : BitVec 32 := Scalar.addi v2 c1_i32_120
  let c16_i32_121 : BitVec 32 := 16#32
  let v225 : BitVec 32 := Scalar.remsi v224 c16_i32_121
  let c1_i32_825 : BitVec 32 := 1#32
  let v1145 : BitVec 32 := Scalar.muli v225 c1_i32_825
  let v1146 : BitVec 32 := Scalar.addi c0_i32_826 v1145
  v1146.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_122 : BitVec 32 := 2#32
  let v226 : BitVec 32 := Scalar.addi v2 c2_i32_122
  let c16_i32_123 : BitVec 32 := 16#32
  let v227 : BitVec 32 := Scalar.remsi v226 c16_i32_123
  let c8_i32_152 : BitVec 32 := 8#32
  let v257 : BitVec 1 := Scalar.cmpi .slt v227 c8_i32_152
  let v258 : BitVec 32 := Scalar.extui v257
  let c0_i32_153 : BitVec 32 := 0#32
  let v259 : BitVec 1 := Scalar.cmpi .ne v258 c0_i32_153
  v259

def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_122 : BitVec 32 := 2#32
  let v226 : BitVec 32 := Scalar.addi v2 c2_i32_122
  let c16_i32_123 : BitVec 32 := 16#32
  let v227 : BitVec 32 := Scalar.remsi v226 c16_i32_123
  let c32_i32_821 : BitVec 32 := 32#32
  let v1144 : BitVec 32 := Scalar.muli v227 c32_i32_821
  let c0_i32_829 : BitVec 32 := 0#32
  ![v1144.toNat, 0]
def k0_dev17 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_122 : BitVec 32 := 2#32
  let v226 : BitVec 32 := Scalar.addi v2 c2_i32_122
  let c16_i32_123 : BitVec 32 := 16#32
  let v227 : BitVec 32 := Scalar.remsi v226 c16_i32_123
  let c1_i32_825 : BitVec 32 := 1#32
  let v1145 : BitVec 32 := Scalar.muli v227 c1_i32_825
  let v1146 : BitVec 32 := Scalar.addi c0_i32_826 v1145
  v1146.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_124 : BitVec 32 := 3#32
  let v228 : BitVec 32 := Scalar.addi v2 c3_i32_124
  let c16_i32_125 : BitVec 32 := 16#32
  let v229 : BitVec 32 := Scalar.remsi v228 c16_i32_125
  let c8_i32_154 : BitVec 32 := 8#32
  let v260 : BitVec 1 := Scalar.cmpi .slt v229 c8_i32_154
  let v261 : BitVec 32 := Scalar.extui v260
  let c0_i32_155 : BitVec 32 := 0#32
  let v262 : BitVec 1 := Scalar.cmpi .ne v261 c0_i32_155
  v262

def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_124 : BitVec 32 := 3#32
  let v228 : BitVec 32 := Scalar.addi v2 c3_i32_124
  let c16_i32_125 : BitVec 32 := 16#32
  let v229 : BitVec 32 := Scalar.remsi v228 c16_i32_125
  let c32_i32_821 : BitVec 32 := 32#32
  let v1144 : BitVec 32 := Scalar.muli v229 c32_i32_821
  let c0_i32_829 : BitVec 32 := 0#32
  ![v1144.toNat, 0]
def k0_dev18 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_124 : BitVec 32 := 3#32
  let v228 : BitVec 32 := Scalar.addi v2 c3_i32_124
  let c16_i32_125 : BitVec 32 := 16#32
  let v229 : BitVec 32 := Scalar.remsi v228 c16_i32_125
  let c1_i32_825 : BitVec 32 := 1#32
  let v1145 : BitVec 32 := Scalar.muli v229 c1_i32_825
  let v1146 : BitVec 32 := Scalar.addi c0_i32_826 v1145
  v1146.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_126 : BitVec 32 := 4#32
  let v230 : BitVec 32 := Scalar.addi v2 c4_i32_126
  let c16_i32_127 : BitVec 32 := 16#32
  let v231 : BitVec 32 := Scalar.remsi v230 c16_i32_127
  let c8_i32_156 : BitVec 32 := 8#32
  let v263 : BitVec 1 := Scalar.cmpi .slt v231 c8_i32_156
  let v264 : BitVec 32 := Scalar.extui v263
  let c0_i32_157 : BitVec 32 := 0#32
  let v265 : BitVec 1 := Scalar.cmpi .ne v264 c0_i32_157
  v265

def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_126 : BitVec 32 := 4#32
  let v230 : BitVec 32 := Scalar.addi v2 c4_i32_126
  let c16_i32_127 : BitVec 32 := 16#32
  let v231 : BitVec 32 := Scalar.remsi v230 c16_i32_127
  let c32_i32_821 : BitVec 32 := 32#32
  let v1144 : BitVec 32 := Scalar.muli v231 c32_i32_821
  let c0_i32_829 : BitVec 32 := 0#32
  ![v1144.toNat, 0]
def k0_dev19 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_126 : BitVec 32 := 4#32
  let v230 : BitVec 32 := Scalar.addi v2 c4_i32_126
  let c16_i32_127 : BitVec 32 := 16#32
  let v231 : BitVec 32 := Scalar.remsi v230 c16_i32_127
  let c1_i32_825 : BitVec 32 := 1#32
  let v1145 : BitVec 32 := Scalar.muli v231 c1_i32_825
  let v1146 : BitVec 32 := Scalar.addi c0_i32_826 v1145
  v1146.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_128 : BitVec 32 := 5#32
  let v232 : BitVec 32 := Scalar.addi v2 c5_i32_128
  let c16_i32_129 : BitVec 32 := 16#32
  let v233 : BitVec 32 := Scalar.remsi v232 c16_i32_129
  let c8_i32_158 : BitVec 32 := 8#32
  let v266 : BitVec 1 := Scalar.cmpi .slt v233 c8_i32_158
  let v267 : BitVec 32 := Scalar.extui v266
  let c0_i32_159 : BitVec 32 := 0#32
  let v268 : BitVec 1 := Scalar.cmpi .ne v267 c0_i32_159
  v268

def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_128 : BitVec 32 := 5#32
  let v232 : BitVec 32 := Scalar.addi v2 c5_i32_128
  let c16_i32_129 : BitVec 32 := 16#32
  let v233 : BitVec 32 := Scalar.remsi v232 c16_i32_129
  let c32_i32_821 : BitVec 32 := 32#32
  let v1144 : BitVec 32 := Scalar.muli v233 c32_i32_821
  let c0_i32_829 : BitVec 32 := 0#32
  ![v1144.toNat, 0]
def k0_dev20 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_128 : BitVec 32 := 5#32
  let v232 : BitVec 32 := Scalar.addi v2 c5_i32_128
  let c16_i32_129 : BitVec 32 := 16#32
  let v233 : BitVec 32 := Scalar.remsi v232 c16_i32_129
  let c1_i32_825 : BitVec 32 := 1#32
  let v1145 : BitVec 32 := Scalar.muli v233 c1_i32_825
  let v1146 : BitVec 32 := Scalar.addi c0_i32_826 v1145
  v1146.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_130 : BitVec 32 := 6#32
  let v234 : BitVec 32 := Scalar.addi v2 c6_i32_130
  let c16_i32_131 : BitVec 32 := 16#32
  let v235 : BitVec 32 := Scalar.remsi v234 c16_i32_131
  let c8_i32_160 : BitVec 32 := 8#32
  let v269 : BitVec 1 := Scalar.cmpi .slt v235 c8_i32_160
  let v270 : BitVec 32 := Scalar.extui v269
  let c0_i32_161 : BitVec 32 := 0#32
  let v271 : BitVec 1 := Scalar.cmpi .ne v270 c0_i32_161
  v271

def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_130 : BitVec 32 := 6#32
  let v234 : BitVec 32 := Scalar.addi v2 c6_i32_130
  let c16_i32_131 : BitVec 32 := 16#32
  let v235 : BitVec 32 := Scalar.remsi v234 c16_i32_131
  let c32_i32_821 : BitVec 32 := 32#32
  let v1144 : BitVec 32 := Scalar.muli v235 c32_i32_821
  let c0_i32_829 : BitVec 32 := 0#32
  ![v1144.toNat, 0]
def k0_dev21 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_130 : BitVec 32 := 6#32
  let v234 : BitVec 32 := Scalar.addi v2 c6_i32_130
  let c16_i32_131 : BitVec 32 := 16#32
  let v235 : BitVec 32 := Scalar.remsi v234 c16_i32_131
  let c1_i32_825 : BitVec 32 := 1#32
  let v1145 : BitVec 32 := Scalar.muli v235 c1_i32_825
  let v1146 : BitVec 32 := Scalar.addi c0_i32_826 v1145
  v1146.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_132 : BitVec 32 := 7#32
  let v236 : BitVec 32 := Scalar.addi v2 c7_i32_132
  let c16_i32_133 : BitVec 32 := 16#32
  let v237 : BitVec 32 := Scalar.remsi v236 c16_i32_133
  let c8_i32_162 : BitVec 32 := 8#32
  let v272 : BitVec 1 := Scalar.cmpi .slt v237 c8_i32_162
  let v273 : BitVec 32 := Scalar.extui v272
  let c0_i32_163 : BitVec 32 := 0#32
  let v274 : BitVec 1 := Scalar.cmpi .ne v273 c0_i32_163
  v274

def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_132 : BitVec 32 := 7#32
  let v236 : BitVec 32 := Scalar.addi v2 c7_i32_132
  let c16_i32_133 : BitVec 32 := 16#32
  let v237 : BitVec 32 := Scalar.remsi v236 c16_i32_133
  let c32_i32_821 : BitVec 32 := 32#32
  let v1144 : BitVec 32 := Scalar.muli v237 c32_i32_821
  let c0_i32_829 : BitVec 32 := 0#32
  ![v1144.toNat, 0]
def k0_dev22 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_132 : BitVec 32 := 7#32
  let v236 : BitVec 32 := Scalar.addi v2 c7_i32_132
  let c16_i32_133 : BitVec 32 := 16#32
  let v237 : BitVec 32 := Scalar.remsi v236 c16_i32_133
  let c1_i32_825 : BitVec 32 := 1#32
  let v1145 : BitVec 32 := Scalar.muli v237 c1_i32_825
  let v1146 : BitVec 32 := Scalar.addi c0_i32_826 v1145
  v1146.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_134 : BitVec 32 := 8#32
  let v238 : BitVec 32 := Scalar.addi v2 c8_i32_134
  let c16_i32_135 : BitVec 32 := 16#32
  let v239 : BitVec 32 := Scalar.remsi v238 c16_i32_135
  let c8_i32_164 : BitVec 32 := 8#32
  let v275 : BitVec 1 := Scalar.cmpi .slt v239 c8_i32_164
  let v276 : BitVec 32 := Scalar.extui v275
  let c0_i32_165 : BitVec 32 := 0#32
  let v277 : BitVec 1 := Scalar.cmpi .ne v276 c0_i32_165
  v277

def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_134 : BitVec 32 := 8#32
  let v238 : BitVec 32 := Scalar.addi v2 c8_i32_134
  let c16_i32_135 : BitVec 32 := 16#32
  let v239 : BitVec 32 := Scalar.remsi v238 c16_i32_135
  let c32_i32_821 : BitVec 32 := 32#32
  let v1144 : BitVec 32 := Scalar.muli v239 c32_i32_821
  let c0_i32_829 : BitVec 32 := 0#32
  ![v1144.toNat, 0]
def k0_dev23 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_134 : BitVec 32 := 8#32
  let v238 : BitVec 32 := Scalar.addi v2 c8_i32_134
  let c16_i32_135 : BitVec 32 := 16#32
  let v239 : BitVec 32 := Scalar.remsi v238 c16_i32_135
  let c1_i32_825 : BitVec 32 := 1#32
  let v1145 : BitVec 32 := Scalar.muli v239 c1_i32_825
  let v1146 : BitVec 32 := Scalar.addi c0_i32_826 v1145
  v1146.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_136 : BitVec 32 := 9#32
  let v240 : BitVec 32 := Scalar.addi v2 c9_i32_136
  let c16_i32_137 : BitVec 32 := 16#32
  let v241 : BitVec 32 := Scalar.remsi v240 c16_i32_137
  let c8_i32_166 : BitVec 32 := 8#32
  let v278 : BitVec 1 := Scalar.cmpi .slt v241 c8_i32_166
  let v279 : BitVec 32 := Scalar.extui v278
  let c0_i32_167 : BitVec 32 := 0#32
  let v280 : BitVec 1 := Scalar.cmpi .ne v279 c0_i32_167
  v280

def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_136 : BitVec 32 := 9#32
  let v240 : BitVec 32 := Scalar.addi v2 c9_i32_136
  let c16_i32_137 : BitVec 32 := 16#32
  let v241 : BitVec 32 := Scalar.remsi v240 c16_i32_137
  let c32_i32_821 : BitVec 32 := 32#32
  let v1144 : BitVec 32 := Scalar.muli v241 c32_i32_821
  let c0_i32_829 : BitVec 32 := 0#32
  ![v1144.toNat, 0]
def k0_dev24 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_136 : BitVec 32 := 9#32
  let v240 : BitVec 32 := Scalar.addi v2 c9_i32_136
  let c16_i32_137 : BitVec 32 := 16#32
  let v241 : BitVec 32 := Scalar.remsi v240 c16_i32_137
  let c1_i32_825 : BitVec 32 := 1#32
  let v1145 : BitVec 32 := Scalar.muli v241 c1_i32_825
  let v1146 : BitVec 32 := Scalar.addi c0_i32_826 v1145
  v1146.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_138 : BitVec 32 := 10#32
  let v242 : BitVec 32 := Scalar.addi v2 c10_i32_138
  let c16_i32_139 : BitVec 32 := 16#32
  let v243 : BitVec 32 := Scalar.remsi v242 c16_i32_139
  let c8_i32_168 : BitVec 32 := 8#32
  let v281 : BitVec 1 := Scalar.cmpi .slt v243 c8_i32_168
  let v282 : BitVec 32 := Scalar.extui v281
  let c0_i32_169 : BitVec 32 := 0#32
  let v283 : BitVec 1 := Scalar.cmpi .ne v282 c0_i32_169
  v283

def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_138 : BitVec 32 := 10#32
  let v242 : BitVec 32 := Scalar.addi v2 c10_i32_138
  let c16_i32_139 : BitVec 32 := 16#32
  let v243 : BitVec 32 := Scalar.remsi v242 c16_i32_139
  let c32_i32_821 : BitVec 32 := 32#32
  let v1144 : BitVec 32 := Scalar.muli v243 c32_i32_821
  let c0_i32_829 : BitVec 32 := 0#32
  ![v1144.toNat, 0]
def k0_dev25 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_138 : BitVec 32 := 10#32
  let v242 : BitVec 32 := Scalar.addi v2 c10_i32_138
  let c16_i32_139 : BitVec 32 := 16#32
  let v243 : BitVec 32 := Scalar.remsi v242 c16_i32_139
  let c1_i32_825 : BitVec 32 := 1#32
  let v1145 : BitVec 32 := Scalar.muli v243 c1_i32_825
  let v1146 : BitVec 32 := Scalar.addi c0_i32_826 v1145
  v1146.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_140 : BitVec 32 := 11#32
  let v244 : BitVec 32 := Scalar.addi v2 c11_i32_140
  let c16_i32_141 : BitVec 32 := 16#32
  let v245 : BitVec 32 := Scalar.remsi v244 c16_i32_141
  let c8_i32_170 : BitVec 32 := 8#32
  let v284 : BitVec 1 := Scalar.cmpi .slt v245 c8_i32_170
  let v285 : BitVec 32 := Scalar.extui v284
  let c0_i32_171 : BitVec 32 := 0#32
  let v286 : BitVec 1 := Scalar.cmpi .ne v285 c0_i32_171
  v286

def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_140 : BitVec 32 := 11#32
  let v244 : BitVec 32 := Scalar.addi v2 c11_i32_140
  let c16_i32_141 : BitVec 32 := 16#32
  let v245 : BitVec 32 := Scalar.remsi v244 c16_i32_141
  let c32_i32_821 : BitVec 32 := 32#32
  let v1144 : BitVec 32 := Scalar.muli v245 c32_i32_821
  let c0_i32_829 : BitVec 32 := 0#32
  ![v1144.toNat, 0]
def k0_dev26 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_140 : BitVec 32 := 11#32
  let v244 : BitVec 32 := Scalar.addi v2 c11_i32_140
  let c16_i32_141 : BitVec 32 := 16#32
  let v245 : BitVec 32 := Scalar.remsi v244 c16_i32_141
  let c1_i32_825 : BitVec 32 := 1#32
  let v1145 : BitVec 32 := Scalar.muli v245 c1_i32_825
  let v1146 : BitVec 32 := Scalar.addi c0_i32_826 v1145
  v1146.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_142 : BitVec 32 := 12#32
  let v246 : BitVec 32 := Scalar.addi v2 c12_i32_142
  let c16_i32_143 : BitVec 32 := 16#32
  let v247 : BitVec 32 := Scalar.remsi v246 c16_i32_143
  let c8_i32_172 : BitVec 32 := 8#32
  let v287 : BitVec 1 := Scalar.cmpi .slt v247 c8_i32_172
  let v288 : BitVec 32 := Scalar.extui v287
  let c0_i32_173 : BitVec 32 := 0#32
  let v289 : BitVec 1 := Scalar.cmpi .ne v288 c0_i32_173
  v289

def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_142 : BitVec 32 := 12#32
  let v246 : BitVec 32 := Scalar.addi v2 c12_i32_142
  let c16_i32_143 : BitVec 32 := 16#32
  let v247 : BitVec 32 := Scalar.remsi v246 c16_i32_143
  let c32_i32_821 : BitVec 32 := 32#32
  let v1144 : BitVec 32 := Scalar.muli v247 c32_i32_821
  let c0_i32_829 : BitVec 32 := 0#32
  ![v1144.toNat, 0]
def k0_dev27 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_142 : BitVec 32 := 12#32
  let v246 : BitVec 32 := Scalar.addi v2 c12_i32_142
  let c16_i32_143 : BitVec 32 := 16#32
  let v247 : BitVec 32 := Scalar.remsi v246 c16_i32_143
  let c1_i32_825 : BitVec 32 := 1#32
  let v1145 : BitVec 32 := Scalar.muli v247 c1_i32_825
  let v1146 : BitVec 32 := Scalar.addi c0_i32_826 v1145
  v1146.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_144 : BitVec 32 := 13#32
  let v248 : BitVec 32 := Scalar.addi v2 c13_i32_144
  let c16_i32_145 : BitVec 32 := 16#32
  let v249 : BitVec 32 := Scalar.remsi v248 c16_i32_145
  let c8_i32_174 : BitVec 32 := 8#32
  let v290 : BitVec 1 := Scalar.cmpi .slt v249 c8_i32_174
  let v291 : BitVec 32 := Scalar.extui v290
  let c0_i32_175 : BitVec 32 := 0#32
  let v292 : BitVec 1 := Scalar.cmpi .ne v291 c0_i32_175
  v292

def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_144 : BitVec 32 := 13#32
  let v248 : BitVec 32 := Scalar.addi v2 c13_i32_144
  let c16_i32_145 : BitVec 32 := 16#32
  let v249 : BitVec 32 := Scalar.remsi v248 c16_i32_145
  let c32_i32_821 : BitVec 32 := 32#32
  let v1144 : BitVec 32 := Scalar.muli v249 c32_i32_821
  let c0_i32_829 : BitVec 32 := 0#32
  ![v1144.toNat, 0]
def k0_dev28 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_144 : BitVec 32 := 13#32
  let v248 : BitVec 32 := Scalar.addi v2 c13_i32_144
  let c16_i32_145 : BitVec 32 := 16#32
  let v249 : BitVec 32 := Scalar.remsi v248 c16_i32_145
  let c1_i32_825 : BitVec 32 := 1#32
  let v1145 : BitVec 32 := Scalar.muli v249 c1_i32_825
  let v1146 : BitVec 32 := Scalar.addi c0_i32_826 v1145
  v1146.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_146 : BitVec 32 := 14#32
  let v250 : BitVec 32 := Scalar.addi v2 c14_i32_146
  let c16_i32_147 : BitVec 32 := 16#32
  let v251 : BitVec 32 := Scalar.remsi v250 c16_i32_147
  let c8_i32_176 : BitVec 32 := 8#32
  let v293 : BitVec 1 := Scalar.cmpi .slt v251 c8_i32_176
  let v294 : BitVec 32 := Scalar.extui v293
  let c0_i32_177 : BitVec 32 := 0#32
  let v295 : BitVec 1 := Scalar.cmpi .ne v294 c0_i32_177
  v295

def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_146 : BitVec 32 := 14#32
  let v250 : BitVec 32 := Scalar.addi v2 c14_i32_146
  let c16_i32_147 : BitVec 32 := 16#32
  let v251 : BitVec 32 := Scalar.remsi v250 c16_i32_147
  let c32_i32_821 : BitVec 32 := 32#32
  let v1144 : BitVec 32 := Scalar.muli v251 c32_i32_821
  let c0_i32_829 : BitVec 32 := 0#32
  ![v1144.toNat, 0]
def k0_dev29 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_146 : BitVec 32 := 14#32
  let v250 : BitVec 32 := Scalar.addi v2 c14_i32_146
  let c16_i32_147 : BitVec 32 := 16#32
  let v251 : BitVec 32 := Scalar.remsi v250 c16_i32_147
  let c1_i32_825 : BitVec 32 := 1#32
  let v1145 : BitVec 32 := Scalar.muli v251 c1_i32_825
  let v1146 : BitVec 32 := Scalar.addi c0_i32_826 v1145
  v1146.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_148 : BitVec 32 := 15#32
  let v252 : BitVec 32 := Scalar.addi v2 c15_i32_148
  let c16_i32_149 : BitVec 32 := 16#32
  let v253 : BitVec 32 := Scalar.remsi v252 c16_i32_149
  let c8_i32_178 : BitVec 32 := 8#32
  let v296 : BitVec 1 := Scalar.cmpi .slt v253 c8_i32_178
  let v297 : BitVec 32 := Scalar.extui v296
  let c0_i32_179 : BitVec 32 := 0#32
  let v298 : BitVec 1 := Scalar.cmpi .ne v297 c0_i32_179
  v298

def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_148 : BitVec 32 := 15#32
  let v252 : BitVec 32 := Scalar.addi v2 c15_i32_148
  let c16_i32_149 : BitVec 32 := 16#32
  let v253 : BitVec 32 := Scalar.remsi v252 c16_i32_149
  let c32_i32_821 : BitVec 32 := 32#32
  let v1144 : BitVec 32 := Scalar.muli v253 c32_i32_821
  let c0_i32_829 : BitVec 32 := 0#32
  ![v1144.toNat, 0]
def k0_dev30 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_148 : BitVec 32 := 15#32
  let v252 : BitVec 32 := Scalar.addi v2 c15_i32_148
  let c16_i32_149 : BitVec 32 := 16#32
  let v253 : BitVec 32 := Scalar.remsi v252 c16_i32_149
  let c1_i32_825 : BitVec 32 := 1#32
  let v1145 : BitVec 32 := Scalar.muli v253 c1_i32_825
  let v1146 : BitVec 32 := Scalar.addi c0_i32_826 v1145
  v1146.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_120 : BitVec 32 := 1#32
  let v224 : BitVec 32 := Scalar.addi v2 c1_i32_120
  let c16_i32_121 : BitVec 32 := 16#32
  let v225 : BitVec 32 := Scalar.remsi v224 c16_i32_121
  let c8_i32_239 : BitVec 32 := 8#32
  let v451 : BitVec 1 := Scalar.cmpi .sge v225 c8_i32_239
  let v452 : BitVec 32 := Scalar.extui v451
  let c0_i32_240 : BitVec 32 := 0#32
  let v453 : BitVec 1 := Scalar.cmpi .ne v452 c0_i32_240
  v453

def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_120 : BitVec 32 := 1#32
  let v224 : BitVec 32 := Scalar.addi v2 c1_i32_120
  let c16_i32_121 : BitVec 32 := 16#32
  let v225 : BitVec 32 := Scalar.remsi v224 c16_i32_121
  let c32_i32_821 : BitVec 32 := 32#32
  let v1144 : BitVec 32 := Scalar.muli v225 c32_i32_821
  let c0_i32_829 : BitVec 32 := 0#32
  ![v1144.toNat, 0]
def k0_dev31 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_120 : BitVec 32 := 1#32
  let v224 : BitVec 32 := Scalar.addi v2 c1_i32_120
  let c16_i32_121 : BitVec 32 := 16#32
  let v225 : BitVec 32 := Scalar.remsi v224 c16_i32_121
  let c1_i32_825 : BitVec 32 := 1#32
  let v1145 : BitVec 32 := Scalar.muli v225 c1_i32_825
  let v1146 : BitVec 32 := Scalar.addi c0_i32_826 v1145
  v1146.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_122 : BitVec 32 := 2#32
  let v226 : BitVec 32 := Scalar.addi v2 c2_i32_122
  let c16_i32_123 : BitVec 32 := 16#32
  let v227 : BitVec 32 := Scalar.remsi v226 c16_i32_123
  let c8_i32_241 : BitVec 32 := 8#32
  let v454 : BitVec 1 := Scalar.cmpi .sge v227 c8_i32_241
  let v455 : BitVec 32 := Scalar.extui v454
  let c0_i32_242 : BitVec 32 := 0#32
  let v456 : BitVec 1 := Scalar.cmpi .ne v455 c0_i32_242
  v456

def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_122 : BitVec 32 := 2#32
  let v226 : BitVec 32 := Scalar.addi v2 c2_i32_122
  let c16_i32_123 : BitVec 32 := 16#32
  let v227 : BitVec 32 := Scalar.remsi v226 c16_i32_123
  let c32_i32_821 : BitVec 32 := 32#32
  let v1144 : BitVec 32 := Scalar.muli v227 c32_i32_821
  let c0_i32_829 : BitVec 32 := 0#32
  ![v1144.toNat, 0]
def k0_dev32 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_122 : BitVec 32 := 2#32
  let v226 : BitVec 32 := Scalar.addi v2 c2_i32_122
  let c16_i32_123 : BitVec 32 := 16#32
  let v227 : BitVec 32 := Scalar.remsi v226 c16_i32_123
  let c1_i32_825 : BitVec 32 := 1#32
  let v1145 : BitVec 32 := Scalar.muli v227 c1_i32_825
  let v1146 : BitVec 32 := Scalar.addi c0_i32_826 v1145
  v1146.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_124 : BitVec 32 := 3#32
  let v228 : BitVec 32 := Scalar.addi v2 c3_i32_124
  let c16_i32_125 : BitVec 32 := 16#32
  let v229 : BitVec 32 := Scalar.remsi v228 c16_i32_125
  let c8_i32_243 : BitVec 32 := 8#32
  let v457 : BitVec 1 := Scalar.cmpi .sge v229 c8_i32_243
  let v458 : BitVec 32 := Scalar.extui v457
  let c0_i32_244 : BitVec 32 := 0#32
  let v459 : BitVec 1 := Scalar.cmpi .ne v458 c0_i32_244
  v459

def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_124 : BitVec 32 := 3#32
  let v228 : BitVec 32 := Scalar.addi v2 c3_i32_124
  let c16_i32_125 : BitVec 32 := 16#32
  let v229 : BitVec 32 := Scalar.remsi v228 c16_i32_125
  let c32_i32_821 : BitVec 32 := 32#32
  let v1144 : BitVec 32 := Scalar.muli v229 c32_i32_821
  let c0_i32_829 : BitVec 32 := 0#32
  ![v1144.toNat, 0]
def k0_dev33 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_124 : BitVec 32 := 3#32
  let v228 : BitVec 32 := Scalar.addi v2 c3_i32_124
  let c16_i32_125 : BitVec 32 := 16#32
  let v229 : BitVec 32 := Scalar.remsi v228 c16_i32_125
  let c1_i32_825 : BitVec 32 := 1#32
  let v1145 : BitVec 32 := Scalar.muli v229 c1_i32_825
  let v1146 : BitVec 32 := Scalar.addi c0_i32_826 v1145
  v1146.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_126 : BitVec 32 := 4#32
  let v230 : BitVec 32 := Scalar.addi v2 c4_i32_126
  let c16_i32_127 : BitVec 32 := 16#32
  let v231 : BitVec 32 := Scalar.remsi v230 c16_i32_127
  let c8_i32_245 : BitVec 32 := 8#32
  let v460 : BitVec 1 := Scalar.cmpi .sge v231 c8_i32_245
  let v461 : BitVec 32 := Scalar.extui v460
  let c0_i32_246 : BitVec 32 := 0#32
  let v462 : BitVec 1 := Scalar.cmpi .ne v461 c0_i32_246
  v462

def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_126 : BitVec 32 := 4#32
  let v230 : BitVec 32 := Scalar.addi v2 c4_i32_126
  let c16_i32_127 : BitVec 32 := 16#32
  let v231 : BitVec 32 := Scalar.remsi v230 c16_i32_127
  let c32_i32_821 : BitVec 32 := 32#32
  let v1144 : BitVec 32 := Scalar.muli v231 c32_i32_821
  let c0_i32_829 : BitVec 32 := 0#32
  ![v1144.toNat, 0]
def k0_dev34 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_126 : BitVec 32 := 4#32
  let v230 : BitVec 32 := Scalar.addi v2 c4_i32_126
  let c16_i32_127 : BitVec 32 := 16#32
  let v231 : BitVec 32 := Scalar.remsi v230 c16_i32_127
  let c1_i32_825 : BitVec 32 := 1#32
  let v1145 : BitVec 32 := Scalar.muli v231 c1_i32_825
  let v1146 : BitVec 32 := Scalar.addi c0_i32_826 v1145
  v1146.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_128 : BitVec 32 := 5#32
  let v232 : BitVec 32 := Scalar.addi v2 c5_i32_128
  let c16_i32_129 : BitVec 32 := 16#32
  let v233 : BitVec 32 := Scalar.remsi v232 c16_i32_129
  let c8_i32_247 : BitVec 32 := 8#32
  let v463 : BitVec 1 := Scalar.cmpi .sge v233 c8_i32_247
  let v464 : BitVec 32 := Scalar.extui v463
  let c0_i32_248 : BitVec 32 := 0#32
  let v465 : BitVec 1 := Scalar.cmpi .ne v464 c0_i32_248
  v465

def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_128 : BitVec 32 := 5#32
  let v232 : BitVec 32 := Scalar.addi v2 c5_i32_128
  let c16_i32_129 : BitVec 32 := 16#32
  let v233 : BitVec 32 := Scalar.remsi v232 c16_i32_129
  let c32_i32_821 : BitVec 32 := 32#32
  let v1144 : BitVec 32 := Scalar.muli v233 c32_i32_821
  let c0_i32_829 : BitVec 32 := 0#32
  ![v1144.toNat, 0]
def k0_dev35 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_128 : BitVec 32 := 5#32
  let v232 : BitVec 32 := Scalar.addi v2 c5_i32_128
  let c16_i32_129 : BitVec 32 := 16#32
  let v233 : BitVec 32 := Scalar.remsi v232 c16_i32_129
  let c1_i32_825 : BitVec 32 := 1#32
  let v1145 : BitVec 32 := Scalar.muli v233 c1_i32_825
  let v1146 : BitVec 32 := Scalar.addi c0_i32_826 v1145
  v1146.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_130 : BitVec 32 := 6#32
  let v234 : BitVec 32 := Scalar.addi v2 c6_i32_130
  let c16_i32_131 : BitVec 32 := 16#32
  let v235 : BitVec 32 := Scalar.remsi v234 c16_i32_131
  let c8_i32_249 : BitVec 32 := 8#32
  let v466 : BitVec 1 := Scalar.cmpi .sge v235 c8_i32_249
  let v467 : BitVec 32 := Scalar.extui v466
  let c0_i32_250 : BitVec 32 := 0#32
  let v468 : BitVec 1 := Scalar.cmpi .ne v467 c0_i32_250
  v468

def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_130 : BitVec 32 := 6#32
  let v234 : BitVec 32 := Scalar.addi v2 c6_i32_130
  let c16_i32_131 : BitVec 32 := 16#32
  let v235 : BitVec 32 := Scalar.remsi v234 c16_i32_131
  let c32_i32_821 : BitVec 32 := 32#32
  let v1144 : BitVec 32 := Scalar.muli v235 c32_i32_821
  let c0_i32_829 : BitVec 32 := 0#32
  ![v1144.toNat, 0]
def k0_dev36 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_130 : BitVec 32 := 6#32
  let v234 : BitVec 32 := Scalar.addi v2 c6_i32_130
  let c16_i32_131 : BitVec 32 := 16#32
  let v235 : BitVec 32 := Scalar.remsi v234 c16_i32_131
  let c1_i32_825 : BitVec 32 := 1#32
  let v1145 : BitVec 32 := Scalar.muli v235 c1_i32_825
  let v1146 : BitVec 32 := Scalar.addi c0_i32_826 v1145
  v1146.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_132 : BitVec 32 := 7#32
  let v236 : BitVec 32 := Scalar.addi v2 c7_i32_132
  let c16_i32_133 : BitVec 32 := 16#32
  let v237 : BitVec 32 := Scalar.remsi v236 c16_i32_133
  let c8_i32_251 : BitVec 32 := 8#32
  let v469 : BitVec 1 := Scalar.cmpi .sge v237 c8_i32_251
  let v470 : BitVec 32 := Scalar.extui v469
  let c0_i32_252 : BitVec 32 := 0#32
  let v471 : BitVec 1 := Scalar.cmpi .ne v470 c0_i32_252
  v471

def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_132 : BitVec 32 := 7#32
  let v236 : BitVec 32 := Scalar.addi v2 c7_i32_132
  let c16_i32_133 : BitVec 32 := 16#32
  let v237 : BitVec 32 := Scalar.remsi v236 c16_i32_133
  let c32_i32_821 : BitVec 32 := 32#32
  let v1144 : BitVec 32 := Scalar.muli v237 c32_i32_821
  let c0_i32_829 : BitVec 32 := 0#32
  ![v1144.toNat, 0]
def k0_dev37 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_132 : BitVec 32 := 7#32
  let v236 : BitVec 32 := Scalar.addi v2 c7_i32_132
  let c16_i32_133 : BitVec 32 := 16#32
  let v237 : BitVec 32 := Scalar.remsi v236 c16_i32_133
  let c1_i32_825 : BitVec 32 := 1#32
  let v1145 : BitVec 32 := Scalar.muli v237 c1_i32_825
  let v1146 : BitVec 32 := Scalar.addi c0_i32_826 v1145
  v1146.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_134 : BitVec 32 := 8#32
  let v238 : BitVec 32 := Scalar.addi v2 c8_i32_134
  let c16_i32_135 : BitVec 32 := 16#32
  let v239 : BitVec 32 := Scalar.remsi v238 c16_i32_135
  let c8_i32_253 : BitVec 32 := 8#32
  let v472 : BitVec 1 := Scalar.cmpi .sge v239 c8_i32_253
  let v473 : BitVec 32 := Scalar.extui v472
  let c0_i32_254 : BitVec 32 := 0#32
  let v474 : BitVec 1 := Scalar.cmpi .ne v473 c0_i32_254
  v474

def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_134 : BitVec 32 := 8#32
  let v238 : BitVec 32 := Scalar.addi v2 c8_i32_134
  let c16_i32_135 : BitVec 32 := 16#32
  let v239 : BitVec 32 := Scalar.remsi v238 c16_i32_135
  let c32_i32_821 : BitVec 32 := 32#32
  let v1144 : BitVec 32 := Scalar.muli v239 c32_i32_821
  let c0_i32_829 : BitVec 32 := 0#32
  ![v1144.toNat, 0]
def k0_dev38 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_134 : BitVec 32 := 8#32
  let v238 : BitVec 32 := Scalar.addi v2 c8_i32_134
  let c16_i32_135 : BitVec 32 := 16#32
  let v239 : BitVec 32 := Scalar.remsi v238 c16_i32_135
  let c1_i32_825 : BitVec 32 := 1#32
  let v1145 : BitVec 32 := Scalar.muli v239 c1_i32_825
  let v1146 : BitVec 32 := Scalar.addi c0_i32_826 v1145
  v1146.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_136 : BitVec 32 := 9#32
  let v240 : BitVec 32 := Scalar.addi v2 c9_i32_136
  let c16_i32_137 : BitVec 32 := 16#32
  let v241 : BitVec 32 := Scalar.remsi v240 c16_i32_137
  let c8_i32_255 : BitVec 32 := 8#32
  let v475 : BitVec 1 := Scalar.cmpi .sge v241 c8_i32_255
  let v476 : BitVec 32 := Scalar.extui v475
  let c0_i32_256 : BitVec 32 := 0#32
  let v477 : BitVec 1 := Scalar.cmpi .ne v476 c0_i32_256
  v477

def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_136 : BitVec 32 := 9#32
  let v240 : BitVec 32 := Scalar.addi v2 c9_i32_136
  let c16_i32_137 : BitVec 32 := 16#32
  let v241 : BitVec 32 := Scalar.remsi v240 c16_i32_137
  let c32_i32_821 : BitVec 32 := 32#32
  let v1144 : BitVec 32 := Scalar.muli v241 c32_i32_821
  let c0_i32_829 : BitVec 32 := 0#32
  ![v1144.toNat, 0]
def k0_dev39 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_136 : BitVec 32 := 9#32
  let v240 : BitVec 32 := Scalar.addi v2 c9_i32_136
  let c16_i32_137 : BitVec 32 := 16#32
  let v241 : BitVec 32 := Scalar.remsi v240 c16_i32_137
  let c1_i32_825 : BitVec 32 := 1#32
  let v1145 : BitVec 32 := Scalar.muli v241 c1_i32_825
  let v1146 : BitVec 32 := Scalar.addi c0_i32_826 v1145
  v1146.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_138 : BitVec 32 := 10#32
  let v242 : BitVec 32 := Scalar.addi v2 c10_i32_138
  let c16_i32_139 : BitVec 32 := 16#32
  let v243 : BitVec 32 := Scalar.remsi v242 c16_i32_139
  let c8_i32_257 : BitVec 32 := 8#32
  let v478 : BitVec 1 := Scalar.cmpi .sge v243 c8_i32_257
  let v479 : BitVec 32 := Scalar.extui v478
  let c0_i32_258 : BitVec 32 := 0#32
  let v480 : BitVec 1 := Scalar.cmpi .ne v479 c0_i32_258
  v480

def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_138 : BitVec 32 := 10#32
  let v242 : BitVec 32 := Scalar.addi v2 c10_i32_138
  let c16_i32_139 : BitVec 32 := 16#32
  let v243 : BitVec 32 := Scalar.remsi v242 c16_i32_139
  let c32_i32_821 : BitVec 32 := 32#32
  let v1144 : BitVec 32 := Scalar.muli v243 c32_i32_821
  let c0_i32_829 : BitVec 32 := 0#32
  ![v1144.toNat, 0]
def k0_dev40 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_138 : BitVec 32 := 10#32
  let v242 : BitVec 32 := Scalar.addi v2 c10_i32_138
  let c16_i32_139 : BitVec 32 := 16#32
  let v243 : BitVec 32 := Scalar.remsi v242 c16_i32_139
  let c1_i32_825 : BitVec 32 := 1#32
  let v1145 : BitVec 32 := Scalar.muli v243 c1_i32_825
  let v1146 : BitVec 32 := Scalar.addi c0_i32_826 v1145
  v1146.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_140 : BitVec 32 := 11#32
  let v244 : BitVec 32 := Scalar.addi v2 c11_i32_140
  let c16_i32_141 : BitVec 32 := 16#32
  let v245 : BitVec 32 := Scalar.remsi v244 c16_i32_141
  let c8_i32_259 : BitVec 32 := 8#32
  let v481 : BitVec 1 := Scalar.cmpi .sge v245 c8_i32_259
  let v482 : BitVec 32 := Scalar.extui v481
  let c0_i32_260 : BitVec 32 := 0#32
  let v483 : BitVec 1 := Scalar.cmpi .ne v482 c0_i32_260
  v483

def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_140 : BitVec 32 := 11#32
  let v244 : BitVec 32 := Scalar.addi v2 c11_i32_140
  let c16_i32_141 : BitVec 32 := 16#32
  let v245 : BitVec 32 := Scalar.remsi v244 c16_i32_141
  let c32_i32_821 : BitVec 32 := 32#32
  let v1144 : BitVec 32 := Scalar.muli v245 c32_i32_821
  let c0_i32_829 : BitVec 32 := 0#32
  ![v1144.toNat, 0]
def k0_dev41 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_140 : BitVec 32 := 11#32
  let v244 : BitVec 32 := Scalar.addi v2 c11_i32_140
  let c16_i32_141 : BitVec 32 := 16#32
  let v245 : BitVec 32 := Scalar.remsi v244 c16_i32_141
  let c1_i32_825 : BitVec 32 := 1#32
  let v1145 : BitVec 32 := Scalar.muli v245 c1_i32_825
  let v1146 : BitVec 32 := Scalar.addi c0_i32_826 v1145
  v1146.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_142 : BitVec 32 := 12#32
  let v246 : BitVec 32 := Scalar.addi v2 c12_i32_142
  let c16_i32_143 : BitVec 32 := 16#32
  let v247 : BitVec 32 := Scalar.remsi v246 c16_i32_143
  let c8_i32_261 : BitVec 32 := 8#32
  let v484 : BitVec 1 := Scalar.cmpi .sge v247 c8_i32_261
  let v485 : BitVec 32 := Scalar.extui v484
  let c0_i32_262 : BitVec 32 := 0#32
  let v486 : BitVec 1 := Scalar.cmpi .ne v485 c0_i32_262
  v486

def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_142 : BitVec 32 := 12#32
  let v246 : BitVec 32 := Scalar.addi v2 c12_i32_142
  let c16_i32_143 : BitVec 32 := 16#32
  let v247 : BitVec 32 := Scalar.remsi v246 c16_i32_143
  let c32_i32_821 : BitVec 32 := 32#32
  let v1144 : BitVec 32 := Scalar.muli v247 c32_i32_821
  let c0_i32_829 : BitVec 32 := 0#32
  ![v1144.toNat, 0]
def k0_dev42 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_142 : BitVec 32 := 12#32
  let v246 : BitVec 32 := Scalar.addi v2 c12_i32_142
  let c16_i32_143 : BitVec 32 := 16#32
  let v247 : BitVec 32 := Scalar.remsi v246 c16_i32_143
  let c1_i32_825 : BitVec 32 := 1#32
  let v1145 : BitVec 32 := Scalar.muli v247 c1_i32_825
  let v1146 : BitVec 32 := Scalar.addi c0_i32_826 v1145
  v1146.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_144 : BitVec 32 := 13#32
  let v248 : BitVec 32 := Scalar.addi v2 c13_i32_144
  let c16_i32_145 : BitVec 32 := 16#32
  let v249 : BitVec 32 := Scalar.remsi v248 c16_i32_145
  let c8_i32_263 : BitVec 32 := 8#32
  let v487 : BitVec 1 := Scalar.cmpi .sge v249 c8_i32_263
  let v488 : BitVec 32 := Scalar.extui v487
  let c0_i32_264 : BitVec 32 := 0#32
  let v489 : BitVec 1 := Scalar.cmpi .ne v488 c0_i32_264
  v489

def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_144 : BitVec 32 := 13#32
  let v248 : BitVec 32 := Scalar.addi v2 c13_i32_144
  let c16_i32_145 : BitVec 32 := 16#32
  let v249 : BitVec 32 := Scalar.remsi v248 c16_i32_145
  let c32_i32_821 : BitVec 32 := 32#32
  let v1144 : BitVec 32 := Scalar.muli v249 c32_i32_821
  let c0_i32_829 : BitVec 32 := 0#32
  ![v1144.toNat, 0]
def k0_dev43 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_144 : BitVec 32 := 13#32
  let v248 : BitVec 32 := Scalar.addi v2 c13_i32_144
  let c16_i32_145 : BitVec 32 := 16#32
  let v249 : BitVec 32 := Scalar.remsi v248 c16_i32_145
  let c1_i32_825 : BitVec 32 := 1#32
  let v1145 : BitVec 32 := Scalar.muli v249 c1_i32_825
  let v1146 : BitVec 32 := Scalar.addi c0_i32_826 v1145
  v1146.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_146 : BitVec 32 := 14#32
  let v250 : BitVec 32 := Scalar.addi v2 c14_i32_146
  let c16_i32_147 : BitVec 32 := 16#32
  let v251 : BitVec 32 := Scalar.remsi v250 c16_i32_147
  let c8_i32_265 : BitVec 32 := 8#32
  let v490 : BitVec 1 := Scalar.cmpi .sge v251 c8_i32_265
  let v491 : BitVec 32 := Scalar.extui v490
  let c0_i32_266 : BitVec 32 := 0#32
  let v492 : BitVec 1 := Scalar.cmpi .ne v491 c0_i32_266
  v492

def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_146 : BitVec 32 := 14#32
  let v250 : BitVec 32 := Scalar.addi v2 c14_i32_146
  let c16_i32_147 : BitVec 32 := 16#32
  let v251 : BitVec 32 := Scalar.remsi v250 c16_i32_147
  let c32_i32_821 : BitVec 32 := 32#32
  let v1144 : BitVec 32 := Scalar.muli v251 c32_i32_821
  let c0_i32_829 : BitVec 32 := 0#32
  ![v1144.toNat, 0]
def k0_dev44 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_146 : BitVec 32 := 14#32
  let v250 : BitVec 32 := Scalar.addi v2 c14_i32_146
  let c16_i32_147 : BitVec 32 := 16#32
  let v251 : BitVec 32 := Scalar.remsi v250 c16_i32_147
  let c1_i32_825 : BitVec 32 := 1#32
  let v1145 : BitVec 32 := Scalar.muli v251 c1_i32_825
  let v1146 : BitVec 32 := Scalar.addi c0_i32_826 v1145
  v1146.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_148 : BitVec 32 := 15#32
  let v252 : BitVec 32 := Scalar.addi v2 c15_i32_148
  let c16_i32_149 : BitVec 32 := 16#32
  let v253 : BitVec 32 := Scalar.remsi v252 c16_i32_149
  let c8_i32_267 : BitVec 32 := 8#32
  let v493 : BitVec 1 := Scalar.cmpi .sge v253 c8_i32_267
  let v494 : BitVec 32 := Scalar.extui v493
  let c0_i32_268 : BitVec 32 := 0#32
  let v495 : BitVec 1 := Scalar.cmpi .ne v494 c0_i32_268
  v495

def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_148 : BitVec 32 := 15#32
  let v252 : BitVec 32 := Scalar.addi v2 c15_i32_148
  let c16_i32_149 : BitVec 32 := 16#32
  let v253 : BitVec 32 := Scalar.remsi v252 c16_i32_149
  let c32_i32_821 : BitVec 32 := 32#32
  let v1144 : BitVec 32 := Scalar.muli v253 c32_i32_821
  let c0_i32_829 : BitVec 32 := 0#32
  ![v1144.toNat, 0]
def k0_dev45 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_148 : BitVec 32 := 15#32
  let v252 : BitVec 32 := Scalar.addi v2 c15_i32_148
  let c16_i32_149 : BitVec 32 := 16#32
  let v253 : BitVec 32 := Scalar.remsi v252 c16_i32_149
  let c1_i32_825 : BitVec 32 := 1#32
  let v1145 : BitVec 32 := Scalar.muli v253 c1_i32_825
  let v1146 : BitVec 32 := Scalar.addi c0_i32_826 v1145
  v1146.toNat
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v496 : BitVec 32 := Scalar.muli v2 c32_i32
  let v497 : Index := Scalar.indexCast v496
  let c0_269 : Index := 0#32
  ![v497.toNat, 0]
def k0_off32 (d0 : Dev nD) (c1_i32_120 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v224 : BitVec 32 := Scalar.addi v2 c1_i32_120
  let c16_i32_121 : BitVec 32 := 16#32
  let v225 : BitVec 32 := Scalar.remsi v224 c16_i32_121
  let c32_i32_273 : BitVec 32 := 32#32
  let v502 : BitVec 32 := Scalar.muli v225 c32_i32_273
  let c0_i32_281 : BitVec 32 := 0#32
  ![v502.toNat, 0]
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_442 : BitVec 32 := 8#32
  let v685 : BitVec 32 := Scalar.divsi v2 c8_i32_442
  let v689 : Index := Scalar.indexCast v685
  let c8_i32_443 : BitVec 32 := 8#32
  let v686 : BitVec 32 := Scalar.remsi v2 c8_i32_443
  let c32_i32_444 : BitVec 32 := 32#32
  let v687 : BitVec 32 := Scalar.muli v686 c32_i32_444
  let v690 : Index := Scalar.indexCast v687
  let c0_445 : Index := 0#32
  ![v689.toNat, v690.toNat, 0]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_442 : BitVec 32 := 8#32
  let v685 : BitVec 32 := Scalar.divsi v2 c8_i32_442
  let c8_i32_443 : BitVec 32 := 8#32
  let v686 : BitVec 32 := Scalar.remsi v2 c8_i32_443
  let c32_i32_444 : BitVec 32 := 32#32
  let v687 : BitVec 32 := Scalar.muli v686 c32_i32_444
  let c0_i32_450 : BitVec 32 := 0#32
  ![v685.toNat, v687.toNat, 0]
def k0_dev46 (d0 : Dev nD) : Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_120 : BitVec 32 := 1#32
  let v224 : BitVec 32 := Scalar.addi v2 c1_i32_120
  let c16_i32_121 : BitVec 32 := 16#32
  let v225 : BitVec 32 := Scalar.remsi v224 c16_i32_121
  let c1_i32_448 : BitVec 32 := 1#32
  let v694 : BitVec 32 := Scalar.muli v225 c1_i32_448
  let v695 : BitVec 32 := Scalar.addi c0_i32_449 v694
  v695.toNat
def k0_dev47 (d0 : Dev nD) : Nat :=
  let c0_i32_455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_122 : BitVec 32 := 2#32
  let v226 : BitVec 32 := Scalar.addi v2 c2_i32_122
  let c16_i32_123 : BitVec 32 := 16#32
  let v227 : BitVec 32 := Scalar.remsi v226 c16_i32_123
  let c1_i32_454 : BitVec 32 := 1#32
  let v704 : BitVec 32 := Scalar.muli v227 c1_i32_454
  let v705 : BitVec 32 := Scalar.addi c0_i32_455 v704
  v705.toNat
def k0_dev48 (d0 : Dev nD) : Nat :=
  let c0_i32_461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_124 : BitVec 32 := 3#32
  let v228 : BitVec 32 := Scalar.addi v2 c3_i32_124
  let c16_i32_125 : BitVec 32 := 16#32
  let v229 : BitVec 32 := Scalar.remsi v228 c16_i32_125
  let c1_i32_460 : BitVec 32 := 1#32
  let v714 : BitVec 32 := Scalar.muli v229 c1_i32_460
  let v715 : BitVec 32 := Scalar.addi c0_i32_461 v714
  v715.toNat
def k0_dev49 (d0 : Dev nD) : Nat :=
  let c0_i32_467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_126 : BitVec 32 := 4#32
  let v230 : BitVec 32 := Scalar.addi v2 c4_i32_126
  let c16_i32_127 : BitVec 32 := 16#32
  let v231 : BitVec 32 := Scalar.remsi v230 c16_i32_127
  let c1_i32_466 : BitVec 32 := 1#32
  let v724 : BitVec 32 := Scalar.muli v231 c1_i32_466
  let v725 : BitVec 32 := Scalar.addi c0_i32_467 v724
  v725.toNat
def k0_dev50 (d0 : Dev nD) : Nat :=
  let c0_i32_473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_128 : BitVec 32 := 5#32
  let v232 : BitVec 32 := Scalar.addi v2 c5_i32_128
  let c16_i32_129 : BitVec 32 := 16#32
  let v233 : BitVec 32 := Scalar.remsi v232 c16_i32_129
  let c1_i32_472 : BitVec 32 := 1#32
  let v734 : BitVec 32 := Scalar.muli v233 c1_i32_472
  let v735 : BitVec 32 := Scalar.addi c0_i32_473 v734
  v735.toNat
def k0_dev51 (d0 : Dev nD) : Nat :=
  let c0_i32_479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_130 : BitVec 32 := 6#32
  let v234 : BitVec 32 := Scalar.addi v2 c6_i32_130
  let c16_i32_131 : BitVec 32 := 16#32
  let v235 : BitVec 32 := Scalar.remsi v234 c16_i32_131
  let c1_i32_478 : BitVec 32 := 1#32
  let v744 : BitVec 32 := Scalar.muli v235 c1_i32_478
  let v745 : BitVec 32 := Scalar.addi c0_i32_479 v744
  v745.toNat
def k0_dev52 (d0 : Dev nD) : Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_132 : BitVec 32 := 7#32
  let v236 : BitVec 32 := Scalar.addi v2 c7_i32_132
  let c16_i32_133 : BitVec 32 := 16#32
  let v237 : BitVec 32 := Scalar.remsi v236 c16_i32_133
  let c1_i32_484 : BitVec 32 := 1#32
  let v754 : BitVec 32 := Scalar.muli v237 c1_i32_484
  let v755 : BitVec 32 := Scalar.addi c0_i32_485 v754
  v755.toNat
def k0_dev53 (d0 : Dev nD) : Nat :=
  let c0_i32_491 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_134 : BitVec 32 := 8#32
  let v238 : BitVec 32 := Scalar.addi v2 c8_i32_134
  let c16_i32_135 : BitVec 32 := 16#32
  let v239 : BitVec 32 := Scalar.remsi v238 c16_i32_135
  let c1_i32_490 : BitVec 32 := 1#32
  let v764 : BitVec 32 := Scalar.muli v239 c1_i32_490
  let v765 : BitVec 32 := Scalar.addi c0_i32_491 v764
  v765.toNat
def k0_dev54 (d0 : Dev nD) : Nat :=
  let c0_i32_497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_136 : BitVec 32 := 9#32
  let v240 : BitVec 32 := Scalar.addi v2 c9_i32_136
  let c16_i32_137 : BitVec 32 := 16#32
  let v241 : BitVec 32 := Scalar.remsi v240 c16_i32_137
  let c1_i32_496 : BitVec 32 := 1#32
  let v774 : BitVec 32 := Scalar.muli v241 c1_i32_496
  let v775 : BitVec 32 := Scalar.addi c0_i32_497 v774
  v775.toNat
def k0_dev55 (d0 : Dev nD) : Nat :=
  let c0_i32_503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_138 : BitVec 32 := 10#32
  let v242 : BitVec 32 := Scalar.addi v2 c10_i32_138
  let c16_i32_139 : BitVec 32 := 16#32
  let v243 : BitVec 32 := Scalar.remsi v242 c16_i32_139
  let c1_i32_502 : BitVec 32 := 1#32
  let v784 : BitVec 32 := Scalar.muli v243 c1_i32_502
  let v785 : BitVec 32 := Scalar.addi c0_i32_503 v784
  v785.toNat
def k0_dev56 (d0 : Dev nD) : Nat :=
  let c0_i32_509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_140 : BitVec 32 := 11#32
  let v244 : BitVec 32 := Scalar.addi v2 c11_i32_140
  let c16_i32_141 : BitVec 32 := 16#32
  let v245 : BitVec 32 := Scalar.remsi v244 c16_i32_141
  let c1_i32_508 : BitVec 32 := 1#32
  let v794 : BitVec 32 := Scalar.muli v245 c1_i32_508
  let v795 : BitVec 32 := Scalar.addi c0_i32_509 v794
  v795.toNat
def k0_dev57 (d0 : Dev nD) : Nat :=
  let c0_i32_515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_142 : BitVec 32 := 12#32
  let v246 : BitVec 32 := Scalar.addi v2 c12_i32_142
  let c16_i32_143 : BitVec 32 := 16#32
  let v247 : BitVec 32 := Scalar.remsi v246 c16_i32_143
  let c1_i32_514 : BitVec 32 := 1#32
  let v804 : BitVec 32 := Scalar.muli v247 c1_i32_514
  let v805 : BitVec 32 := Scalar.addi c0_i32_515 v804
  v805.toNat
def k0_dev58 (d0 : Dev nD) : Nat :=
  let c0_i32_521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_144 : BitVec 32 := 13#32
  let v248 : BitVec 32 := Scalar.addi v2 c13_i32_144
  let c16_i32_145 : BitVec 32 := 16#32
  let v249 : BitVec 32 := Scalar.remsi v248 c16_i32_145
  let c1_i32_520 : BitVec 32 := 1#32
  let v814 : BitVec 32 := Scalar.muli v249 c1_i32_520
  let v815 : BitVec 32 := Scalar.addi c0_i32_521 v814
  v815.toNat
def k0_dev59 (d0 : Dev nD) : Nat :=
  let c0_i32_527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_146 : BitVec 32 := 14#32
  let v250 : BitVec 32 := Scalar.addi v2 c14_i32_146
  let c16_i32_147 : BitVec 32 := 16#32
  let v251 : BitVec 32 := Scalar.remsi v250 c16_i32_147
  let c1_i32_526 : BitVec 32 := 1#32
  let v824 : BitVec 32 := Scalar.muli v251 c1_i32_526
  let v825 : BitVec 32 := Scalar.addi c0_i32_527 v824
  v825.toNat
def k0_dev60 (d0 : Dev nD) : Nat :=
  let c0_i32_533 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_148 : BitVec 32 := 15#32
  let v252 : BitVec 32 := Scalar.addi v2 c15_i32_148
  let c16_i32_149 : BitVec 32 := 16#32
  let v253 : BitVec 32 := Scalar.remsi v252 c16_i32_149
  let c1_i32_532 : BitVec 32 := 1#32
  let v834 : BitVec 32 := Scalar.muli v253 c1_i32_532
  let v835 : BitVec 32 := Scalar.addi c0_i32_533 v834
  v835.toNat
abbrev stage0_0 : Fin 1 → Memref sig .tc .vmem S2x256x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x8192 : Shape := ⟨2, ![768, 8192]⟩
abbrev S8192x768 : Shape := ⟨2, ![8192, 768]⟩
abbrev S2x256x8192 : Shape := ⟨3, ![2, 256, 8192]⟩
abbrev S2x256x128x64 : Shape := ⟨4, ![2, 256, 128, 64]⟩
abbrev S2x128x256x256 : Shape := ⟨4, ![2, 128, 256, 256]⟩
abbrev S_ : Shape := ⟨0, ![]⟩
abbrev S2x128x256 : Shape := ⟨3, ![2, 128, 256]⟩
abbrev S2x128x256x1 : Shape := ⟨4, ![2, 128, 256, 1]⟩
abbrev S2x128x64x256 : Shape := ⟨4, ![2, 128, 64, 256]⟩
abbrev S2x256x128x1 : Shape := ⟨4, ![2, 256, 128, 1]⟩

abbrev nBuf : Space → Nat
  | .hbm => 38
  | .vmem => 0
  | .smem => 0
  | _ => 0

abbrev bufTy : (tb : Table) → Fin (tcTables nBuf tb) → BufTy
  | .hbm, ⟨0, _⟩ => ⟨S2x256x768, .bf16⟩
  | .hbm, ⟨1, _⟩ => ⟨S768x8192, .bf16⟩
  | .hbm, ⟨2, _⟩ => ⟨S768x8192, .bf16⟩
  | .hbm, ⟨3, _⟩ => ⟨S768x8192, .bf16⟩
  | .hbm, ⟨4, _⟩ => ⟨S8192x768, .bf16⟩
  | .hbm, ⟨5, _⟩ => ⟨S2x256x8192, .f32⟩
  | .hbm, ⟨6, _⟩ => ⟨S2x256x8192, .bf16⟩
  | .hbm, ⟨7, _⟩ => ⟨S2x256x128x64, .bf16⟩
  | .hbm, ⟨8, _⟩ => ⟨S2x256x8192, .f32⟩
  | .hbm, ⟨9, _⟩ => ⟨S2x256x8192, .bf16⟩
  | .hbm, ⟨10, _⟩ => ⟨S2x256x128x64, .bf16⟩
  | .hbm, ⟨11, _⟩ => ⟨S2x256x8192, .f32⟩
  | .hbm, ⟨12, _⟩ => ⟨S2x256x8192, .bf16⟩
  | .hbm, ⟨13, _⟩ => ⟨S2x256x128x64, .bf16⟩
  | .hbm, ⟨14, _⟩ => ⟨S2x128x256x256, .f32⟩
  | .hbm, ⟨15, _⟩ => ⟨S2x128x256x256, .bf16⟩
  | .hbm, ⟨16, _⟩ => ⟨S2x128x256x256, .f32⟩
  | .hbm, ⟨17, _⟩ => ⟨S_, .f32⟩
  | .hbm, ⟨18, _⟩ => ⟨S2x128x256x256, .f32⟩
  | .hbm, ⟨19, _⟩ => ⟨S2x128x256x256, .f32⟩
  | .hbm, ⟨20, _⟩ => ⟨S_, .f32⟩
  | .hbm, ⟨21, _⟩ => ⟨S2x128x256, .f32⟩
  | .hbm, ⟨22, _⟩ => ⟨S2x128x256x1, .f32⟩
  | .hbm, ⟨23, _⟩ => ⟨S2x128x256x256, .f32⟩
  | .hbm, ⟨24, _⟩ => ⟨S2x128x256x256, .f32⟩
  | .hbm, ⟨25, _⟩ => ⟨S2x128x256x256, .f32⟩
  | .hbm, ⟨26, _⟩ => ⟨S_, .f32⟩
  | .hbm, ⟨27, _⟩ => ⟨S2x128x256, .f32⟩
  | .hbm, ⟨28, _⟩ => ⟨S2x128x256x1, .f32⟩
  | .hbm, ⟨29, _⟩ => ⟨S2x256x128x64, .f32⟩
  | .hbm, ⟨30, _⟩ => ⟨S2x128x64x256, .f32⟩
  | .hbm, ⟨31, _⟩ => ⟨S2x256x128x64, .f32⟩
  | .hbm, ⟨32, _⟩ => ⟨S2x256x128x1, .f32⟩
  | .hbm, ⟨33, _⟩ => ⟨S2x256x128x64, .f32⟩
  | .hbm, ⟨34, _⟩ => ⟨S2x256x128x64, .f32⟩
  | .hbm, ⟨35, _⟩ => ⟨S2x256x8192, .f32⟩
  | .hbm, ⟨36, _⟩ => ⟨S2x256x768, .f32⟩
  | .hbm, ⟨37, _⟩ => ⟨S2x256x768, .bf16⟩
  | _, _ => ⟨S2x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Proof.Contents.lean ====
/-
What each buffer of a device holds after the step that fills it, as functions of the launch memory.
Sixteen devices; device `c` computes the partial products of its eight heads for both batches (`workAt`), sends the
32 rows of every other device to that device (`slotsAt` is what a device has received), adds what it received
(`accAt`) and hands the sum of its 32 rows to everybody (`outAt`, the same on every device).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore
public import Idealize.ShloMosaic.Lib.Pipeline.Value

@[expose] public section

noncomputable section

namespace Cert.KProof

open Cert.KernelIdeal Cert.KernelIdeal.Gen

open Idealize.ShloMosaic
open Idealize.ShloMosaic.TcCoe
open Idealize.ShloMosaic.ValueIdx

variable {F : FTy → Type} [FloatOps F]

/-! ## One batch on one device, from the five input arrays -/

theorem headSlices (h : Fin 8) : S256x512.Slices ![0, 64 * h.val] S256x64 := by
  revert h; decide

/-- One head: its columns of the (scaled) queries, keys and values; exponentials of the scores, their row sums, the
    weighted sum of the values times the reciprocal of the row sum. -/
def headOut (h : Fin 8) (q k v : FVec F S256x512 .bf16) : FVec F S256x64 .bf16 :=
  let e : FVec F S256x256 .f32 :=
    exp (matmul dot_S256x64_S256x64_S256x256_1_1_0_0_n_n none (extractStridedSlice S256x64 ![0, 64 * h.val] q (headSlices h))
      (extractStridedSlice S256x64 ![0, 64 * h.val] k (headSlices h)) (constant S256x256 .f32 0x00000000#32))
  let l : FVec F S256x1 .f32 :=
    shapeCast S256x1 (multiReduction .add [1] S256 e 0x00000000#32 reduces_S256x256_S256 (.inl rfl) rfl) shapeCasts_S256_S256x1
  let pv : FVec F S256x64 .f32 :=
    matmul dot_S256x256_S256x64_S256x64_1_0_0_1_n_n none (truncf .bf16 e bitsLt_bf16_f32)
      (extractStridedSlice S256x64 ![0, 64 * h.val] v (headSlices h)) (constant S256x64 .f32 0x00000000#32)
  truncf .bf16 (mulf pv (broadcastTo S256x64 (divf (broadcast S256x1 (Scalar.ofBits .f32 0x3F800000#32)) l)
    broadcasts_S256x1_S256x64)) bitsLt_bf16_f32

/-- The eight heads side by side. -/
def attnOut (q k v : FVec F S256x512 .bf16) : Vec F S256x512 .bf16 := fun i =>
  headOut ⟨(i 1).val / 64, by have := (i 1).isLt; simp only [Matrix.cons_val_one, Matrix.cons_val_zero] at this; omega⟩ q k v
    (ix2 (i 0) ⟨(i 1).val % 64, Nat.mod_lt _ (by decide)⟩)

/-- A batch's partial product with this device's rows of `Wo`. -/
def batchOut (wq wk wv : Vec F S768x512 .bf16) (wo : Vec F S512x768 .bf16) (xb : Vec F S1x256x768 .bf16) : FVec F S256x768 .bf16 :=
  k0_pay23 (k0_pay22 (k0_pay4 wo) (attnOut (k0_pay6 wq xb) (k0_pay7 wk xb) (k0_pay8 wv xb)))

/-- Batch `b` of `x`. -/
def xBatch (b : Fin 2) (x : Vec F S2x256x768 .bf16) : Vec F S1x256x768 .bf16 := fun i => x (ix3 b (i 1) (i 2))

/-! ## From the launch memory -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The staged inputs of device `c`, in the kernel's operand order `x, Wq, Wo, Wk, Wv`. -/
def xIn (c : Dev nD) : (cc0_stg0_0 : Ref sig .tc).ty.Contents (Elt F) :=
  (win0_0.blk (0 : Fin 1)).view.read (Elt F) (m ((c : Thread nD τ).loc main_arg0))
def wqIn (c : Dev nD) : (cc0_stg1_0 : Ref sig .tc).ty.Contents (Elt F) :=
  (win0_1.blk (0 : Fin 1)).view.read (Elt F) (m ((c : Thread nD τ).loc main_arg1))
def woIn (c : Dev nD) : (cc0_stg2_0 : Ref sig .tc).ty.Contents (Elt F) :=
  (win0_2.blk (0 : Fin 1)).view.read (Elt F) (m ((c : Thread nD τ).loc main_arg4))
def wkIn (c : Dev nD) : (cc0_stg3_0 : Ref sig .tc).ty.Contents (Elt F) :=
  (win0_3.blk (0 : Fin 1)).view.read (Elt F) (m ((c : Thread nD τ).loc main_arg2))
def wvIn (c : Dev nD) : (cc0_stg4_0 : Ref sig .tc).ty.Contents (Elt F) :=
  (win0_4.blk (0 : Fin 1)).view.read (Elt F) (m ((c : Thread nD τ).loc main_arg3))

/-- Device `c`'s eight heads of batch `b`, side by side. -/
def attnB (c : Dev nD) (b : Fin 2) : Vec F S256x512 .bf16 :=
  attnOut (k0_pay6 (wqIn m c) (xBatch b (xIn m c))) (k0_pay7 (wkIn m c) (xBatch b (xIn m c))) (k0_pay8 (wvIn m c) (xBatch b (xIn m c)))

/-- Its partial product of batch `b`. -/
def workB (c : Dev nD) (b : Fin 2) : Vec F S256x768 .bf16 := k0_pay23 (k0_pay22 (k0_pay4 (woIn m c)) (attnB m c b))

theorem row_lt {n : ℕ} (i : Fin n) (h : n = 512) : i.val / 256 < 2 := by have := i.isLt; omega

/-- The work buffer: both batches' partial products, 512 rows. -/
def workAt (c : Dev nD) : (cc0_scratch1 : Ref sig .tc).ty.Contents (Elt F) := fun i =>
  workB m c ⟨(i 0).val / 256, row_lt (i 0) rfl⟩ (ix2 ⟨(i 0).val % 256, Nat.mod_lt _ (by decide)⟩ (i 1))

theorem slot_lt (c : Dev nD) (j : Fin 32) : 32 * c.val + j.val < 512 := by
  have hc : c.val < 16 := c.isLt
  have := j.isLt; omega

/-- The device `d` places before `c` on the ring of sixteen, and the one `d` places after it. -/
abbrev prv (c d : Fin 16) : Fin 16 := c - d
abbrev nxt (c d : Fin 16) : Fin 16 := c + d

/-- The receive buffer: slot `j` holds this device's 32 rows of the partial product of the device `j` before it (slot
    0: of its own). -/
def slotsAt (c : Dev nD) : (cc0_scratch2 : Ref sig .tc).ty.Contents (Elt F) := fun i =>
  workAt m (prv c (i 0)) (ix2 ⟨32 * c.val + (i 1).val, slot_lt c (i 1)⟩ (i 2))

/-- One slot as the kernel loads it. -/
def slotVec (c : Dev nD) (j : Fin 16) : Vec F S1x32x768 .bf16 := fun i => slotsAt m c (ix3 j (i 1) (i 2))

/-- The sum of device `c`'s sixteen slots, rounded. -/
def accAt (c : Dev nD) : FVec F S32x768 .bf16 :=
  k0_pay46 (k0_pay44 (slotVec m c 0) (slotVec m c 1) (slotVec m c 2) (slotVec m c 3) (slotVec m c 4) (slotVec m c 5) (slotVec m c 6)
    (slotVec m c 7)) (k0_pay45 (slotVec m c 8)) (slotVec m c 9) (slotVec m c 10) (slotVec m c 11) (slotVec m c 12) (slotVec m c 13)
    (slotVec m c 14) (slotVec m c 15)

theorem own_lt (b : Fin 2) (r : Fin 256) : 8 * b.val + r.val / 32 < 16 := by have := b.isLt; have := r.isLt; omega

/-- The result, on every device: row `r` of batch `b` is summed by device `8 * b + r / 32`. -/
def outAt : (cc0_stg5_0 : Ref sig .tc).ty.Contents (Elt F) := fun i =>
  accAt m ⟨8 * (i 0).val + (i 1).val / 32, own_lt (i 0) (i 1)⟩ (ix2 ⟨(i 1).val % 32, Nat.mod_lt _ (by decide)⟩ (i 2))

/-! ## The kernel's payloads are these

The two batches are traced apart and cut at different points, so the same head is spelt in several ways. -/

section Payloads
variable (wq wk wv : Vec F S768x512 .bf16) (xb : Vec F S1x256x768 .bf16) (q k v : FVec F S256x512 .bf16)

theorem pay_q1 : k0_pay25 (k0_pay1 wq) xb = k0_pay6 wq xb := rfl
theorem pay_k1 : k0_pay26 (k0_pay2 wk) xb = k0_pay7 wk xb := rfl
theorem pay_v1 : k0_pay27 (k0_pay3 wv) xb = k0_pay8 wv xb := rfl

theorem pay_head00 : k0_pay10 (k0_pay9 wq wk wv xb) = headOut 0 (k0_pay6 wq xb) (k0_pay7 wk xb) (k0_pay8 wv xb) :=
  shapeCast_self _ _
theorem pay_head01 : k0_pay11 q k v = headOut 1 q k v := shapeCast_self _ _
theorem pay_head02 : k0_pay12 q k v = headOut 2 q k v := shapeCast_self _ _
theorem pay_head03 : k0_pay16 v (k0_pay14 q k) (k0_pay15 q k) = headOut 3 q k v := shapeCast_self _ _
theorem pay_head04 : k0_pay17 q k v = headOut 4 q k v := shapeCast_self _ _
theorem pay_head05 : k0_pay19 (k0_pay18 q k v) = headOut 5 q k v := shapeCast_self _ _
theorem pay_head06 : k0_pay20 q k v = headOut 6 q k v := shapeCast_self _ _
theorem pay_head07 : k0_pay21 q k v = headOut 7 q k v := shapeCast_self _ _

theorem pay_head10 : k0_pay28 (k0_pay1 wq) (k0_pay2 wk) (k0_pay3 wv) xb = headOut 0 (k0_pay6 wq xb) (k0_pay7 wk xb) (k0_pay8 wv xb) :=
  shapeCast_self _ _
theorem pay_head11 : k0_pay32 (k0_pay30 (k0_pay1 wq) (k0_pay2 wk) xb) (k0_pay31 (k0_pay1 wq) (k0_pay2 wk) (k0_pay3 wv) xb)
    = headOut 1 (k0_pay6 wq xb) (k0_pay7 wk xb) (k0_pay8 wv xb) := shapeCast_self _ _
theorem pay_head12 : k0_pay33 q k v = headOut 2 q k v := shapeCast_self _ _
theorem pay_head13 : k0_pay34 q k v = headOut 3 q k v := shapeCast_self _ _
theorem pay_head14 : k0_pay35 q k v = headOut 4 q k v := shapeCast_self _ _
theorem pay_head15 : k0_pay36 q k v = headOut 5 q k v := shapeCast_self _ _
theorem pay_head16 : k0_pay40 (k0_pay38 q k) (k0_pay39 q k v) = headOut 6 q k v := shapeCast_self _ _
theorem pay_head17 : k0_pay41 q k v = headOut 7 q k v := shapeCast_self _ _

theorem pay_work1 (wo : FVec F S512x768 .bf16) (a : Vec F S256x512 .bf16) : k0_pay42 wo a = k0_pay23 (k0_pay22 wo a) := rfl

end Payloads

end Cert.KProof
-- ==== Proof.Proto.lean ====
/-
The protocol between the sixteen devices, written down once for a device named by a variable.

Semaphores of device `c` (distance `d`, always between 1 and 15; index 0 of each array is never used):

* barrier: every other device `p` adds 1; `c` waits once for 15. `p`'s unit hands `c` the two places on `p` that `c`
  will write: slot `p - c` of `p`'s receive buffer and rows `c` of `p`'s result.
* reduce-scatter receive `d`: the device `d` before `c` copies 32 rows of its partial product onto slot `d`.
* reduce-scatter send `d`: the same copy's other end on the sender; gives the sent rows back.
* all-gather receive `d`: the device `d` before `c` copies its 32 summed rows into `c`'s result.
* all-gather send `d`: the other end; gives back one of sixteen shares of the 32 rows that are read by all the copies.

Waits are ordered staging and sends < barrier < reduce-scatter receive < all-gather receive.
-/
module

public import proofs.«01_k».proof.Proof.Contents
public import Idealize.ShloMosaic.Lib.ShareLeaves
public import Idealize.ShloMosaic.Lib.Pipeline.ValueKit.Geometry

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and this kernel's (duties: devices) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Buffers and semaphores -/

abbrev outM : Memref sig .tc .vmem S2x256x768 .bf16 := Memref.whole cc0_stg5_0
abbrev attnM : Memref sig .tc .vmem S512x512 .bf16 := Memref.whole cc0_scratch0
abbrev workM : Memref sig .tc .vmem S512x768 .bf16 := Memref.whole cc0_scratch1
abbrev rsM : Memref sig .tc .vmem S16x32x768 .bf16 := Memref.whole cc0_scratch2

theorem workInb (b : Fin 16) : ∀ a, (![32 * b.val, 0] : Fin 2 → ℕ) a + S32x768.size a ≤ S512x768.size a := by
  revert b; decide
theorem slotInb (d : Fin 16) : ∀ a, (![d.val, 0, 0] : Fin 3 → ℕ) a + S1x32x768.size a ≤ S16x32x768.size a := by
  revert d; decide
theorem outInb (b : Fin 16) :
    ∀ a, (![b.val / 8, 32 * (b.val % 8), 0] : Fin 3 → ℕ) a + S1x32x768.size a ≤ S2x256x768.size a := by
  revert b; decide

/-- Rows `32 b …` of the partial product; slot `d` of the receive buffer; the rows of the result that device `b` sums. -/
abbrev workBlk (b : Fin 16) : Memref sig .tc .vmem S32x768 .bf16 :=
  workM.slice (Rect.unit (s := S512x768) ![32 * b.val, 0] S32x768.size (workInb b)) (fun _ => rfl)
abbrev slotBlk (d : Fin 16) : Memref sig .tc .vmem S32x768 .bf16 :=
  (rsM.slice (Rect.unit (s := S16x32x768) ![d.val, 0, 0] S1x32x768.size (slotInb d)) (fun _ => rfl)).squeeze S32x768
    squeezes_S1x32x768_S32x768
abbrev outBlk (b : Fin 16) : Memref sig .tc .vmem S32x768 .bf16 :=
  (outM.slice (Rect.unit (s := S2x256x768) ![b.val / 8, 32 * (b.val % 8), 0] S1x32x768.size (outInb b)) (fun _ => rfl)).squeeze S32x768
    squeezes_S1x32x768_S32x768

theorem mem_workBlk (b : Fin 16) (i : (cc0_scratch1 : Ref sig .tc).ty.shape.Idx) :
    i ∈ (workBlk b).view.set ↔ (i 0).val / 32 = b.val := by
  refine (ValueKit.mem_set_slice_whole_iff cc0_scratch1 _ i (Rect.mem_set_unit.trans Fin.forall_fin_two)).trans ?_
  show (32 * b.val ≤ (i 0).val ∧ (i 0).val < 32 * b.val + 32) ∧ (0 ≤ (i 1).val ∧ (i 1).val < 0 + 768) ↔ _
  have h1 : (i 1).val < 768 := (i 1).isLt
  omega

theorem mem_slotBlk (d : Fin 16) (i : (cc0_scratch2 : Ref sig .tc).ty.shape.Idx) :
    i ∈ (slotBlk d).view.set ↔ (i 0).val = d.val := by
  refine (iff_of_eq (congrArg (fun S => i ∈ S) (View.set_reshape _ _))).trans
    ((ValueKit.mem_set_slice_whole_iff cc0_scratch2 _ i (Rect.mem_set_unit.trans ValueKit.forall_fin_iff_conj)).trans ?_)
  show (d.val ≤ (i 0).val ∧ (i 0).val < d.val + 1) ∧ (0 ≤ (i 1).val ∧ (i 1).val < 0 + 32) ∧ (0 ≤ (i 2).val ∧ (i 2).val < 0 + 768) ↔ _
  have h1 : (i 1).val < 32 := (i 1).isLt
  have h2 : (i 2).val < 768 := (i 2).isLt
  omega

theorem mem_outBlk (b : Fin 16) (i : (cc0_stg5_0 : Ref sig .tc).ty.shape.Idx) :
    i ∈ (outBlk b).view.set ↔ 8 * (i 0).val + (i 1).val / 32 = b.val := by
  refine (iff_of_eq (congrArg (fun S => i ∈ S) (View.set_reshape _ _))).trans
    ((ValueKit.mem_set_slice_whole_iff cc0_stg5_0 _ i (Rect.mem_set_unit.trans ValueKit.forall_fin_iff_conj)).trans ?_)
  show (b.val / 8 ≤ (i 0).val ∧ (i 0).val < b.val / 8 + 1) ∧ (32 * (b.val % 8) ≤ (i 1).val ∧ (i 1).val < 32 * (b.val % 8) + 32)
      ∧ (0 ≤ (i 2).val ∧ (i 2).val < 0 + 768) ↔ _
  have h0 : (i 0).val < 2 := (i 0).isLt
  have h1 : (i 1).val < 256 := (i 1).isLt
  have h2 : (i 2).val < 768 := (i 2).isLt
  omega

/-- The runtime's barrier semaphore (not scoped to the launch). -/
abbrev barS : Sem sig := (SemArray.scalar (sig.barrier 0 rfl) : Sems sig S_).sem

/-- The kernel's own semaphores: 0 reduce-scatter send, 1 reduce-scatter receive, 2 all-gather send, 3 all-gather
    receive, sixteen of each. -/
def xS (k : Fin 4) (d : Fin 16) : DmaSem sig := ⟨6 + 16 * k.val + d.val, by
  show _ < 70
  have := k.isLt; have := d.isLt; omega⟩

/-- Which of the four arrays a semaphore of the pool lies in, and at what index. -/
def kOf (q : DmaSem sig) : ℕ := (q.val + 10) / 16
def dOf (q : DmaSem sig) : Fin 16 := ⟨(q.val + 10) % 16, Nat.mod_lt _ (by decide)⟩

theorem kOf_xS (k : Fin 4) (d : Fin 16) : kOf (xS k d) = k.val + 1 := by
  have := d.isLt; show (6 + 16 * k.val + d.val + 10) / 16 = _; omega
theorem dOf_xS (k : Fin 4) (d : Fin 16) : dOf (xS k d) = d := by
  have := d.isLt; refine Fin.ext ?_; show (6 + 16 * k.val + d.val + 10) % 16 = _; omega

theorem xS_inj {k k' : Fin 4} {d d' : Fin 16} (h : xS k d = xS k' d') : k = k' ∧ d = d' := by
  have h1 := congrArg kOf h; have h2 := congrArg dOf h
  rw [kOf_xS, kOf_xS] at h1; rw [dOf_xS, dOf_xS] at h2
  exact ⟨Fin.ext (by omega), h2⟩

abbrev barCell (c : Dev nD) : GSem nD τ sig := ((c : Thread nD τ), .reg barS)
abbrev xCell (k : Fin 4) (d : Fin 16) (c : Dev nD) : GSem nD τ sig := ((c : Thread nD τ), .dma (xS k d))

/-- A device's cells: the barrier (`none`) and the sixty-four. -/
abbrev CK : Type := Option (Fin 4 × Fin 16)
abbrev csem : CK → SemLoc sig := fun | none => .reg barS | some kd => .dma (xS kd.1 kd.2)
abbrev kcell (ck : Dev nD × CK) : GSem nD τ sig := ((ck.1 : Thread nD τ), csem ck.2)

/-- The two copies' credits. -/
abbrev N₁ : ℕ := (slotBlk 0).view.dmaCredit
abbrev N₂ : ℕ := (outBlk 0).view.dmaCredit
theorem N₁_pos : 0 < N₁ := View.dmaCredit_pos _ (by decide)
theorem N₂_pos : 0 < N₂ := View.dmaCredit_pos _ (by decide)

/-- The nonzero distances. -/
abbrev NZ : Finset (Fin 16) := Finset.univ.erase 0

/-! ## Ownership -/

def workPts (c : Dev nD) (b : Fin 16) (f : Buf (Elt F) ((c : Thread nD τ).loc cc0_scratch1)) : sProp 𝕄 :=
  (workBlk b).view.loc (c : Thread nD τ) ↦[(workBlk b).view.set]{fullShare} f
def slotPts (c : Dev nD) (d : Fin 16) (f : Buf (Elt F) ((c : Thread nD τ).loc cc0_scratch2)) : sProp 𝕄 :=
  (slotBlk d).view.loc (c : Thread nD τ) ↦[(slotBlk d).view.set]{fullShare} f
def outPts (c : Dev nD) (b : Fin 16) (q : PosShare TreeShare) (f : Buf (Elt F) ((c : Thread nD τ).loc cc0_stg5_0)) : sProp 𝕄 :=
  (outBlk b).view.loc (c : Thread nD τ) ↦[(outBlk b).view.set]{q} f

omit [FloatOps F] in
instance workPts_storable (c : Dev nD) (b : Fin 16) (f) : BI.Storable (upEmb : UEmb _ 𝕄) (workPts (F := F) c b f) := by
  unfold workPts; infer_instance
omit [FloatOps F] in
instance slotPts_storable (c : Dev nD) (d : Fin 16) (f) : BI.Storable (upEmb : UEmb _ 𝕄) (slotPts (F := F) c d f) := by
  unfold slotPts; infer_instance
omit [FloatOps F] in
instance outPts_storable (c : Dev nD) (b : Fin 16) (q) (f) : BI.Storable (upEmb : UEmb _ 𝕄) (outPts (F := F) c b q f) := by
  unfold outPts; infer_instance

/-! ## The schedule -/

/-- What `p`'s unit on `t`'s barrier hands `t`. -/
def barPay (t p : Fin 16) : sProp 𝕄 :=
  iprop((∃ f, slotPts (F := F) p (p - t) f) ∗ (∃ f, outPts (F := F) p t fullShare f))

/-- The share of the 32 result rows that the copy at distance `d` reads. -/
abbrev leafAt (d : Fin 16) : PosShare TreeShare := ShareLeaves.leaf 4 fullShare d

/-- What a copy's end hands over, by array (numbered from 1) and distance. -/
def xPay (k : ℕ) (d : Fin 16) (c : Fin 16) : sProp 𝕄 :=
  if k = 1 then workPts c (nxt c d) (workAt m c)
  else if k = 2 then slotPts c d (slotsAt m c)
  else if k = 3 then outPts c c (leafAt d) (outAt m)
  else outPts c (prv c d) fullShare (outAt m)

/-- One round, round 0: a barrier has one duty of one unit for every other device; the end of a copy at a nonzero
    distance has the duty `0` of the copied rows' credit. -/
def sched : Rounds.Schedule (GSem nD τ sig) (Fin 16) 𝕄 where
  duties g r := if r = 0 ∧ g.1.2 = .tc then
      (match g.2 with
        | .reg s => if s = barS then Finset.univ.erase g.1.1 else ∅
        | .dma q => if 1 ≤ kOf q ∧ dOf q ≠ 0 then {0} else ∅)
    else ∅
  unitless _ := False
  amount g _ _ := match g.2 with
    | .reg _ => 1
    | .dma q => if kOf q ≤ 2 then N₁ else N₂
  payload g _ p := match g.2 with
    | .reg _ => barPay g.1.1 p
    | .dma q => xPay m (kOf q) (dOf q) g.1.1
  amount_pos g _ _ _ := by
    match g with
    | (t, .reg _) => exact Nat.one_pos
    | (t, .dma q) => dsimp only; split; exacts [N₁_pos, N₂_pos]

instance sched_payload_storable (g : GSem nD τ sig) (r : ℕ) (d : Fin 16) :
    BI.Storable (upEmb : UEmb _ 𝕄) ((sched (F := F) m).payload g r d) := by
  match g with
  | (t, .reg _) => show BI.Storable upEmb (barPay t.1 d); unfold barPay; infer_instance
  | (t, .dma q) =>
    show BI.Storable upEmb (xPay m (kOf q) (dOf q) t.1)
    unfold xPay
    (repeat' split) <;> infer_instance

section Sched
variable (c : Dev nD) (k : Fin 4) (d : Fin 16)

theorem duties_bar : (sched (F := F) m).duties (barCell c) 0 = Finset.univ.erase c := by
  dsimp only [sched]; rw [if_pos ⟨rfl, rfl⟩]; exact if_pos rfl
theorem duties_x (hd : d ≠ 0) : (sched (F := F) m).duties (xCell k d c) 0 = {0} := by
  dsimp only [sched]; rw [if_pos ⟨rfl, rfl⟩]; exact if_pos ⟨by rw [kOf_xS]; omega, by rw [dOf_xS]; exact hd⟩
theorem duties_x0 (r : ℕ) : (sched (F := F) m).duties (xCell k 0 c) r = ∅ := by
  dsimp only [sched]; split
  · exact if_neg fun h => h.2 (dOf_xS k 0)
  · rfl
theorem duties_later (g : GSem nD τ sig) : ∀ r, 1 ≤ r → (sched (F := F) m).duties g r = ∅ :=
  fun r hr => by dsimp only [sched]; exact if_neg fun h => by omega

theorem amount_bar (p : Fin 16) : (sched (F := F) m).amount (barCell c) 0 p = 1 := rfl
/-- A copy's credit by array. -/
def NX (k : Fin 4) : ℕ := if k.val ≤ 1 then N₁ else N₂
theorem amount_x (p : Fin 16) : (sched (F := F) m).amount (xCell k d c) 0 p = NX k := by
  show (if kOf (xS k d) ≤ 2 then N₁ else N₂) = NX k
  rw [kOf_xS]; unfold NX; simp only [Nat.reduceLeDiff, Nat.add_le_add_iff_right, show k.val + 1 ≤ 2 ↔ k.val ≤ 1 by omega]

theorem expect_bar : (sched (F := F) m).expect (barCell c) 0 = 15 := by
  unfold Schedule.expect Schedule.amountOf
  rw [duties_bar, Finset.sum_congr rfl fun p _ => amount_bar m c p, Finset.sum_const, Finset.card_erase_of_mem (Finset.mem_univ _),
    Finset.card_univ, Fintype.card_fin]
  rfl
theorem expect_x (hd : d ≠ 0) : (sched (F := F) m).expect (xCell k d c) 0 = NX k := by
  unfold Schedule.expect Schedule.amountOf; rw [duties_x m c k d hd, Finset.sum_singleton, amount_x]

theorem payload_bar (p : Fin 16) : (sched (F := F) m).payload (barCell c) 0 p = barPay c p := rfl
theorem payload_x (p : Fin 16) : (sched (F := F) m).payload (xCell k d c) 0 p = xPay m (k.val + 1) d c := by
  show xPay m (kOf (xS k d)) (dOf (xS k d)) c = _
  rw [kOf_xS, dOf_xS]

theorem rest_bar : bigSep ((sched (F := F) m).duties (barCell c) 0 \ ∅) (fun p => (sched (F := F) m).payload (barCell c) 0 p)
    = bigSep (Finset.univ.erase c) (fun p => barPay (F := F) c p) := by
  rw [Finset.sdiff_empty, duties_bar]; rfl
theorem rest_x (hd : d ≠ 0) :
    bigSep ((sched (F := F) m).duties (xCell k d c) 0 \ ∅) (fun p => (sched (F := F) m).payload (xCell k d c) 0 p) = xPay m (k.val + 1) d c := by
  rw [Finset.sdiff_empty, duties_x m c k d hd, bigSep_singleton, payload_x]

end Sched

/-! ## What each core owes; the levels -/

/-- Still owed by `c`: a unit to each barrier at the distances `B`, a copy's credit to each receive semaphore at the
    distances `R` (reduce-scatter) and `A` (all-gather). -/
def owed (c : Dev nD) (B R A : Finset (Fin 16)) : CellTallies nD τ sig Unit :=
  (∑ d ∈ A, tallyAt (xCell 3 d (nxt c d)) () N₂) + (∑ d ∈ R, tallyAt (xCell 1 d (nxt c d)) () N₁)
    + ∑ d ∈ B, tallyAt (barCell (nxt c d)) () 1

theorem owed_bar (c : Dev nD) (B R A : Finset (Fin 16)) {d : Fin 16} (h : d ∈ B) :
    owed c B R A = owed c (B.erase d) R A + tallyAt (barCell (nxt c d)) () 1 := by
  unfold owed; rw [← Finset.sum_erase_add B _ h]; exact (add_assoc _ _ _).symm
theorem owed_rs (c : Dev nD) (B R A : Finset (Fin 16)) {d : Fin 16} (h : d ∈ R) :
    owed c B R A = owed c B (R.erase d) A + tallyAt (xCell 1 d (nxt c d)) () N₁ := by
  unfold owed; rw [← Finset.sum_erase_add R _ h, ← add_assoc]; exact add_right_comm _ _ _
theorem owed_ag (c : Dev nD) (B R A : Finset (Fin 16)) {d : Fin 16} (h : d ∈ A) :
    owed c B R A = owed c B R (A.erase d) + tallyAt (xCell 3 d (nxt c d)) () N₂ := by
  unfold owed; rw [← Finset.sum_erase_add A _ h, add_right_comm _ (tallyAt _ _ _)]; exact add_right_comm _ _ _
theorem owed_none (c : Dev nD) : owed c ∅ ∅ ∅ = 0 := by
  unfold owed; simp only [Finset.sum_empty, add_zero]

def L (g : GSem nD τ sig) : Finset Unit := if g.1.2 = .tc then {()} else ∅
def lv (g : GSem nD τ sig) (_ : Unit) : ℕ := match g.2 with
  | .reg _ => 1
  | .dma q => if kOf q = 2 then 2 else if kOf q = 4 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_x (k : Fin 4) (d : Fin 16) (c : Dev nD) : lv (xCell k d c) () = if k = 1 then 2 else if k = 3 then 3 else 0 := by
  show (if kOf (xS k d) = 2 then 2 else if kOf (xS k d) = 4 then 3 else 0) = _
  rw [kOf_xS]; revert k; decide

theorem sum_tally_pos {S : Finset (Fin 16)} {f : Fin 16 → GSem nD τ sig} {n : ℕ} {g : GSem nD τ sig} {u : Unit}
    (h : 0 < (∑ d ∈ S, tallyAt (f d) () n : CellTallies nD τ sig Unit) g u) : ∃ d ∈ S, g = f d := by
  rw [Finset.sum_apply, Finsupp.finset_sum_apply] at h
  obtain ⟨d, hd, hp⟩ := Finset.exists_ne_zero_of_sum_ne_zero h.ne'
  refine ⟨d, hd, ?_⟩
  by_contra hn
  rw [tallyAt_apply, if_neg fun h' => hn h'.1] at hp
  exact hp rfl

theorem owed_pos {c : Dev nD} {B R A : Finset (Fin 16)} {g : GSem nD τ sig} {u : Unit} (h : 0 < owed c B R A g u) :
    (∃ d ∈ A, g = xCell 3 d (nxt c d)) ∨ (∃ d ∈ R, g = xCell 1 d (nxt c d)) ∨ ∃ d ∈ B, g = barCell (nxt c d) := by
  unfold owed at h
  rw [Pi.add_apply, Finsupp.add_apply, Pi.add_apply, Finsupp.add_apply] at h
  rcases Nat.eq_zero_or_pos ((∑ d ∈ A, tallyAt (xCell 3 d (nxt c d)) () N₂ : CellTallies nD τ sig Unit) g u) with hA | hA
  · rcases Nat.eq_zero_or_pos ((∑ d ∈ R, tallyAt (xCell 1 d (nxt c d)) () N₁ : CellTallies nD τ sig Unit) g u) with hR | hR
    · rw [hA, hR] at h; simp only [Nat.zero_add, zero_add] at h; exact .inr (.inr (sum_tally_pos h))
    · exact .inr (.inl (sum_tally_pos hR))
  · exact .inl (sum_tally_pos hA)

/-- A device may wait on a semaphore whose level lies below those of all it still owes. -/
theorem mayWait_owed (c : Dev nD) (sm : SemLoc sig) (B R A : Finset (Fin 16)) (n : ℕ) (hn : lv ((c : Thread nD τ), sm) () ≤ n)
    (hB : ∀ d ∈ B, n < 1) (hR : ∀ d ∈ R, n < 2) (hA : ∀ d ∈ A, n < 3) :
    (levAts L lv : sProp 𝕄) ⊢ MayWait (c : Thread nD τ) sm () (owed c B R A) :=
  MayOwe.of_cut (L := L) (lev := lv) n (fun p hp => by rw [Finset.mem_singleton.mp hp, L_tc]; exact Finset.mem_singleton_self _)
    (fun g u hg => by
      rcases owed_pos hg with ⟨d, _, rfl⟩ | ⟨d, _, rfl⟩ | ⟨d, _, rfl⟩ <;> exact Finset.mem_singleton_self _)
    (fun p hp => by rw [Finset.mem_singleton.mp hp]; exact hn)
    (fun g u hg => by
      rcases owed_pos hg with ⟨d, hd, rfl⟩ | ⟨d, hd, rfl⟩ | ⟨d, hd, rfl⟩
      · rw [lv_x]; exact hA d hd
      · rw [lv_x]; exact hR d hd
      · rw [lv_bar]; exact hB d hd)

end Cert.KProof
-- ==== Proof.Geom.lean ====
/-
The blocks of the three communicated buffers: where an index of a block lies, that blocks are disjoint and cover, and
that a landing copy leaves in its destination what the destination is to hold.
-/
module

public import proofs.«01_k».proof.Proof.Proto
public import Idealize.ShloMosaic.Lib.ValueLayout
public import Idealize.ShloMosaic.Lib.Ring

@[expose] public section

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The ring of sixteen -/

theorem prv_nxt (c d : Fin 16) : prv (nxt c d) d = c := by revert c d; decide
theorem nxt_prv (c d : Fin 16) : nxt (prv c d) d = c := by revert c d; decide
theorem nxt_sub (c d : Fin 16) : nxt c d - c = d := by revert c d; decide
theorem nxt_zero (c : Fin 16) : nxt c 0 = c := by revert c; decide
theorem prv_zero (c : Fin 16) : prv c 0 = c := by revert c; decide
theorem nxt_ne (c d : Fin 16) (h : d ≠ 0) : nxt c d ≠ c := by revert c d; decide
theorem nxt_val (c d : Fin 16) : (nxt c d).val = (c.val + d.val) % 16 := rfl

/-- Distances to devices, from `c`. -/
def around (c : Fin 16) : Fin 16 ≃ Fin 16 :=
  ⟨nxt c, fun t => t - c, fun d => nxt_sub c d, fun t => by revert c t; decide⟩
/-- Distances to devices, back from `c`. -/
def back (c : Fin 16) : Fin 16 ≃ Fin 16 :=
  ⟨prv c, prv c, fun d => by revert c d; decide, fun d => by revert c d; decide⟩

theorem map_around (c : Fin 16) : NZ.map (around c).toEmbedding = Finset.univ.erase c := by revert c; decide
theorem map_back (c : Fin 16) : NZ.map (back c).toEmbedding = Finset.univ.erase c := by revert c; decide

/-! ## Indices of the blocks -/

theorem workBlk_emb (b : Fin 16) (r : Fin 32) (k : Fin 768) :
    (workBlk b).view.emb (ix2 r k) = (ix2 ⟨32 * b.val + r.val, slot_lt b r⟩ k : (cc0_scratch1 : Ref sig .tc).ty.shape.Idx) := by
  funext a
  refine Fin.ext ((ValueKit.view_emb_slice_whole_unit_val cc0_scratch1 _ _ _ _ a).trans ?_)
  fin_cases a
  · rfl
  · exact Nat.zero_add _

theorem slotBlk_emb (d : Fin 16) (r : Fin 32) (k : Fin 768) :
    (slotBlk d).view.emb (ix2 r k) = (ix3 d r k : (cc0_scratch2 : Ref sig .tc).ty.shape.Idx) := by
  show ((View.whole cc0_scratch2).slice (Rect.unit (s := S16x32x768) ![d.val, 0, 0] S1x32x768.size (slotInb d))).emb
    (Shape.reshapeEquiv _ (ix2 r k)) = _
  rw [reshapeEquiv_ix2_1ab]
  funext a
  refine Fin.ext ((ValueKit.view_emb_slice_whole_unit_val cc0_scratch2 _ _ _ _ a).trans ?_)
  fin_cases a
  · rfl
  · exact Nat.zero_add _
  · exact Nat.zero_add _

theorem outRow_lt (b : Fin 16) (r : Fin 32) : 32 * (b.val % 8) + r.val < 256 := by have := r.isLt; omega
theorem outBatch_lt (b : Fin 16) : b.val / 8 < 2 := by have := b.isLt; omega

theorem outBlk_emb (b : Fin 16) (r : Fin 32) (k : Fin 768) :
    (outBlk b).view.emb (ix2 r k)
      = (ix3 ⟨b.val / 8, outBatch_lt b⟩ ⟨32 * (b.val % 8) + r.val, outRow_lt b r⟩ k : (cc0_stg5_0 : Ref sig .tc).ty.shape.Idx) := by
  show ((View.whole cc0_stg5_0).slice (Rect.unit (s := S2x256x768) ![b.val / 8, 32 * (b.val % 8), 0] S1x32x768.size (outInb b))).emb
    (Shape.reshapeEquiv _ (ix2 r k)) = _
  rw [reshapeEquiv_ix2_1ab]
  funext a
  refine Fin.ext ((ValueKit.view_emb_slice_whole_unit_val cc0_stg5_0 _ _ _ _ a).trans ?_)
  fin_cases a
  · rfl
  · rfl
  · exact Nat.zero_add _

/-! ## Contents at a block's index -/

theorem slotsAt_ix (t d : Fin 16) (r : Fin 32) (k : Fin 768) :
    slotsAt m t (ix3 d r k) = workAt m (prv t d) (ix2 ⟨32 * t.val + r.val, slot_lt t r⟩ k) := rfl

theorem outAt_ix (b : Fin 16) (r : Fin 32) (k : Fin 768) :
    outAt m (ix3 ⟨b.val / 8, outBatch_lt b⟩ ⟨32 * (b.val % 8) + r.val, outRow_lt b r⟩ k) = accAt m b (ix2 r k) := by
  have hb := b.isLt
  have hr := r.isLt
  have h1 : (⟨8 * (b.val / 8) + (32 * (b.val % 8) + r.val) / 32, own_lt ⟨b.val / 8, outBatch_lt b⟩ ⟨32 * (b.val % 8) + r.val, outRow_lt b r⟩⟩ : Fin 16)
      = b := Fin.ext (by show 8 * (b.val / 8) + (32 * (b.val % 8) + r.val) / 32 = b.val; omega)
  have h2 : (⟨(32 * (b.val % 8) + r.val) % 32, Nat.mod_lt _ (by decide)⟩ : Fin 32) = r :=
    Fin.ext (by show (32 * (b.val % 8) + r.val) % 32 = r.val; omega)
  show accAt m (⟨8 * (b.val / 8) + (32 * (b.val % 8) + r.val) / 32, _⟩ : Fin 16) (ix2 ⟨(32 * (b.val % 8) + r.val) % 32, _⟩ k) = _
  rw [h1, h2]

/-- Equal contents on the block's image are equal contents on the block. -/
theorem eq_on_block {sp : Space} {v : View sig .tc sp S32x768 .bf16} {f g : v.ty.Contents (Elt F)}
    (h : ∀ (r : Fin 32) (k : Fin 768), f (v.emb (ix2 r k)) = g (v.emb (ix2 r k))) : ∀ i ∈ v.set, f i = g i := by
  intro i hi
  obtain ⟨x, -, rfl⟩ := Finset.mem_map.mp hi
  rw [eq_ix2 x]; exact h _ _

/-- A landed reduce-scatter copy: slot `d` of the device `d` after the sender. -/
theorem slot_landed (c d : Fin 16) (fd : Buf (Elt F) ((nxt c d : Thread nD τ).loc cc0_scratch2)) :
    ∀ i ∈ (slotBlk d).view.set, (slotBlk d).view.write (Elt F) fd ((workBlk (nxt c d)).view.read (Elt F) (workAt m c)) Finset.univ i
      = slotsAt m (nxt c d) i := by
  refine eq_on_block fun r k => ?_
  refine (View.write_emb_of_mem _ _ (Finset.mem_univ _)).trans ?_
  rw [slotBlk_emb]
  refine Eq.trans ?_ (congrArg (fun p => workAt m p (ix2 ⟨32 * (nxt c d).val + r.val, slot_lt _ r⟩ k)) (prv_nxt c d).symm)
  exact congrArg (workAt m c) (workBlk_emb (nxt c d) r k)

/-- A landed all-gather copy: the sender's rows of the result, the same everywhere. -/
theorem out_landed (c n : Fin 16) (fd : Buf (Elt F) ((n : Thread nD τ).loc cc0_stg5_0)) :
    ∀ i ∈ (outBlk c).view.set, (outBlk c).view.write (Elt F) fd ((outBlk c).view.read (Elt F) (outAt m)) Finset.univ i = outAt m i := by
  refine eq_on_block fun r k => ?_
  exact View.write_emb_of_mem _ _ (Finset.mem_univ _)

/-! ## Disjoint and covering -/

abbrev workSet (b : Fin 16) : Finset (cc0_scratch1 : Ref sig .tc).ty.shape.Idx := (workBlk b).view.set
abbrev slotSet (b : Fin 16) : Finset (cc0_scratch2 : Ref sig .tc).ty.shape.Idx := (slotBlk b).view.set
abbrev outSet (b : Fin 16) : Finset (cc0_stg5_0 : Ref sig .tc).ty.shape.Idx := (outBlk b).view.set

theorem work_disj (b b' : Fin 16) (h : b ≠ b') : Disjoint (workSet b) (workSet b') :=
  Finset.disjoint_left.mpr fun i hi hi' => h (Fin.ext (((mem_workBlk b i).mp hi).symm.trans ((mem_workBlk b' i).mp hi')))
theorem slot_disj (b b' : Fin 16) (h : b ≠ b') : Disjoint (slotSet b) (slotSet b') :=
  Finset.disjoint_left.mpr fun i hi hi' => h (Fin.ext (((mem_slotBlk b i).mp hi).symm.trans ((mem_slotBlk b' i).mp hi')))
theorem out_disj (b b' : Fin 16) (h : b ≠ b') : Disjoint (outSet b) (outSet b') :=
  Finset.disjoint_left.mpr fun i hi hi' => h (Fin.ext (((mem_outBlk b i).mp hi).symm.trans ((mem_outBlk b' i).mp hi')))

theorem workRow_lt (r : Fin 512) : r.val / 32 < 16 := by have := r.isLt; omega
theorem work_cover : Finset.univ.biUnion workSet = Finset.univ :=
  Finset.eq_univ_of_forall fun i => Finset.mem_biUnion.mpr
    ⟨⟨(i 0).val / 32, workRow_lt (i 0)⟩, Finset.mem_univ _, (mem_workBlk ⟨(i 0).val / 32, workRow_lt (i 0)⟩ i).mpr rfl⟩
theorem slot_cover : Finset.univ.biUnion slotSet = Finset.univ :=
  Finset.eq_univ_of_forall fun i => Finset.mem_biUnion.mpr
    ⟨⟨(i 0).val, (i 0).isLt⟩, Finset.mem_univ _, (mem_slotBlk _ i).mpr rfl⟩
theorem out_cover : Finset.univ.biUnion outSet = Finset.univ :=
  Finset.eq_univ_of_forall fun i => Finset.mem_biUnion.mpr
    ⟨⟨8 * (i 0).val + (i 1).val / 32, own_lt (i 0) (i 1)⟩, Finset.mem_univ _, (mem_outBlk _ i).mpr rfl⟩

omit [FloatOps F] in
theorem work_blocks (c : Dev nD) (f : Buf (Elt F) ((c : Thread nD τ).loc cc0_scratch1)) :
    (((c : Thread nD τ).loc cc0_scratch1) ↦{fullShare} f : sProp 𝕄) = bigSep Finset.univ fun b : Fin 16 => workPts c b f :=
  Ring.pointsTo_blocks (ℓ := (c : Thread nD τ).loc cc0_scratch1) workSet work_disj work_cover f
omit [FloatOps F] in
theorem slot_blocks (c : Dev nD) (f : Buf (Elt F) ((c : Thread nD τ).loc cc0_scratch2)) :
    (((c : Thread nD τ).loc cc0_scratch2) ↦{fullShare} f : sProp 𝕄) = bigSep Finset.univ fun b : Fin 16 => slotPts c b f :=
  Ring.pointsTo_blocks (ℓ := (c : Thread nD τ).loc cc0_scratch2) slotSet slot_disj slot_cover f
omit [FloatOps F] in
theorem out_blocks (c : Dev nD) (q : PosShare TreeShare) (f : Buf (Elt F) ((c : Thread nD τ).loc cc0_stg5_0)) :
    (((c : Thread nD τ).loc cc0_stg5_0) ↦{q} f : sProp 𝕄) = bigSep Finset.univ fun b : Fin 16 => outPts c b q f :=
  Ring.pointsTo_blocks (ℓ := (c : Thread nD τ).loc cc0_stg5_0) outSet out_disj out_cover f

omit [FloatOps F] in
/-- The share of a block in sixteen. -/
theorem out_leaves (c : Dev nD) (b : Fin 16) (f : Buf (Elt F) ((c : Thread nD τ).loc cc0_stg5_0)) :
    outPts c b fullShare f = bigSep Finset.univ fun d : Fin 16 => outPts (F := F) c b (leafAt d) f :=
  ShareLeaves.pointsTo_leaves _ f 4 fullShare

end Cert.KProof
-- ==== Proof.Steps.lean ====
/-
One lemma per kind of step of the protocol, at a device `c` and a distance `d` that are variables: a signal, the
barrier wait, the two copies, a wait for a copy's end.
-/
module

public import proofs.«01_k».proof.Proof.Geom

@[expose] public section

set_option maxRecDepth 10000

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_out {I : Type} [DecidableEq I] {S : Finset I} {i : I} (h : i ∈ S) (Φ : I → sProp 𝕄) :
    bigSep S Φ = iprop(Φ i ∗ bigSep (S.erase i) Φ) := bigSep_erase h
omit [FloatOps F] in
theorem bigSep_put {I : Type} [DecidableEq I] {S : Finset I} {i : I} (h : i ∉ S) (Φ : I → sProp 𝕄) :
    bigSep (insert i S) Φ = iprop(Φ i ∗ bigSep S Φ) := bigSep_insert h

abbrev 𝒱₀ : Variants := Variants.none

/-- A program of device `c`'s core establishes `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows: all cells' invariants, that all are at round 0, the levels -/

def recs (K : Dev nD × CK → ℕ) : sProp 𝕄 :=
  bigSep Finset.univ fun ck : Dev nD × CK => iprop(cellInv ER (sched (F := F) m) (K ck) (kcell ck) ∗ reached ER (kcell ck) 0)
instance recs_persistent (K : Dev nD × CK → ℕ) : BI.Persistent (recs m K) := by unfold recs; infer_instance

def ctx (K : Dev nD × CK → ℕ) : sProp 𝕄 := iprop(recs m K ∗ levAts L lv)
instance ctx_persistent (K : Dev nD × CK → ℕ) : BI.Persistent (ctx m K) := by unfold ctx; infer_instance

variable (K : Dev nD × CK → ℕ)

theorem ctx_cell (ck : Dev nD × CK) : ctx m K ⊢ iprop(cellInv ER (sched (F := F) m) (K ck) (kcell ck) ∗ reached ER (kcell ck) 0) := by
  unfold ctx recs
  exact (sep_elim_left (PROP := sProp 𝕄)).trans (bigSep_elim (Finset.mem_univ ck))
theorem ctx_lev : ctx m K ⊢ levAts L lv := by unfold ctx; exact sep_elim_right (PROP := sProp 𝕄)

/-! ## A device's state, by phase -/

/-- What the core still owes. -/
def Ow (c : Dev nD) (B R A : Finset (Fin 16)) : sProp 𝕄 := iprop(∃ W, owes (c : Thread nD τ) (owed c B R A) W)

/-- For the signals at the distances `S`: the duty and what it hands over. -/
def sigTodo (c : Dev nD) (S : Finset (Fin 16)) : sProp 𝕄 :=
  bigSep S fun d => iprop(dutyTok ER (barCell (nxt c d)) 0 c ∗ barPay (nxt c d) c)

/-- For the copies of the reduce-scatter at the distances `S`: both ends' duties and the place to write. -/
def rsTodo (c : Dev nD) (S : Finset (Fin 16)) : sProp 𝕄 :=
  bigSep S fun d => iprop(dutyTok ER (xCell 0 d c) 0 0 ∗ dutyTok ER (xCell 1 d (nxt c d)) 0 0 ∗ ∃ f, slotPts (F := F) (nxt c d) d f)

/-- For the copies of the all-gather at the distances `S`: both ends' duties, the place to write, a share of the rows to read. -/
def agTodo (c : Dev nD) (S : Finset (Fin 16)) : sProp 𝕄 :=
  bigSep S fun d => iprop(dutyTok ER (xCell 2 d c) 0 0 ∗ dutyTok ER (xCell 3 d (nxt c d)) 0 0
    ∗ (∃ f, outPts (F := F) (nxt c d) c fullShare f) ∗ outPts c c (leafAt d) (outAt m))

/-- The credits of array `k` at the distances `S`. -/
def creds (c : Dev nD) (k : Fin 4) (S : Finset (Fin 16)) : sProp 𝕄 :=
  bigSep S fun d => cred (tallyAt (xCell k d c) () (NX k))

/-- Rows of the partial product in blocks `S`. -/
def workHeld (c : Dev nD) (S : Finset (Fin 16)) : sProp 𝕄 := bigSep S fun b => workPts c b (workAt m c)

/-- For the waits on array `k` at the distances `S`: position and credit. -/
def waitTodo (c : Dev nD) (k : Fin 4) (S : Finset (Fin 16)) : sProp 𝕄 :=
  bigSep S fun d => iprop(atPos ER (xCell k d c) 0 ∅ 0 ∗ cred (tallyAt (xCell k d c) () (NX k)))

/-- After those waits: what the copies handed over, the semaphores at zero. -/
def waitDone (c : Dev nD) (k : Fin 4) (S : Finset (Fin 16)) : sProp 𝕄 :=
  bigSep S fun d => iprop(semVal (xCell k d c) 0 ∗ xPay m (k.val + 1) d c)

theorem level_lt (k : Fin 4) (h : k ≠ 3) : (if k = 1 then 2 else if k = 3 then 3 else 0) < 3 := by revert k; decide

theorem mayWait_bar (c : Dev nD) : ctx m K ⊢ MayWait (c : Thread nD τ) (.reg barS) () (owed c ∅ NZ NZ) := by
  refine BI.Entails.trans (ctx_lev m K) ?_
  exact mayWait_owed c (.reg barS) ∅ NZ NZ 1 (lv_bar c).le (fun d hd => absurd hd (Finset.notMem_empty d))
    (fun _ _ => Nat.lt_succ_self 1) (fun _ _ => Nat.lt_succ_of_lt (Nat.lt_succ_self 1))
theorem mayWait_x (c : Dev nD) (k : Fin 4) (d : Fin 16) (A : Finset (Fin 16)) (hA : ∀ a ∈ A, k ≠ 3) :
    ctx m K ⊢ MayWait (c : Thread nD τ) (.dma (xS k d)) () (owed c ∅ ∅ A) := by
  refine BI.Entails.trans (ctx_lev m K) ?_
  refine mayWait_owed c (.dma (xS k d)) ∅ ∅ A (if k = 1 then 2 else if k = 3 then 3 else 0) (lv_x k d c).le
    (fun d hd => absurd hd (Finset.notMem_empty d)) (fun d hd => absurd hd (Finset.notMem_empty d)) (fun a ha => level_lt k (hA a ha))

theorem NX_0 : NX 0 = N₁ := if_pos (by decide)
theorem NX_1 : NX 1 = N₁ := if_pos (by decide)
theorem NX_2 : NX 2 = N₂ := if_neg (by decide)
theorem NX_3 : NX 3 = N₂ := if_neg (by decide)
theorem slot_amount (d : Fin 16) : (slotBlk d).view.amount (.dma (xS 1 d)) = N₁ := rfl
theorem out_amount (c d : Fin 16) : (outBlk c).view.amount (.dma (xS 3 d)) = N₂ := rfl

theorem pay_rs_send (c d : Fin 16) :
    ((workBlk (nxt c d)).view.loc (c : Thread nD τ) ↦[(workBlk (nxt c d)).view.set]{fullShare} (workAt m c))
      ⊢ (sched (F := F) m).payload (xCell 0 d c) 0 0 := by
  rw [payload_x]; exact BI.Entails.refl _
theorem pay_rs_recv (c d : Fin 16) (fd : Buf (Elt F) ((nxt c d : Thread nD τ).loc cc0_scratch2)) :
    ((slotBlk d).view.loc (nxt c d : Thread nD τ) ↦[(slotBlk d).view.set]{fullShare}
        ((slotBlk d).view.write (Elt F) fd ((workBlk (nxt c d)).view.read (Elt F) (workAt m c)) Finset.univ))
      ⊢ (sched (F := F) m).payload (xCell 1 d (nxt c d)) 0 0 := by
  rw [payload_x]; exact Entails.of_eq (pointsTo_congr (slot_landed m c d fd))
theorem pay_ag_send (c d : Fin 16) :
    ((outBlk c).view.loc (c : Thread nD τ) ↦[(outBlk c).view.set]{leafAt d} (outAt m)) ⊢ (sched (F := F) m).payload (xCell 2 d c) 0 0 := by
  rw [payload_x]; exact BI.Entails.refl _
theorem pay_ag_recv (c d : Fin 16) (fd : Buf (Elt F) ((nxt c d : Thread nD τ).loc cc0_stg5_0)) :
    ((outBlk c).view.loc (nxt c d : Thread nD τ) ↦[(outBlk c).view.set]{fullShare}
        ((outBlk c).view.write (Elt F) fd ((outBlk c).view.read (Elt F) (outAt m)) Finset.univ))
      ⊢ (sched (F := F) m).payload (xCell 3 d (nxt c d)) 0 0 := by
  rw [payload_x, show xPay m ((3 : Fin 4).val + 1) d (nxt c d) = outPts (F := F) (nxt c d) (prv (nxt c d) d) fullShare (outAt m) from rfl, prv_nxt]
  exact Entails.of_eq (pointsTo_congr (out_landed m c (nxt c d) fd))

/-! ## Steps -/

/-- A unit to the barrier of the device at distance `d`. -/
theorem sig_step {α : Type} {Q : α → sProp 𝕄} {R : sProp 𝕄} (c d : Fin 16) (S : Finset (Fin 16)) (A B : Finset (Fin 16)) (hd : d ∈ S) (hd0 : d ≠ 0) {n : Dev nD} (hn : n = nxt c d) {k' : ℕ} (hk : 1 = k')
    {k : PUnit → Prog (TpuEff nD τ sig (Elt F) Λ₀ .tc) α}
    (h : iprop(ctx m K ∗ Ow c (S.erase d) A B ∗ sigTodo c (S.erase d) ∗ R) ⊢ runs c (k ⟨⟩) Q) :
    iprop(ctx m K ∗ Ow c S A B ∗ sigTodo c S ∗ R) ⊢ runs c (.op (.semSignal (Dev.tc n : Thread nD τ) barS k') k) Q := by
  subst hn
  unfold Ow sigTodo
  rw [bigSep_out hd]
  iintro ⟨#Hc, ⟨%W, HO⟩, ⟨⟨Ht, Hp⟩, HS⟩, HR⟩
  ihave #Hk := (ctx_cell (F := F) m K ((nxt c d, none) : Dev nD × CK)) $$ Hc
  icases Hk with ⟨#HI, #Hr⟩
  iapply (Rounds.wp_signal 𝒱₀ ER (sched (F := F) m) (c : Thread nD τ) none (dst := (nxt c d : Thread nD τ)) (κ := K (nxt c d, none))
      (d := c) (by rw [duties_bar]; exact Finset.mem_erase.mpr ⟨(nxt_ne c d hd0).symm, Finset.mem_univ _⟩)
      ((amount_bar m (nxt c d) c).trans hk) () (O₀ := owed c S A B) (owed c (S.erase d) A B) (by rw [owed_bar c S A B hd, hk])) $$ [HO Ht Hp]
  · isplitr; · iexact HI
    isplitl [HO]; · iexact HO
    isplitl [Ht]; · iexact Ht
    isplitl [Hp]; · rw [payload_bar]; iexact Hp
    iexact Hr
  iintro HO
  iapply h
  unfold Ow sigTodo
  isplitr; · iexact Hc
  isplitl [HO]; · iexists W; iexact HO
  isplitl [HS] <;> iassumption

/-- The barrier wait: every other device's two places to write. -/
theorem bar_step {α : Type} {Q : α → sProp 𝕄} {R : sProp 𝕄} (c : Fin 16) {k' : ℕ} (hk : k' = 15) {k : PUnit → Prog (TpuEff nD τ sig (Elt F) Λ₀ .tc) α}
    (h : iprop(ctx m K ∗ Ow c ∅ NZ NZ ∗ semVal (barCell c) 0
      ∗ bigSep NZ (fun d => iprop((∃ f, slotPts (F := F) (nxt c d) d f) ∗ (∃ f, outPts (F := F) (nxt c d) c fullShare f))) ∗ R) ⊢ runs c (k ⟨⟩) Q) :
    iprop(ctx m K ∗ Ow c ∅ NZ NZ ∗ cred (tallyAt (barCell c) () 15) ∗ atPos ER (barCell c) 0 ∅ 0 ∗ R)
      ⊢ runs c (.op (.semWait barS k') k) Q := by
  subst hk
  unfold Ow
  have hmw := mayWait_bar m K c
  iintro ⟨#Hc, ⟨%W, HO⟩, Hcr, Hat, HR⟩
  ihave #Hk := (ctx_cell (F := F) m K ((c, none) : Dev nD × CK)) $$ Hc
  icases Hk with ⟨#HI, #Hr⟩
  iapply (Rounds.wp_wait_rest_token 𝒱₀ ER (sched (F := F) m) (c : Thread nD τ) none (κ := K (c, none))
      (wpE_semWait_eq 𝒱₀ (c : Thread nD τ) none Set.univ) (Set.mem_univ _) () (O := owed c ∅ NZ NZ) (W := W) (R := 0) (m := 0) (T := ∅)
      ((Nat.zero_add 15).trans (expect_bar m c).symm)) $$ [Hcr HO Hat]
  · isplitr; · iexact HI
    isplitl [Hcr]; · iexact Hcr
    isplitl [HO]; · iexact HO
    isplitr; · iapply hmw; iexact Hc
    iexact Hat
  iintro ⟨HO, Hat, -, Hpay⟩
  imod (Rounds.cell_close ER (sched (F := F) m) (Set.mem_univ (K (c, none))) (fun h => h) (R := 0 + 1) (duties_later m (barCell c))) $$ [Hat] with Hz
  · isplitr; · iexact HI
    iexact Hat
  iapply h
  unfold Ow
  isplitr; · iexact Hc
  isplitl [HO]; · iexists _; iexact HO
  isplitl [Hz]; · iexact Hz
  isplitl [Hpay]
  · iapply (Entails.of_eq (show bigSep (Finset.univ.erase c) (fun p => barPay (F := F) c p)
        = bigSep NZ (fun d => iprop((∃ f, slotPts (F := F) (nxt c d) d f) ∗ (∃ f, outPts (F := F) (nxt c d) c fullShare f))) by
      rw [← map_around c, bigSep_map]
      refine bigSep_congr fun d _ => ?_
      show barPay c (nxt c d) = _
      unfold barPay; rw [nxt_sub c d]))
    rw [← rest_bar m c]; iexact Hpay
  iexact HR

/-- A wait for a copy's end. -/
theorem wait_step {α : Type} {Q : α → sProp 𝕄} {R : sProp 𝕄} (c : Fin 16) (k4 : Fin 4) (d : Fin 16) (S A : Finset (Fin 16)) (hd : d ∈ S) (hd0 : d ≠ 0) (hA : ∀ a ∈ A, k4 ≠ 3)
    {q : DmaSem sig} (hq : q = xS k4 d)
    {sp sp' : Space} {s s' : Shape} {e e' : EltTy} {src : Memref sig .tc sp' s' e'} {dst : Memref sig .tc sp s e}
    {hsrc : src.view.WordExact} {hdst : dst.view.WordExact} (hN : dst.view.dmaCredit = NX k4)
    {k : PUnit → Prog (TpuEff nD τ sig (Elt F) Λ₀ .tc) α}
    (h : iprop(ctx m K ∗ Ow c ∅ ∅ A ∗ waitTodo c k4 (S.erase d) ∗ waitDone m c k4 (insert d (NZ \ S)) ∗ R) ⊢ runs c (k ⟨⟩) Q) :
    iprop(ctx m K ∗ Ow c ∅ ∅ A ∗ waitTodo c k4 S ∗ waitDone m c k4 (NZ \ S) ∗ R)
      ⊢ runs c (.op (.waitDma2 q src dst hsrc hdst) k) Q := by
  subst hq
  unfold Ow waitTodo waitDone
  rw [bigSep_out hd]
  have hmw := mayWait_x m K c k4 d A hA
  iintro ⟨#Hc, ⟨%W, HO⟩, ⟨⟨Hat, Hcr⟩, HS⟩, HD, HR⟩
  ihave #Hk := (ctx_cell (F := F) m K ((c, some (k4, d)) : Dev nD × CK)) $$ Hc
  icases Hk with ⟨#HI, #Hr⟩
  iapply (Rounds.wp_wait_rest_token 𝒱₀ ER (sched (F := F) m) (c : Thread nD τ) none (κ := K (c, some (k4, d)))
      (wpE_waitDma2_eq 𝒱₀ (c : Thread nD τ) none Set.univ) (Set.mem_univ _) () (O := owed c ∅ ∅ A) (W := W) (R := 0) (m := 0) (T := ∅)
      (by rw [Nat.zero_add, expect_x m c k4 d hd0, hN])) $$ [Hcr HO Hat]
  · isplitr; · iexact HI
    isplitl [Hcr]; · rw [hN]; iexact Hcr
    isplitl [HO]; · iexact HO
    isplitr; · iapply hmw; iexact Hc
    iexact Hat
  iintro ⟨HO, Hat, -, Hpay⟩
  imod (Rounds.cell_close ER (sched (F := F) m) (Set.mem_univ (K (c, some (k4, d)))) (fun h => h) (R := 0 + 1) (duties_later m (xCell k4 d c))) $$ [Hat] with Hz
  · isplitr; · iexact HI
    iexact Hat
  iapply h
  unfold Ow waitTodo waitDone
  isplitr; · iexact Hc
  isplitl [HO]; · iexists _; iexact HO
  isplitl [HS]; · iexact HS
  isplitr [HR]
  · rw [bigSep_put (fun h' => (Finset.mem_sdiff.mp h').2 hd)]
    isplitr [HD]
    · isplitl [Hz]; · iexact Hz
      rw [← rest_x m c k4 d hd0]; iexact Hpay
    iexact HD
  iexact HR

/-- A reduce-scatter copy to the device at distance `d`. -/
theorem rs_step {α : Type} {Q : α → sProp 𝕄} {R : sProp 𝕄} (c d : Fin 16) (S : Finset (Fin 16)) (B : Finset (Fin 16)) (hd : d ∈ S) (hd0 : d ≠ 0) (hb : nxt c d ∈ B)
    {n : Dev nD} (hn : n = nxt c d) {src dst : Memref sig .tc .vmem S32x768 .bf16} (hs : src = workBlk (nxt c d)) (ht : dst = slotBlk d)
    {qs qr : DmaSem sig} (hqs : qs = xS 0 d) (hqr : qr = xS 1 d)
    {hsc : (dst : Memref sig (Dev.tc n : Thread nD τ).2.kind .vmem S32x768 .bf16).view.ref.isScScratch = false}
    {hsrc : src.view.WordExact} {hdst : dst.view.WordExact}
    {hsem : DmaTarget.Typed .vmem (.dma qr) (.remote (Dev.tc n : Thread nD τ) dst (.dma qs) hsc)}
    {k : PUnit → Prog (TpuEff nD τ sig (Elt F) Λ₀ .tc) α}
    (h : iprop(ctx m K ∗ Ow c ∅ (S.erase d) NZ ∗ rsTodo c (S.erase d) ∗ workHeld m c (B.erase (nxt c d)) ∗ creds c 0 (insert d (NZ \ S)) ∗ R) ⊢ runs c (k ⟨⟩) Q) :
    iprop(ctx m K ∗ Ow c ∅ S NZ ∗ rsTodo c S ∗ workHeld m c B ∗ creds c 0 (NZ \ S) ∗ R)
      ⊢ runs c (.op (.enqueueDma src (.remote (Dev.tc n : Thread nD τ) dst (.dma qs) hsc) (.dma qr) hsrc hdst hsem) k) Q := by
  subst hn hs ht hqs hqr
  unfold Ow rsTodo workHeld creds
  rw [bigSep_out hd, bigSep_out hb]
  iintro ⟨#Hc, ⟨%W, HO⟩, ⟨⟨Ht1, Ht2, %fd, Hd⟩, HS⟩, ⟨Hw, HB⟩, HC, HR⟩
  ihave #Hk := (ctx_cell (F := F) m K ((c, some (0, d)) : Dev nD × CK)) $$ Hc
  icases Hk with ⟨#HI1, #Hr1⟩
  ihave #Hk := (ctx_cell (F := F) m K ((nxt c d, some (1, d)) : Dev nD × CK)) $$ Hc
  icases Hk with ⟨#HI2, #Hr2⟩
  unfold workPts slotPts
  iapply (Rounds.wp_send_pointsTo 𝒱₀ ER (sched (F := F) m) (c : Thread nD τ) none (κ₁ := K (c, some (0, d))) (κ₂ := K (nxt c d, some (1, d)))
    (r₁ := 0) (r₂ := 0) (d₁ := 0) (d₂ := 0) (fd := fd) (fs := workAt m c) (q := fullShare) (src := workBlk (nxt c d)) (dst := slotBlk d) (c' := (nxt c d : Thread nD τ))
    (by rw [duties_x m c 0 d hd0]; exact Finset.mem_singleton_self _) (by rw [duties_x m (nxt c d) 1 d hd0]; exact Finset.mem_singleton_self _)
    () () N₁ (slot_amount d) ((amount_x m c 0 d 0).trans NX_0) ((amount_x m (nxt c d) 1 d 0).trans NX_1) (owed c ∅ (S.erase d) NZ) (owed_rs c ∅ S NZ hd) (W := W)
    (pay_rs_send m c d) (pay_rs_recv m c d fd))
    $$ [HO Hw Hd Ht1 Ht2]
  · isplitr; · iexact HI1
    isplitr; · iexact HI2
    isplitl [Hw]; · iexact Hw
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply h
  unfold Ow rsTodo workHeld creds
  isplitr; · iexact Hc
  isplitl [HO]; · iexists W; iexact HO
  isplitl [HS]; · iexact HS
  isplitl [HB]; · iexact HB
  isplitr [HR]
  · rw [bigSep_put (fun h' => (Finset.mem_sdiff.mp h').2 hd)]
    isplitr [HC]; · rw [NX_0]; iexact Hcr
    iexact HC
  iexact HR

/-- An all-gather copy to the device at distance `d`. -/
theorem ag_step {α : Type} {Q : α → sProp 𝕄} {R : sProp 𝕄} (c d : Fin 16) (S : Finset (Fin 16)) (hd : d ∈ S) (hd0 : d ≠ 0)
    {n : Dev nD} (hn : n = nxt c d) {src dst : Memref sig .tc .vmem S32x768 .bf16} (hs : src = outBlk c) (ht : dst = outBlk c)
    {qs qr : DmaSem sig} (hqs : qs = xS 2 d) (hqr : qr = xS 3 d)
    {hsc : (dst : Memref sig (Dev.tc n : Thread nD τ).2.kind .vmem S32x768 .bf16).view.ref.isScScratch = false}
    {hsrc : src.view.WordExact} {hdst : dst.view.WordExact}
    {hsem : DmaTarget.Typed .vmem (.dma qr) (.remote (Dev.tc n : Thread nD τ) dst (.dma qs) hsc)}
    {k : PUnit → Prog (TpuEff nD τ sig (Elt F) Λ₀ .tc) α}
    (h : iprop(ctx m K ∗ Ow c ∅ ∅ (S.erase d) ∗ agTodo m c (S.erase d) ∗ creds c 2 (insert d (NZ \ S)) ∗ R) ⊢ runs c (k ⟨⟩) Q) :
    iprop(ctx m K ∗ Ow c ∅ ∅ S ∗ agTodo m c S ∗ creds c 2 (NZ \ S) ∗ R)
      ⊢ runs c (.op (.enqueueDma src (.remote (Dev.tc n : Thread nD τ) dst (.dma qs) hsc) (.dma qr) hsrc hdst hsem) k) Q := by
  subst hn hs ht hqs hqr
  unfold Ow agTodo creds
  rw [bigSep_out hd]
  iintro ⟨#Hc, ⟨%W, HO⟩, ⟨⟨Ht1, Ht2, ⟨%fd, Hd⟩, Hw⟩, HS⟩, HC, HR⟩
  ihave #Hk := (ctx_cell (F := F) m K ((c, some (2, d)) : Dev nD × CK)) $$ Hc
  icases Hk with ⟨#HI1, #Hr1⟩
  ihave #Hk := (ctx_cell (F := F) m K ((nxt c d, some (3, d)) : Dev nD × CK)) $$ Hc
  icases Hk with ⟨#HI2, #Hr2⟩
  unfold outPts
  iapply (Rounds.wp_send_pointsTo 𝒱₀ ER (sched (F := F) m) (c : Thread nD τ) none (κ₁ := K (c, some (2, d))) (κ₂ := K (nxt c d, some (3, d)))
    (r₁ := 0) (r₂ := 0) (d₁ := 0) (d₂ := 0) (fd := fd) (fs := outAt m) (q := leafAt d) (src := outBlk c) (dst := outBlk c) (c' := (nxt c d : Thread nD τ))
    (by rw [duties_x m c 2 d hd0]; exact Finset.mem_singleton_self _) (by rw [duties_x m (nxt c d) 3 d hd0]; exact Finset.mem_singleton_self _)
    () () N₂ (out_amount c d) ((amount_x m c 2 d 0).trans NX_2) ((amount_x m (nxt c d) 3 d 0).trans NX_3) (owed c ∅ ∅ (S.erase d)) (owed_ag c ∅ ∅ S hd) (W := W)
    (pay_ag_send m c d) (pay_ag_recv m c d fd))
    $$ [HO Hw Hd Ht1 Ht2]
  · isplitr; · iexact HI1
    isplitr; · iexact HI2
    isplitl [Hw]; · iexact Hw
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply h
  unfold Ow agTodo creds
  isplitr; · iexact Hc
  isplitl [HO]; · iexists W; iexact HO
  isplitl [HS]; · iexact HS
  isplitr [HR]
  · rw [bigSep_put (fun h' => (Finset.mem_sdiff.mp h').2 hd)]
    isplitr [HC]; · rw [NX_2]; iexact Hcr
    iexact HC
  iexact HR

end Cert.KProof
-- ==== Proof.Compute.lean ====
/-
The steps that touch only a device's own memory: loads of the operands, the stores of the heads, of a batch's partial
product, of the own slot and of the own rows of the result. Each is stated once, for a batch `b` and a head `h` that
are variables.
-/
module

public import proofs.«01_k».proof.Proof.Steps

@[expose] public section

set_option maxRecDepth 10000

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

omit [FloatOps F] in
theorem via {P Q R : sProp 𝕄} (h : P ⊢ Q) (h' : Q ⊢ R) : P ⊢ R := h.trans h'

omit [FloatOps F] in
theorem bigSep_two {I : Type} [DecidableEq I] {S T : Finset I} (h : Disjoint S T) (Φ : I → sProp 𝕄) :
    bigSep (S ∪ T) Φ = iprop(bigSep S Φ ∗ bigSep T Φ) := bigSep_union h

/-! ## A load and a store in a program's frame -/

theorem load_step {α : Type} {Q : α → sProp 𝕄} {R : sProp 𝕄} (c : Dev nD) {cs : CoreSpace} {s : Shape} {e : EltTy} (M : Memref sig .tc cs s e) (r : Rect s)
    {hl : M.view.LoadsAt r.toLoadRect} {k : (r.toLoadRect.shape.Idx → Elt F e) → Prog (TpuEff nD τ sig (Elt F) Λ₀ .tc) α}
    {S : Finset (Idx ((M.access r).loc (c : Thread nD τ)))} {q : PosShare TreeShare} {f : Buf (Elt F) ((M.access r).loc (c : Thread nD τ))}
    (hS : (M.access r).set ⊆ S)
    (h : iprop(ctx m K ∗ ((M.access r).loc (c : Thread nD τ) ↦[S]{q} f) ∗ R) ⊢ runs c (k ((M.access r).read (Elt F) f)) Q) :
    iprop(ctx m K ∗ ((M.access r).loc (c : Thread nD τ) ↦[S]{q} f) ∗ R) ⊢ runs c (.op (.load M r.toLoadRect hl) k) Q := by
  iintro ⟨#Hc, Hp, HR⟩
  iapply (wp_load_rect 𝒱₀ (c : Thread nD τ) none Set.univ (m := M) (r := r) hS) $$ Hp
  iintro Hp
  iapply h
  isplitr; · iexact Hc
  isplitl [Hp] <;> iassumption

theorem store_step {α : Type} {Q : α → sProp 𝕄} {R : sProp 𝕄} (c : Dev nD) {cs : CoreSpace} {s : Shape} {e : EltTy} (M : Memref sig .tc cs s e) (r : Rect s)
    {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α}
    {S : Finset (Idx ((M.access r).loc (c : Thread nD τ)))} {f : Buf (Elt F) ((M.access r).loc (c : Thread nD τ))}
    (hS : (M.access r).set ⊆ S)
    (h : iprop(ctx m K ∗ ((M.access r).loc (c : Thread nD τ) ↦[S]{fullShare} ((M.access r).write (Elt F) f w Finset.univ)) ∗ R) ⊢ runs c (k ⟨⟩) Q) :
    iprop(ctx m K ∗ ((M.access r).loc (c : Thread nD τ) ↦[S]{fullShare} f) ∗ R) ⊢ runs c (.op (.store M r w Finset.univ hx hm) k) Q := by
  iintro ⟨#Hc, Hp, HR⟩
  iapply (wp_store 𝒱₀ (c : Thread nD τ) none Set.univ (m := M) (r := r) (Mk := Finset.univ) hS) $$ Hp
  iintro Hp
  iapply h
  isplitr; · iexact Hc
  isplitl [Hp] <;> iassumption

/-! ## Where the kernel's rectangles lie -/

theorem attn_emb {off sz : Fin 2 → ℕ} (hin : ∀ a, off a + sz a ≤ S512x512.size a) (x : (⟨2, sz⟩ : Shape).Idx) (a : Fin 2) :
    ((attnM.access (Rect.unit (s := S512x512) off sz hin)).emb x a : ℕ) = off a + (x a).val :=
  ValueKit.view_emb_slice_whole_unit_val cc0_scratch0 _ _ _ _ a
theorem work_emb {off sz : Fin 2 → ℕ} (hin : ∀ a, off a + sz a ≤ S512x768.size a) (x : (⟨2, sz⟩ : Shape).Idx) (a : Fin 2) :
    ((workM.access (Rect.unit (s := S512x768) off sz hin)).emb x a : ℕ) = off a + (x a).val :=
  ValueKit.view_emb_slice_whole_unit_val cc0_scratch1 _ _ _ _ a
theorem rs_emb {off sz : Fin 3 → ℕ} (hin : ∀ a, off a + sz a ≤ S16x32x768.size a) (x : (⟨3, sz⟩ : Shape).Idx) (a : Fin 3) :
    ((rsM.access (Rect.unit (s := S16x32x768) off sz hin)).emb x a : ℕ) = off a + (x a).val :=
  ValueKit.view_emb_slice_whole_unit_val cc0_scratch2 _ _ _ _ a
theorem out_emb {off sz : Fin 3 → ℕ} (hin : ∀ a, off a + sz a ≤ S2x256x768.size a) (x : (⟨3, sz⟩ : Shape).Idx) (a : Fin 3) :
    ((outM.access (Rect.unit (s := S2x256x768) off sz hin)).emb x a : ℕ) = off a + (x a).val :=
  ValueKit.view_emb_slice_whole_unit_val cc0_stg5_0 _ _ _ _ a

theorem attn_mem {off sz : Fin 2 → ℕ} (hin : ∀ a, off a + sz a ≤ S512x512.size a) (i : (cc0_scratch0 : Ref sig .tc).ty.shape.Idx) :
    i ∈ (attnM.access (Rect.unit (s := S512x512) off sz hin)).set
      ↔ (off 0 ≤ (i 0).val ∧ (i 0).val < off 0 + sz 0) ∧ (off 1 ≤ (i 1).val ∧ (i 1).val < off 1 + sz 1) :=
  ValueKit.mem_set_slice_whole_iff cc0_scratch0 _ i (Rect.mem_set_unit.trans Fin.forall_fin_two)
theorem work_mem {off sz : Fin 2 → ℕ} (hin : ∀ a, off a + sz a ≤ S512x768.size a) (i : (cc0_scratch1 : Ref sig .tc).ty.shape.Idx) :
    i ∈ (workM.access (Rect.unit (s := S512x768) off sz hin)).set
      ↔ (off 0 ≤ (i 0).val ∧ (i 0).val < off 0 + sz 0) ∧ (off 1 ≤ (i 1).val ∧ (i 1).val < off 1 + sz 1) :=
  ValueKit.mem_set_slice_whole_iff cc0_scratch1 _ i (Rect.mem_set_unit.trans Fin.forall_fin_two)
/-! ## The heads' buffer -/

theorem attnRow_lt (b : Fin 2) (r : Fin 256) : 256 * b.val + r.val < 512 := by have := r.isLt; have := b.isLt; omega
theorem attnCol_lt (h : Fin 8) (k : Fin 64) : 64 * h.val + k.val < 512 := by have := h.isLt; have := k.isLt; omega

/-- The heads' buffer once batch `b`'s first `n` heads are stored. -/
def Attn (c : Dev nD) (b : Fin 2) (n : ℕ) : sProp 𝕄 :=
  iprop(∃ f : Buf (Elt F) ((c : Thread nD τ).loc cc0_scratch0),
    ⌜∀ (r : Fin 256) (k : Fin 512), k.val < 64 * n → f (ix2 ⟨256 * b.val + r.val, attnRow_lt b r⟩ k) = attnB m c b (ix2 r k)⌝
    ∗ (c : Thread nD τ).loc cc0_scratch0 ↦{fullShare} f)

theorem attnB_head (c : Dev nD) (b : Fin 2) (h : Fin 8) (r : Fin 256) (k : Fin 64) :
    attnB m c b (ix2 r ⟨64 * h.val + k.val, attnCol_lt h k⟩)
      = headOut h (k0_pay6 (wqIn m c) (xBatch b (xIn m c))) (k0_pay7 (wkIn m c) (xBatch b (xIn m c))) (k0_pay8 (wvIn m c) (xBatch b (xIn m c))) (ix2 r k) := by
  have hk := k.isLt
  have h1 : (⟨(64 * h.val + k.val) / 64, by have := h.isLt; omega⟩ : Fin 8) = h := Fin.ext (by show (64 * h.val + k.val) / 64 = h.val; omega)
  have h2 : (⟨(64 * h.val + k.val) % 64, Nat.mod_lt _ (by decide)⟩ : Fin 64) = k := Fin.ext (by show (64 * h.val + k.val) % 64 = k.val; omega)
  show headOut (⟨(64 * h.val + k.val) / 64, _⟩ : Fin 8) _ _ _ (ix2 r ⟨(64 * h.val + k.val) % 64, _⟩) = _
  rw [h1, h2]

/-- A load from the heads' buffer whose value is not looked at. -/
theorem attn_skip {α : Type} {Q : α → sProp 𝕄} {R : sProp 𝕄} (c : Dev nD) (b : Fin 2) (n : ℕ) (r : Rect S512x512)
    {hl : attnM.view.LoadsAt r.toLoadRect} {k : (r.toLoadRect.shape.Idx → Elt F .bf16) → Prog (TpuEff nD τ sig (Elt F) Λ₀ .tc) α}
    (h : ∀ v, iprop(ctx m K ∗ Attn m c b n ∗ R) ⊢ runs c (k v) Q) :
    iprop(ctx m K ∗ Attn m c b n ∗ R) ⊢ runs c (.op (.load attnM r.toLoadRect hl) k) Q := by
  unfold Attn
  iintro ⟨#Hc, ⟨%f, %hf, Hp⟩, HR⟩
  iapply (wp_load_rect 𝒱₀ (c : Thread nD τ) none Set.univ (m := attnM) (r := r) (Finset.subset_univ _)) $$ Hp
  iintro Hp
  iapply (h _)
  isplitr; · iexact Hc
  isplitr [HR]
  · unfold Attn; iexists f; isplitr; · ipureintro; exact hf
    iexact Hp
  iexact HR

theorem attn_after (c : Dev nD) (b : Fin 2) (h : Fin 8) {off : Fin 2 → ℕ} (ho : off = ![256 * b.val, 64 * h.val])
    (hin : ∀ a, off a + S256x64.size a ≤ S512x512.size a)
    (f : Buf (Elt F) ((c : Thread nD τ).loc cc0_scratch0))
    (hf : ∀ (r : Fin 256) (k : Fin 512), k.val < 64 * h.val → f (ix2 ⟨256 * b.val + r.val, attnRow_lt b r⟩ k) = attnB m c b (ix2 r k))
    (w : Vec F S256x64 .bf16)
    (hw : w = headOut h (k0_pay6 (wqIn m c) (xBatch b (xIn m c))) (k0_pay7 (wkIn m c) (xBatch b (xIn m c))) (k0_pay8 (wvIn m c) (xBatch b (xIn m c))))
    (r : Fin 256) (k : Fin 512) (hk : k.val < 64 * (h.val + 1)) :
    (attnM.access (Rect.unit (s := S512x512) off S256x64.size hin)).write (Elt F) f w Finset.univ (ix2 ⟨256 * b.val + r.val, attnRow_lt b r⟩ k)
      = attnB m c b (ix2 r k) := by
  subst ho hw
  rcases Nat.lt_or_ge k.val (64 * h.val) with hlt | hge
  · rw [View.write_of_not_mem]
    · exact hf r k hlt
    · intro hm
      have := ((attn_mem hin _).mp hm).2.1
      exact absurd hlt (Nat.not_lt.mpr this)
  · have hx : k.val - 64 * h.val < 64 := by omega
    have hi : (attnM.access (Rect.unit (s := S512x512) ![256 * b.val, 64 * h.val] S256x64.size hin)).emb (ix2 r ⟨k.val - 64 * h.val, hx⟩)
        = (ix2 ⟨256 * b.val + r.val, attnRow_lt b r⟩ k : (cc0_scratch0 : Ref sig .tc).ty.shape.Idx) := by
      funext a
      refine Fin.ext ((attn_emb hin _ a).trans ?_)
      fin_cases a
      · rfl
      · show 64 * h.val + (k.val - 64 * h.val) = k.val; omega
    rw [← hi]
    refine (View.write_emb_of_mem _ _ (Finset.mem_univ _)).trans ?_
    refine (attnB_head m c b h r ⟨k.val - 64 * h.val, hx⟩).symm.trans ?_
    refine congrArg (fun k' => attnB m c b (ix2 r k')) (Fin.ext ?_)
    show 64 * h.val + (k.val - 64 * h.val) = k.val; omega

/-- The store of one head. -/
theorem attn_store {α : Type} {Q : α → sProp 𝕄} {R : sProp 𝕄} (c : Dev nD) (b : Fin 2) (h : Fin 8) {off : Fin 2 → ℕ} (ho : off = ![256 * b.val, 64 * h.val])
    {hin : ∀ a, off a + S256x64.size a ≤ S512x512.size a}
    {w : Vec F S256x64 .bf16}
    (hw : w = headOut h (k0_pay6 (wqIn m c) (xBatch b (xIn m c))) (k0_pay7 (wkIn m c) (xBatch b (xIn m c))) (k0_pay8 (wvIn m c) (xBatch b (xIn m c))))
    {hx : (attnM.access (Rect.unit (s := S512x512) off S256x64.size hin)).Stores Finset.univ} {hm}
    {k : PUnit → Prog (TpuEff nD τ sig (Elt F) Λ₀ .tc) α}
    (hk : iprop(ctx m K ∗ Attn m c b (h.val + 1) ∗ R) ⊢ runs c (k ⟨⟩) Q) :
    iprop(ctx m K ∗ Attn m c b h.val ∗ R)
      ⊢ runs c (.op (.store attnM (Rect.unit (s := S512x512) off S256x64.size hin) w Finset.univ hx hm) k) Q := by
  unfold Attn
  iintro ⟨#Hc, ⟨%f, %hf, Hp⟩, HR⟩
  iapply (wp_store 𝒱₀ (c : Thread nD τ) none Set.univ (m := attnM) (r := Rect.unit (s := S512x512) off S256x64.size hin) (Mk := Finset.univ) (Finset.subset_univ _)) $$ Hp
  iintro Hp
  iapply hk
  isplitr; · iexact Hc
  isplitr [HR]
  · unfold Attn; iexists _; isplitr
    · ipureintro; exact attn_after m c b h ho hin f hf w hw
    iexact Hp
  iexact HR

theorem attn_read (c : Dev nD) (b : Fin 2) (hin : ∀ a, (![256 * b.val, 0] : Fin 2 → ℕ) a + S256x512.size a ≤ S512x512.size a)
    (f : Buf (Elt F) ((c : Thread nD τ).loc cc0_scratch0))
    (hf : ∀ (r : Fin 256) (k : Fin 512), k.val < 64 * 8 → f (ix2 ⟨256 * b.val + r.val, attnRow_lt b r⟩ k) = attnB m c b (ix2 r k)) :
    (attnM.access (Rect.unit (s := S512x512) ![256 * b.val, 0] S256x512.size hin)).read (Elt F) f = attnB m c b := by
  funext x
  show f ((attnM.access (Rect.unit (s := S512x512) ![256 * b.val, 0] S256x512.size hin)).emb x) = _
  have hi : (attnM.access (Rect.unit (s := S512x512) ![256 * b.val, 0] S256x512.size hin)).emb x
      = (ix2 ⟨256 * b.val + (x 0).val, attnRow_lt b (x 0)⟩ (x 1) : (cc0_scratch0 : Ref sig .tc).ty.shape.Idx) := by
    funext a
    refine Fin.ext ((attn_emb hin _ a).trans ?_)
    fin_cases a
    · rfl
    · exact Nat.zero_add _
  rw [hi]
  refine (hf (x 0) (x 1) (x 1).isLt).trans ?_
  exact congrArg (attnB m c b) (eq_ix2 x).symm

/-- The load of a batch's eight heads. -/
theorem attn_load {α : Type} {Q : α → sProp 𝕄} {R : sProp 𝕄} (c : Dev nD) (b : Fin 2) {off : Fin 2 → ℕ} (ho : off = ![256 * b.val, 0])
    {hin : ∀ a, off a + S256x512.size a ≤ S512x512.size a}
    {hl : attnM.view.LoadsAt (Rect.unit (s := S512x512) off S256x512.size hin).toLoadRect}
    {k : Vec F S256x512 .bf16 → Prog (TpuEff nD τ sig (Elt F) Λ₀ .tc) α}
    (hk : iprop(ctx m K ∗ Attn m c b 8 ∗ R) ⊢ runs c (k (attnB m c b)) Q) :
    iprop(ctx m K ∗ Attn m c b 8 ∗ R) ⊢ runs c (.op (.load attnM (Rect.unit (s := S512x512) off S256x512.size hin).toLoadRect hl) k) Q := by
  subst ho
  unfold Attn
  iintro ⟨#Hc, ⟨%f, %hf, Hp⟩, HR⟩
  iapply (wp_load_rect 𝒱₀ (c : Thread nD τ) none Set.univ (m := attnM) (r := Rect.unit (s := S512x512) ![256 * b.val, 0] S256x512.size hin) (Finset.subset_univ _)) $$ Hp
  iintro Hp
  rw [attn_read m c b hin f hf]
  iapply hk
  isplitr; · iexact Hc
  isplitr [HR]
  · unfold Attn; iexists f; isplitr; · ipureintro; exact hf
    iexact Hp
  iexact HR

/-! ## The partial product -/

/-- The rows of batch `b`, and the sixteen-row-block numbers in it. -/
def half (b : Fin 2) : Finset (cc0_scratch1 : Ref sig .tc).ty.shape.Idx := Finset.univ.filter fun i => (i 0).val / 256 = b.val
def blocksOf (b : Fin 2) : Finset (Fin 16) := Finset.univ.filter fun t => t.val / 8 = b.val

theorem half_eq (b : Fin 2) : half b = (blocksOf b).biUnion workSet := by
  ext i
  unfold half blocksOf
  rw [Finset.mem_filter, Finset.mem_biUnion]
  constructor
  · rintro ⟨-, h⟩
    refine ⟨⟨(i 0).val / 32, workRow_lt (i 0)⟩, Finset.mem_filter.mpr ⟨Finset.mem_univ _, ?_⟩, (mem_workBlk ⟨(i 0).val / 32, workRow_lt (i 0)⟩ i).mpr rfl⟩
    show (i 0).val / 32 / 8 = b.val
    omega
  · rintro ⟨t, ht, hi⟩
    have h1 := (Finset.mem_filter.mp ht).2
    have h2 := (mem_workBlk t i).mp hi
    exact ⟨Finset.mem_univ _, by omega⟩

/-- Half of the partial product's buffer, at some contents. -/
def WorkH (c : Dev nD) (b : Fin 2) : sProp 𝕄 :=
  iprop(∃ f : Buf (Elt F) ((c : Thread nD τ).loc cc0_scratch1), (c : Thread nD τ).loc cc0_scratch1 ↦[half b]{fullShare} f)

theorem halves : (Finset.univ : Finset (cc0_scratch1 : Ref sig .tc).ty.shape.Idx) = half 0 ∪ half 1 := by
  refine (Finset.eq_univ_of_forall fun i => ?_).symm
  rw [Finset.mem_union]
  unfold half
  have hi : (i 0).val < 512 := (i 0).isLt
  rcases Nat.lt_or_ge (i 0).val 256 with h | h
  · exact .inl (Finset.mem_filter.mpr ⟨Finset.mem_univ _, by show _ = 0; omega⟩)
  · exact .inr (Finset.mem_filter.mpr ⟨Finset.mem_univ _, by show _ = 1; omega⟩)
theorem halves_disj : Disjoint (half 0) (half 1) := by
  refine Finset.disjoint_left.mpr fun i h0 h1 => ?_
  have h0 : _ = 0 := (Finset.mem_filter.mp h0).2
  have h1 : _ = 1 := (Finset.mem_filter.mp h1).2
  omega

omit [FloatOps F] in
theorem work_split (c : Dev nD) (f : Buf (Elt F) ((c : Thread nD τ).loc cc0_scratch1)) :
    (((c : Thread nD τ).loc cc0_scratch1) ↦{fullShare} f : sProp 𝕄) ⊢ iprop(WorkH (F := F) c 0 ∗ WorkH (F := F) c 1) := by
  have h := (pointsTo_union (U := UU) (Lvl := ℕ) (Ix := Unit) (Name := ℕ) (ℓ := (c : Thread nD τ).loc cc0_scratch1) (q := fullShare) (f := f) halves_disj).1
  rw [← halves] at h
  refine via h ?_
  unfold WorkH
  iintro ⟨H0, H1⟩
  isplitl [H0]
  · iexists f; iexact H0
  · iexists f; iexact H1

omit [FloatOps F] in
theorem half_blocks (c : Dev nD) (b : Fin 2) (f : Buf (Elt F) ((c : Thread nD τ).loc cc0_scratch1)) :
    (((c : Thread nD τ).loc cc0_scratch1) ↦[half b]{fullShare} f : sProp 𝕄) = bigSep (blocksOf b) fun t : Fin 16 => workPts c t f := by
  rw [half_eq]
  exact pointsTo_biUnion (ℓ := (c : Thread nD τ).loc cc0_scratch1) (blocksOf b) workSet fun t _ t' _ h => work_disj t t' h

theorem half_sub (b : Fin 2) {off : Fin 2 → ℕ} (ho : off = ![256 * b.val, 0]) (hin : ∀ a, off a + S256x768.size a ≤ S512x768.size a) :
    (workM.access (Rect.unit (s := S512x768) off S256x768.size hin)).set ⊆ half b := by
  subst ho
  intro i hi
  have h := ((work_mem hin i).mp hi).1
  have h1 : 256 * b.val ≤ (i 0).val := h.1
  have h2 : (i 0).val < 256 * b.val + 256 := h.2
  exact Finset.mem_filter.mpr ⟨Finset.mem_univ _, by omega⟩

theorem work_skip {α : Type} {Q : α → sProp 𝕄} {R : sProp 𝕄} (c : Dev nD) (b : Fin 2) {off : Fin 2 → ℕ} (ho : off = ![256 * b.val, 0])
    {hin : ∀ a, off a + S256x768.size a ≤ S512x768.size a}
    {hl : workM.view.LoadsAt (Rect.unit (s := S512x768) off S256x768.size hin).toLoadRect}
    {k : Vec F S256x768 .bf16 → Prog (TpuEff nD τ sig (Elt F) Λ₀ .tc) α}
    (h : ∀ v, iprop(ctx m K ∗ WorkH (F := F) c b ∗ R) ⊢ runs c (k v) Q) :
    iprop(ctx m K ∗ WorkH (F := F) c b ∗ R) ⊢ runs c (.op (.load workM (Rect.unit (s := S512x768) off S256x768.size hin).toLoadRect hl) k) Q := by
  have hs := half_sub b ho hin
  unfold WorkH
  iintro ⟨#Hc, ⟨%f, Hp⟩, HR⟩
  iapply (wp_load_rect 𝒱₀ (c : Thread nD τ) none Set.univ (m := workM) (r := Rect.unit (s := S512x768) off S256x768.size hin) hs) $$ Hp
  iintro Hp
  iapply (h _)
  isplitr; · iexact Hc
  isplitr [HR]
  · unfold WorkH; iexists f; iexact Hp
  iexact HR

theorem work_after (c : Dev nD) (b : Fin 2) (hin : ∀ a, (![256 * b.val, 0] : Fin 2 → ℕ) a + S256x768.size a ≤ S512x768.size a)
    (f : Buf (Elt F) ((c : Thread nD τ).loc cc0_scratch1)) (i) (hi : i ∈ half b) :
    (workM.access (Rect.unit (s := S512x768) ![256 * b.val, 0] S256x768.size hin)).write (Elt F) f (workB m c b) Finset.univ i = workAt m c i := by
  have hb : (i 0).val / 256 = b.val := (Finset.mem_filter.mp hi).2
  have h1 : (⟨(i 0).val / 256, row_lt (i 0) rfl⟩ : Fin 2) = b := Fin.ext hb
  have he : (workM.access (Rect.unit (s := S512x768) ![256 * b.val, 0] S256x768.size hin)).emb
      (ix2 (⟨(i 0).val % 256, Nat.mod_lt _ (by decide)⟩ : Fin 256) (i 1)) = i := by
    funext a
    refine Fin.ext ((work_emb hin _ a).trans ?_)
    fin_cases a
    · show 256 * b.val + (i 0).val % 256 = (i 0).val; omega
    · exact Nat.zero_add _
  refine (congrArg _ he.symm).trans ((View.write_emb_of_mem _ _ (Finset.mem_univ _)).trans ?_)
  show workB m c b _ = workB m c ⟨(i 0).val / 256, row_lt (i 0) rfl⟩ _
  rw [h1]

theorem work_store {α : Type} {Q : α → sProp 𝕄} {R : sProp 𝕄} (c : Dev nD) (b : Fin 2) {off : Fin 2 → ℕ} (ho : off = ![256 * b.val, 0])
    {hin : ∀ a, off a + S256x768.size a ≤ S512x768.size a} {w : Vec F S256x768 .bf16} (hw : w = workB m c b)
    {hx : (workM.access (Rect.unit (s := S512x768) off S256x768.size hin)).Stores Finset.univ} {hm}
    {k : PUnit → Prog (TpuEff nD τ sig (Elt F) Λ₀ .tc) α}
    (h : iprop(ctx m K ∗ workHeld m c (blocksOf b) ∗ R) ⊢ runs c (k ⟨⟩) Q) :
    iprop(ctx m K ∗ WorkH (F := F) c b ∗ R) ⊢ runs c (.op (.store workM (Rect.unit (s := S512x768) off S256x768.size hin) w Finset.univ hx hm) k) Q := by
  have hs := half_sub b ho hin
  subst ho hw
  unfold WorkH
  iintro ⟨#Hc, ⟨%f, Hp⟩, HR⟩
  iapply (wp_store 𝒱₀ (c : Thread nD τ) none Set.univ (m := workM) (r := Rect.unit (s := S512x768) ![256 * b.val, 0] S256x768.size hin) (Mk := Finset.univ) hs) $$ Hp
  iintro Hp
  iapply h
  isplitr; · iexact Hc
  isplitr [HR]
  · unfold workHeld
    iapply (Entails.of_eq ((pointsTo_congr (work_after m c b hin f)).trans (half_blocks (F := F) c b (workAt m c))))
    iexact Hp
  iexact HR

/-! ## The own slot, the slots -/

theorem slot_set (d : Fin 16) {off : Fin 3 → ℕ} (ho : off = ![d.val, 0, 0]) (hin : ∀ a, off a + S1x32x768.size a ≤ S16x32x768.size a) :
    (rsM.access (Rect.unit (s := S16x32x768) off S1x32x768.size hin)).set ⊆ slotSet d := by
  subst ho
  exact (View.set_reshape _ _).symm.subset

theorem slot_read (c : Dev nD) (d : Fin 16) (hin : ∀ a, (![d.val, 0, 0] : Fin 3 → ℕ) a + S1x32x768.size a ≤ S16x32x768.size a) :
    (rsM.access (Rect.unit (s := S16x32x768) ![d.val, 0, 0] S1x32x768.size hin)).read (Elt F) (slotsAt m c) = slotVec m c d := by
  funext x
  show slotsAt m c ((rsM.access (Rect.unit (s := S16x32x768) ![d.val, 0, 0] S1x32x768.size hin)).emb x) = slotsAt m c _
  congr 1
  funext a
  refine Fin.ext ((rs_emb hin _ a).trans ?_)
  fin_cases a
  · have : (x 0).val < 1 := (x 0).isLt
    show d.val + (x 0).val = d.val; omega
  · exact Nat.zero_add _
  · exact Nat.zero_add _

/-- The load of one slot while all are held. -/
theorem slot_load {α : Type} {Q : α → sProp 𝕄} {R : sProp 𝕄} (c : Dev nD) (d : Fin 16) {off : Fin 3 → ℕ} (ho : off = ![d.val, 0, 0])
    {hin : ∀ a, off a + S1x32x768.size a ≤ S16x32x768.size a}
    {hl : rsM.view.LoadsAt (Rect.unit (s := S16x32x768) off S1x32x768.size hin).toLoadRect}
    {k : Vec F S1x32x768 .bf16 → Prog (TpuEff nD τ sig (Elt F) Λ₀ .tc) α}
    (h : iprop(ctx m K ∗ (bigSep Finset.univ fun d => slotPts c d (slotsAt m c)) ∗ R) ⊢ runs c (k (slotVec m c d)) Q) :
    iprop(ctx m K ∗ (bigSep Finset.univ fun d => slotPts c d (slotsAt m c)) ∗ R)
      ⊢ runs c (.op (.load rsM (Rect.unit (s := S16x32x768) off S1x32x768.size hin).toLoadRect hl) k) Q := by
  have hs := slot_set d ho hin
  subst ho
  have hb := bigSep_out (Finset.mem_univ d) (fun d => slotPts (F := F) c d (slotsAt m c))
  rw [hb]
  iintro ⟨#Hc, ⟨Hp, Hrest⟩, HR⟩
  unfold slotPts
  iapply (wp_load_rect 𝒱₀ (c : Thread nD τ) none Set.univ (m := rsM) (r := Rect.unit (s := S16x32x768) ![d.val, 0, 0] S1x32x768.size hin) hs) $$ Hp
  iintro Hp
  rw [slot_read m c d hin]
  iapply h
  isplitr; · iexact Hc
  isplitr [HR]
  · rw [hb]
    isplitl [Hp]
    · unfold slotPts; iexact Hp
    · unfold slotPts; iexact Hrest
  iexact HR

theorem slot_skip {α : Type} {Q : α → sProp 𝕄} {R : sProp 𝕄} (c : Dev nD) (d : Fin 16) {off : Fin 3 → ℕ} (ho : off = ![d.val, 0, 0])
    {hin : ∀ a, off a + S1x32x768.size a ≤ S16x32x768.size a}
    {hl : rsM.view.LoadsAt (Rect.unit (s := S16x32x768) off S1x32x768.size hin).toLoadRect}
    {k : Vec F S1x32x768 .bf16 → Prog (TpuEff nD τ sig (Elt F) Λ₀ .tc) α}
    (h : ∀ v, iprop(ctx m K ∗ (∃ f, slotPts (F := F) c d f) ∗ R) ⊢ runs c (k v) Q) :
    iprop(ctx m K ∗ (∃ f, slotPts (F := F) c d f) ∗ R)
      ⊢ runs c (.op (.load rsM (Rect.unit (s := S16x32x768) off S1x32x768.size hin).toLoadRect hl) k) Q := by
  have hs := slot_set d ho hin
  iintro ⟨#Hc, ⟨%f, Hp⟩, HR⟩
  unfold slotPts
  iapply (wp_load_rect 𝒱₀ (c : Thread nD τ) none Set.univ (m := rsM) (r := Rect.unit (s := S16x32x768) off S1x32x768.size hin) hs) $$ Hp
  iintro Hp
  iapply (h _)
  isplitr; · iexact Hc
  isplitr [HR]
  · unfold slotPts; iexists f; iexact Hp
  iexact HR

theorem add_unit (v : FVec F S32x768 .bf16) (r : Fin 32) (k : Fin 768) :
    shapeCast S1x32x768 v shapeCasts_S32x768_S1x32x768 (ix3 (0 : Fin 1) r k) = v (ix2 r k) := by
  refine (shapeCast_addUnit_apply (n := 2) ![32, 768] v _ (ix3 (0 : Fin 1) r k)).trans (congrArg v ?_)
  funext a; fin_cases a <;> rfl

/-- The device's own rows of the partial product, as loaded. -/
def ownRows (c : Dev nD) : Vec F S32x768 .bf16 := fun x => workAt m c (ix2 ⟨32 * c.val + (x 0).val, slot_lt c (x 0)⟩ (x 1))

theorem own_read (c : Dev nD) (hin : ∀ a, (![32 * c.val, 0] : Fin 2 → ℕ) a + S32x768.size a ≤ S512x768.size a) :
    (workM.access (Rect.unit (s := S512x768) ![32 * c.val, 0] S32x768.size hin)).read (Elt F) (workAt m c) = ownRows m c := by
  funext x
  show workAt m c ((workM.access (Rect.unit (s := S512x768) ![32 * c.val, 0] S32x768.size hin)).emb x) = workAt m c _
  congr 1
  funext a
  refine Fin.ext ((work_emb hin _ a).trans ?_)
  fin_cases a
  · rfl
  · exact Nat.zero_add _

theorem own_load {α : Type} {Q : α → sProp 𝕄} {R : sProp 𝕄} (c : Dev nD) {off : Fin 2 → ℕ} (ho : off = ![32 * c.val, 0])
    {hin : ∀ a, off a + S32x768.size a ≤ S512x768.size a}
    {hl : workM.view.LoadsAt (Rect.unit (s := S512x768) off S32x768.size hin).toLoadRect}
    {k : Vec F S32x768 .bf16 → Prog (TpuEff nD τ sig (Elt F) Λ₀ .tc) α}
    (h : iprop(ctx m K ∗ workPts c c (workAt m c) ∗ R) ⊢ runs c (k (ownRows m c)) Q) :
    iprop(ctx m K ∗ workPts c c (workAt m c) ∗ R)
      ⊢ runs c (.op (.load workM (Rect.unit (s := S512x768) off S32x768.size hin).toLoadRect hl) k) Q := by
  subst ho
  iintro ⟨#Hc, Hp, HR⟩
  unfold workPts
  iapply (wp_load_rect 𝒱₀ (c : Thread nD τ) none Set.univ (m := workM) (r := Rect.unit (s := S512x768) ![32 * c.val, 0] S32x768.size hin) (Finset.Subset.refl _)) $$ Hp
  iintro Hp
  rw [own_read m c hin]
  iapply h
  isplitr; · iexact Hc
  isplitr [HR]
  · unfold workPts; iexact Hp
  iexact HR

theorem slot_after (c : Dev nD) (hin : ∀ a, (![(0 : Fin 16).val, 0, 0] : Fin 3 → ℕ) a + S1x32x768.size a ≤ S16x32x768.size a)
    (f : Buf (Elt F) ((c : Thread nD τ).loc cc0_scratch2)) (i) (hi : i ∈ slotSet 0) :
    (rsM.access (Rect.unit (s := S16x32x768) ![(0 : Fin 16).val, 0, 0] S1x32x768.size hin)).write (Elt F) f (k0_pay43 (ownRows m c)) Finset.univ i
      = slotsAt m c i := by
  have h0 : (i 0).val = 0 := (mem_slotBlk 0 i).mp hi
  have he : (rsM.access (Rect.unit (s := S16x32x768) ![(0 : Fin 16).val, 0, 0] S1x32x768.size hin)).emb
      (ix3 (0 : Fin 1) (i 1) (i 2)) = i := by
    funext a
    refine Fin.ext ((rs_emb hin _ a).trans ?_)
    fin_cases a
    · exact h0.symm
    · exact Nat.zero_add _
    · exact Nat.zero_add _
  have h0' : i 0 = (0 : Fin 16) := Fin.ext h0
  refine (congrArg _ he.symm).trans ((View.write_emb_of_mem _ _ (Finset.mem_univ _)).trans ?_)
  show k0_pay43 (ownRows m c) (ix3 (0 : Fin 1) (i 1) (i 2)) = workAt m (prv c (i 0)) (ix2 ⟨32 * c.val + (i 1).val, slot_lt c (i 1)⟩ (i 2))
  rw [h0', prv_zero]
  exact add_unit (ownRows m c) (i 1) (i 2)

theorem slot_store {α : Type} {Q : α → sProp 𝕄} {R : sProp 𝕄} (c : Dev nD) {off : Fin 3 → ℕ} (ho : off = ![(0 : Fin 16).val, 0, 0])
    {hin : ∀ a, off a + S1x32x768.size a ≤ S16x32x768.size a}
    {hx : (rsM.access (Rect.unit (s := S16x32x768) off S1x32x768.size hin)).Stores Finset.univ} {hm}
    {k : PUnit → Prog (TpuEff nD τ sig (Elt F) Λ₀ .tc) α}
    (h : iprop(ctx m K ∗ slotPts c 0 (slotsAt m c) ∗ R) ⊢ runs c (k ⟨⟩) Q) :
    iprop(ctx m K ∗ (∃ f, slotPts (F := F) c 0 f) ∗ R)
      ⊢ runs c (.op (.store rsM (Rect.unit (s := S16x32x768) off S1x32x768.size hin) (k0_pay43 (ownRows m c)) Finset.univ hx hm) k) Q := by
  have hs := slot_set 0 ho hin
  subst ho
  iintro ⟨#Hc, ⟨%f, Hp⟩, HR⟩
  unfold slotPts
  iapply (wp_store 𝒱₀ (c : Thread nD τ) none Set.univ (m := rsM) (r := Rect.unit (s := S16x32x768) ![(0 : Fin 16).val, 0, 0] S1x32x768.size hin) (Mk := Finset.univ) hs) $$ Hp
  iintro Hp
  iapply h
  isplitr; · iexact Hc
  isplitr [HR]
  · unfold slotPts
    iapply (Entails.of_eq (pointsTo_congr (slot_after m c hin f))); iexact Hp
  iexact HR

/-! ## The own rows of the result -/

theorem out_set (c : Fin 16) {off : Fin 3 → ℕ} (ho : off = ![c.val / 8, 32 * (c.val % 8), 0]) (hin : ∀ a, off a + S1x32x768.size a ≤ S2x256x768.size a) :
    (outM.access (Rect.unit (s := S2x256x768) off S1x32x768.size hin)).set ⊆ outSet c := by
  subst ho
  exact (View.set_reshape _ _).symm.subset

theorem out_skip {α : Type} {Q : α → sProp 𝕄} {R : sProp 𝕄} (c : Dev nD) {off : Fin 3 → ℕ} (ho : off = ![c.val / 8, 32 * (c.val % 8), 0])
    {hin : ∀ a, off a + S1x32x768.size a ≤ S2x256x768.size a}
    {hl : outM.view.LoadsAt (Rect.unit (s := S2x256x768) off S1x32x768.size hin).toLoadRect}
    {k : Vec F S1x32x768 .bf16 → Prog (TpuEff nD τ sig (Elt F) Λ₀ .tc) α}
    (h : ∀ v, iprop(ctx m K ∗ (∃ f, outPts (F := F) c c fullShare f) ∗ R) ⊢ runs c (k v) Q) :
    iprop(ctx m K ∗ (∃ f, outPts (F := F) c c fullShare f) ∗ R)
      ⊢ runs c (.op (.load outM (Rect.unit (s := S2x256x768) off S1x32x768.size hin).toLoadRect hl) k) Q := by
  have hs := out_set c ho hin
  iintro ⟨#Hc, ⟨%f, Hp⟩, HR⟩
  unfold outPts
  iapply (wp_load_rect 𝒱₀ (c : Thread nD τ) none Set.univ (m := outM) (r := Rect.unit (s := S2x256x768) off S1x32x768.size hin) hs) $$ Hp
  iintro Hp
  iapply (h _)
  isplitr; · iexact Hc
  isplitr [HR]
  · unfold outPts; iexists f; iexact Hp
  iexact HR

theorem out_after (c : Fin 16) (hin : ∀ a, (![c.val / 8, 32 * (c.val % 8), 0] : Fin 3 → ℕ) a + S1x32x768.size a ≤ S2x256x768.size a)
    (f : Buf (Elt F) ((c : Thread nD τ).loc cc0_stg5_0)) :
    ∀ i ∈ (outBlk c).view.set,
      (outM.access (Rect.unit (s := S2x256x768) ![c.val / 8, 32 * (c.val % 8), 0] S1x32x768.size hin)).write (Elt F) f (k0_pay47 (accAt m c)) Finset.univ i
      = outAt m i := by
  refine eq_on_block fun r k => ?_
  rw [outBlk_emb, outAt_ix]
  have he : (outM.access (Rect.unit (s := S2x256x768) ![c.val / 8, 32 * (c.val % 8), 0] S1x32x768.size hin)).emb (ix3 (0 : Fin 1) r k)
      = (ix3 ⟨c.val / 8, outBatch_lt c⟩ ⟨32 * (c.val % 8) + r.val, outRow_lt c r⟩ k : (cc0_stg5_0 : Ref sig .tc).ty.shape.Idx) := by
    funext a
    refine Fin.ext ((out_emb hin _ a).trans ?_)
    fin_cases a
    · rfl
    · rfl
    · exact Nat.zero_add _
  rw [← he]
  refine (View.write_emb_of_mem _ _ (Finset.mem_univ _)).trans ?_
  exact add_unit (accAt m c) r k

theorem out_store {α : Type} {Q : α → sProp 𝕄} {R : sProp 𝕄} (c : Dev nD) {off : Fin 3 → ℕ} (ho : off = ![c.val / 8, 32 * (c.val % 8), 0])
    {hin : ∀ a, off a + S1x32x768.size a ≤ S2x256x768.size a}
    {hx : (outM.access (Rect.unit (s := S2x256x768) off S1x32x768.size hin)).Stores Finset.univ} {hm}
    {k : PUnit → Prog (TpuEff nD τ sig (Elt F) Λ₀ .tc) α}
    (h : iprop(ctx m K ∗ outPts c c fullShare (outAt m) ∗ R) ⊢ runs c (k ⟨⟩) Q) :
    iprop(ctx m K ∗ (∃ f, outPts (F := F) c c fullShare f) ∗ R)
      ⊢ runs c (.op (.store outM (Rect.unit (s := S2x256x768) off S1x32x768.size hin) (k0_pay47 (accAt m c)) Finset.univ hx hm) k) Q := by
  have hs := out_set c ho hin
  subst ho
  iintro ⟨#Hc, ⟨%f, Hp⟩, HR⟩
  unfold outPts
  iapply (wp_store 𝒱₀ (c : Thread nD τ) none Set.univ (m := outM) (r := Rect.unit (s := S2x256x768) ![c.val / 8, 32 * (c.val % 8), 0] S1x32x768.size hin) (Mk := Finset.univ) hs) $$ Hp
  iintro Hp
  iapply h
  isplitr; · iexact Hc
  isplitr [HR]
  · unfold outPts
    iapply (Entails.of_eq (pointsTo_congr (out_after m c hin f))); iexact Hp
  iexact HR

end Cert.KProof
-- ==== Proof.Phases.lean ====
/-
The steps again, over states numbered by how far a loop over the distances has come. A loop that counts `d` from 1 to 15
takes the state numbered `d` to the state numbered `d + 1`.
-/
module

public import proofs.«01_k».proof.Proof.Compute

@[expose] public section

set_option maxRecDepth 10000

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-! ## Which distances remain -/

/-- The distances from `j` on. -/
def ge (j : ℕ) : Finset (Fin 16) := NZ.filter fun d => j ≤ d.val

theorem ge_mem (d : Fin 16) (h : d ≠ 0) : d ∈ ge d.val := Finset.mem_filter.mpr ⟨Finset.mem_erase.mpr ⟨h, Finset.mem_univ _⟩, le_rfl⟩
theorem ge_erase (d : Fin 16) : (ge d.val).erase d = ge (d.val + 1) := by revert d; decide
theorem ge_put (d : Fin 16) (h : d ≠ 0) : insert d (NZ \ ge d.val) = NZ \ ge (d.val + 1) := by
  rw [← ge_erase, Finset.sdiff_erase (Finset.mem_erase.mpr ⟨h, Finset.mem_univ _⟩)]
theorem ge_one : ge 1 = NZ := by decide
theorem ge_last : ge 16 = ∅ := by decide

/-- The reduce-scatter sends the rows of batch `p` in pass `p`: the distances whose copy is not yet started in pass `p`
    before distance `j`, and the blocks then still held. -/
def rsLeft (p : Fin 2) (c : Fin 16) (j : ℕ) : Finset (Fin 16) :=
  NZ.filter fun d => p.val < (nxt c d).val / 8 ∨ ((nxt c d).val / 8 = p.val ∧ j ≤ d.val)
def rsHeld (p : Fin 2) (c : Fin 16) (j : ℕ) : Finset (Fin 16) :=
  Finset.univ.filter fun b => (b = c ∧ b.val / 8 ≤ p.val) ∨ (b.val / 8 = p.val ∧ j ≤ (b - c).val)

section Sets
variable (p : Fin 2) (c d : Fin 16)

theorem rsLeft_mem (h : d ≠ 0) (hp : (nxt c d).val / 8 = p.val) : d ∈ rsLeft p c d.val :=
  Finset.mem_filter.mpr ⟨Finset.mem_erase.mpr ⟨h, Finset.mem_univ _⟩, .inr ⟨hp, le_rfl⟩⟩
theorem rsHeld_mem (hp : (nxt c d).val / 8 = p.val) : nxt c d ∈ rsHeld p c d.val :=
  Finset.mem_filter.mpr ⟨Finset.mem_univ _, .inr ⟨hp, (congrArg Fin.val (nxt_sub c d)).ge⟩⟩
theorem rsLeft_erase : (nxt c d).val / 8 = p.val → (rsLeft p c d.val).erase d = rsLeft p c (d.val + 1) := by
  revert p c d; decide +kernel
theorem rsHeld_erase : d ≠ 0 → (nxt c d).val / 8 = p.val → (rsHeld p c d.val).erase (nxt c d) = rsHeld p c (d.val + 1) := by
  revert p c d; decide +kernel
theorem rsLeft_skip : ¬(nxt c d).val / 8 = p.val → rsLeft p c d.val = rsLeft p c (d.val + 1) := by
  revert p c d; decide +kernel
theorem rsHeld_skip : ¬(nxt c d).val / 8 = p.val → rsHeld p c d.val = rsHeld p c (d.val + 1) := by
  revert p c d; decide +kernel
theorem rsLeft_start : rsLeft 0 c 1 = NZ := by revert c; decide +kernel
theorem rsHeld_start : rsHeld 0 c 1 = blocksOf 0 := by revert c; decide +kernel
theorem rsLeft_turn : rsLeft 0 c 16 = rsLeft 1 c 1 := by revert c; decide +kernel
theorem rsHeld_turn : rsHeld 1 c 1 = rsHeld 0 c 16 ∪ blocksOf 1 := by revert c; decide +kernel
theorem rsHeld_turn_disj : Disjoint (rsHeld 0 c 16) (blocksOf 1) := by revert c; decide +kernel
theorem rsLeft_last : rsLeft 1 c 16 = ∅ := by revert c; decide +kernel
theorem rsHeld_last : rsHeld 1 c 16 = {c} := by revert c; decide +kernel

end Sets

/-! ## The signals -/

def Sigs (c : Dev nD) (j : ℕ) : sProp 𝕄 := iprop(Ow (F := F) c (ge j) NZ NZ ∗ sigTodo c (ge j))

theorem sig_next {α : Type} {Q : α → sProp 𝕄} {R : sProp 𝕄} (c d : Fin 16) (hd0 : d ≠ 0) {n : Dev nD} (hn : n = nxt c d) {k' : ℕ} (hk : 1 = k')
    {s : Sem sig} (hs : s = barS)
    {k : PUnit → Prog (TpuEff nD τ sig (Elt F) Λ₀ .tc) α}
    (h : iprop(ctx m K ∗ Sigs (F := F) c (d.val + 1) ∗ R) ⊢ runs c (k ⟨⟩) Q) :
    iprop(ctx m K ∗ Sigs (F := F) c d.val ∗ R) ⊢ runs c (.op (.semSignal (Dev.tc n : Thread nD τ) s k') k) Q := by
  subst hs
  have hs := sig_step m K (R := R) c d (ge d.val) NZ NZ (ge_mem d hd0) hd0 hn hk (k := k) (Q := Q) (by
    rw [ge_erase]
    refine via ?_ h
    unfold Sigs
    iintro ⟨H0, H1, H2, H3⟩
    isplitl [H0]; · iexact H0
    isplitr [H3]; · isplitl [H1] <;> iassumption
    iexact H3)
  refine via ?_ hs
  unfold Sigs
  iintro ⟨H0, ⟨H1, H2⟩, H3⟩
  isplitl [H0]; · iexact H0
  isplitl [H1]; · iexact H1
  isplitl [H2] <;> iassumption

/-! ## The reduce-scatter's copies -/

def Rs (c : Dev nD) (p : Fin 2) (j : ℕ) : sProp 𝕄 :=
  iprop(Ow (F := F) c ∅ (rsLeft p c j) NZ ∗ rsTodo c (rsLeft p c j) ∗ workHeld m c (rsHeld p c j) ∗ creds c 0 (NZ \ rsLeft p c j))

/-- A copy under a condition: it is made exactly when the device at that distance sums rows of batch `p`. -/
theorem rs_next {α : Type} {Q : α → sProp 𝕄} {R : sProp 𝕄} (c : Fin 16) (p : Fin 2) (d : Fin 16) (hd0 : d ≠ 0)
    {P : Prop} [Decidable P] (hP : P ↔ (nxt c d).val / 8 = p.val)
    {n : P → Dev nD} (hn : ∀ h, n h = nxt c d) {src : P → Memref sig .tc .vmem S32x768 .bf16} (hs : ∀ h, src h = workBlk (nxt c d))
    {dst : Memref sig .tc .vmem S32x768 .bf16} (ht : dst = slotBlk d)
    {qs qr : DmaSem sig} (hqs : qs = xS 0 d) (hqr : qr = xS 1 d)
    {hsc : ∀ h : P, (dst : Memref sig (Dev.tc (n h) : Thread nD τ).2.kind .vmem S32x768 .bf16).view.ref.isScScratch = false}
    {hsrc : ∀ h, (src h).view.WordExact} {hdst : dst.view.WordExact}
    {hsem : ∀ h, DmaTarget.Typed .vmem (.dma qr) (.remote (Dev.tc (n h) : Thread nD τ) dst (.dma qs) (hsc h))}
    {k : Prog (TpuEff nD τ sig (Elt F) Λ₀ .tc) α} {j j' : ℕ} (hj : d.val = j) (hj' : d.val + 1 = j')
    {prog : Prog (TpuEff nD τ sig (Elt F) Λ₀ .tc) α}
    (hprog : prog = if hh : P then Prog.op (TpuEff.enqueueDma (src hh) (.remote (Dev.tc (n hh) : Thread nD τ) dst (.dma qs) (hsc hh)) (.dma qr) (hsrc hh) hdst (hsem hh)) (fun _ => k)
          else k)
    (h : iprop(ctx m K ∗ Rs m c p j' ∗ R) ⊢ runs c k Q) :
    iprop(ctx m K ∗ Rs m c p j ∗ R)
      ⊢ runs c prog Q := by
  subst hj hj' hprog
  by_cases hh : P
  · rw [dif_pos hh]
    have h1 := hP.mp hh
    have hs := rs_step m K (R := R) c d (rsLeft p c d.val) (rsHeld p c d.val) (rsLeft_mem p c d hd0 h1) hd0 (rsHeld_mem p c d h1) (hn hh) (hs hh) ht hqs hqr
      (hsc := hsc hh) (hsrc := hsrc hh) (hdst := hdst) (hsem := hsem hh) (k := fun _ => k) (Q := Q) (by
      rw [rsLeft_erase p c d h1, rsHeld_erase p c d hd0 h1, ← Finset.sdiff_erase (Finset.mem_erase.mpr ⟨hd0, Finset.mem_univ _⟩), rsLeft_erase p c d h1]
      refine via ?_ h
      unfold Rs
      iintro ⟨H0, H1, H2, H3, H4, H5⟩
      isplitl [H0]; · iexact H0
      isplitr [H5]
      · isplitl [H1]; · iexact H1
        isplitl [H2]; · iexact H2
        isplitl [H3] <;> iassumption
      iexact H5)
    refine via ?_ hs
    unfold Rs
    iintro ⟨H0, ⟨H1, H2, H3, H4⟩, H5⟩
    isplitl [H0]; · iexact H0
    isplitl [H1]; · iexact H1
    isplitl [H2]; · iexact H2
    isplitl [H3]; · iexact H3
    isplitl [H4] <;> iassumption
  · rw [dif_neg hh]
    have h1 := fun h' => hh (hP.mpr h')
    have e : Rs m c p d.val = Rs m c p (d.val + 1) := by unfold Rs; rw [rsLeft_skip p c d h1, rsHeld_skip p c d h1]
    rw [e]; exact h

theorem rs_begin (c : Dev nD) :
    iprop(Ow (F := F) c ∅ NZ NZ ∗ rsTodo c NZ ∗ workHeld m c (blocksOf 0)) ⊢ Rs m c 0 1 := by
  unfold Rs
  rw [rsLeft_start, rsHeld_start, Finset.sdiff_self]
  iintro ⟨H1, H2, H3⟩
  isplitl [H1]; · iexact H1
  isplitl [H2]; · iexact H2
  isplitl [H3]; · iexact H3
  unfold creds; rw [bigSep_empty]; exact BI.Entails.refl _

theorem rs_turn (c : Dev nD) : iprop(Rs m c 0 16 ∗ workHeld m c (blocksOf 1)) ⊢ Rs m c 1 1 := by
  unfold Rs
  rw [rsLeft_turn, rsHeld_turn]
  iintro ⟨⟨H1, H2, H3, H4⟩, H5⟩
  isplitl [H1]; · iexact H1
  isplitl [H2]; · iexact H2
  isplitr [H4]
  · unfold workHeld
    iapply (Entails.of_eq (bigSep_two (rsHeld_turn_disj c) (fun b => workPts (F := F) c b (workAt m c))).symm)
    isplitl [H3] <;> iassumption
  iexact H4

theorem rs_end (c : Dev nD) : Rs m c 1 16 ⊢ iprop(Ow (F := F) c ∅ ∅ NZ ∗ workPts c c (workAt m c) ∗ creds c 0 NZ) := by
  unfold Rs
  rw [rsLeft_last, rsHeld_last, Finset.sdiff_empty]
  unfold workHeld rsTodo
  rw [bigSep_singleton, bigSep_empty]
  iintro ⟨H1, -, H3, H4⟩
  isplitl [H1]; · iexact H1
  isplitl [H3] <;> iassumption

/-! ## The all-gather's copies -/

def Ag (c : Dev nD) (j : ℕ) : sProp 𝕄 := iprop(Ow (F := F) c ∅ ∅ (ge j) ∗ agTodo m c (ge j) ∗ creds c 2 (NZ \ ge j))

theorem ag_next {α : Type} {Q : α → sProp 𝕄} {R : sProp 𝕄} (c d : Fin 16) (hd0 : d ≠ 0)
    {n : Dev nD} (hn : n = nxt c d) {src dst : Memref sig .tc .vmem S32x768 .bf16} (hs : src = outBlk c) (ht : dst = outBlk c)
    {qs qr : DmaSem sig} (hqs : qs = xS 2 d) (hqr : qr = xS 3 d)
    {hsc : (dst : Memref sig (Dev.tc n : Thread nD τ).2.kind .vmem S32x768 .bf16).view.ref.isScScratch = false}
    {hsrc : src.view.WordExact} {hdst : dst.view.WordExact}
    {hsem : DmaTarget.Typed .vmem (.dma qr) (.remote (Dev.tc n : Thread nD τ) dst (.dma qs) hsc)}
    {k : PUnit → Prog (TpuEff nD τ sig (Elt F) Λ₀ .tc) α}
    (h : iprop(ctx m K ∗ Ag m c (d.val + 1) ∗ R) ⊢ runs c (k ⟨⟩) Q) :
    iprop(ctx m K ∗ Ag m c d.val ∗ R)
      ⊢ runs c (.op (.enqueueDma src (.remote (Dev.tc n : Thread nD τ) dst (.dma qs) hsc) (.dma qr) hsrc hdst hsem) k) Q := by
  have hs := ag_step m K (R := R) c d (ge d.val) (ge_mem d hd0) hd0 hn hs ht hqs hqr (hsc := hsc) (hsrc := hsrc) (hdst := hdst) (hsem := hsem) (k := k) (Q := Q) (by
    rw [ge_erase, ge_put d hd0]
    refine via ?_ h
    unfold Ag
    iintro ⟨H0, H1, H2, H3, H4⟩
    isplitl [H0]; · iexact H0
    isplitr [H4]
    · isplitl [H1]; · iexact H1
      isplitl [H2] <;> iassumption
    iexact H4)
  refine via ?_ hs
  unfold Ag
  iintro ⟨H0, ⟨H1, H2, H3⟩, H4⟩
  isplitl [H0]; · iexact H0
  isplitl [H1]; · iexact H1
  isplitl [H2]; · iexact H2
  isplitl [H3] <;> iassumption

/-! ## The waits -/

def Wt (c : Dev nD) (k : Fin 4) (j : ℕ) : sProp 𝕄 := iprop(waitTodo (F := F) c k (ge j) ∗ waitDone m c k (NZ \ ge j))

theorem wait_next {α : Type} {Q : α → sProp 𝕄} {R : sProp 𝕄} (c : Fin 16) (k4 : Fin 4) (d : Fin 16) (A : Finset (Fin 16)) (hd0 : d ≠ 0) (hA : ∀ a ∈ A, k4 ≠ 3)
    {q : DmaSem sig} (hq : q = xS k4 d)
    {sp sp' : Space} {s s' : Shape} {e e' : EltTy} {src : Memref sig .tc sp' s' e'} {dst : Memref sig .tc sp s e}
    {hsrc : src.view.WordExact} {hdst : dst.view.WordExact} (hN : dst.view.dmaCredit = NX k4)
    {k : PUnit → Prog (TpuEff nD τ sig (Elt F) Λ₀ .tc) α}
    (h : iprop(ctx m K ∗ Ow c ∅ ∅ A ∗ Wt m c k4 (d.val + 1) ∗ R) ⊢ runs c (k ⟨⟩) Q) :
    iprop(ctx m K ∗ Ow c ∅ ∅ A ∗ Wt m c k4 d.val ∗ R) ⊢ runs c (.op (.waitDma2 q src dst hsrc hdst) k) Q := by
  have hs := wait_step m K (R := R) c k4 d (ge d.val) A (ge_mem d hd0) hd0 hA hq (hsrc := hsrc) (hdst := hdst) hN (k := k) (Q := Q) (by
    rw [ge_erase, ge_put d hd0]
    refine via ?_ h
    unfold Wt
    iintro ⟨H0, H1, H2, H3, H4⟩
    isplitl [H0]; · iexact H0
    isplitl [H1]; · iexact H1
    isplitr [H4]
    · isplitl [H2] <;> iassumption
    iexact H4)
  refine via ?_ hs
  unfold Wt
  iintro ⟨H0, H1, ⟨H2, H3⟩, H4⟩
  isplitl [H0]; · iexact H0
  isplitl [H1]; · iexact H1
  isplitl [H2]; · iexact H2
  isplitl [H3] <;> iassumption

theorem wt_begin (c : Dev nD) (k : Fin 4) : waitTodo (F := F) c k NZ ⊢ Wt m c k 1 := by
  unfold Wt; rw [ge_one, Finset.sdiff_self]
  iintro H
  isplitl [H]; · iexact H
  unfold waitDone; rw [bigSep_empty]; exact BI.Entails.refl _
theorem wt_end (c : Dev nD) (k : Fin 4) : Wt m c k 16 ⊢ waitDone m c k NZ := by
  unfold Wt; rw [ge_last, Finset.sdiff_empty]
  iintro ⟨-, H⟩; iexact H

/-- The last two families of waits, taken in turns. -/
def Sent (c : Dev nD) (j j' : ℕ) : sProp 𝕄 := iprop(Ow (F := F) c ∅ ∅ ∅ ∗ Wt m c 0 j ∗ Wt m c 2 j')

theorem sent_rs {α : Type} {Q : α → sProp 𝕄} {R : sProp 𝕄} (c : Fin 16) (d : Fin 16) (j' : ℕ) (hd0 : d ≠ 0)
    {q : DmaSem sig} (hq : q = xS 0 d)
    {sp sp' : Space} {s s' : Shape} {e e' : EltTy} {src : Memref sig .tc sp' s' e'} {dst : Memref sig .tc sp s e}
    {hsrc : src.view.WordExact} {hdst : dst.view.WordExact} (hN : dst.view.dmaCredit = NX 0)
    {k : PUnit → Prog (TpuEff nD τ sig (Elt F) Λ₀ .tc) α}
    (h : iprop(ctx m K ∗ Sent m c (d.val + 1) j' ∗ R) ⊢ runs c (k ⟨⟩) Q) :
    iprop(ctx m K ∗ Sent m c d.val j' ∗ R) ⊢ runs c (.op (.waitDma2 q src dst hsrc hdst) k) Q := by
  have hs := wait_next m K (R := iprop(Wt m c 2 j' ∗ R)) c 0 d ∅ hd0 (fun a ha => absurd ha (Finset.notMem_empty a)) hq (hsrc := hsrc) (hdst := hdst) hN (k := k) (Q := Q) (by
    refine via ?_ h
    unfold Sent
    iintro ⟨H0, H1, H2, H3, H4⟩
    isplitl [H0]; · iexact H0
    isplitr [H4]
    · isplitl [H1]; · iexact H1
      isplitl [H2] <;> iassumption
    iexact H4)
  refine via ?_ hs
  unfold Sent
  iintro ⟨H0, ⟨H1, H2, H3⟩, H4⟩
  isplitl [H0]; · iexact H0
  isplitl [H1]; · iexact H1
  isplitl [H2]; · iexact H2
  isplitl [H3] <;> iassumption

theorem sent_ag {α : Type} {Q : α → sProp 𝕄} {R : sProp 𝕄} (c : Fin 16) (j : ℕ) (d : Fin 16) (hd0 : d ≠ 0)
    {q : DmaSem sig} (hq : q = xS 2 d)
    {sp sp' : Space} {s s' : Shape} {e e' : EltTy} {src : Memref sig .tc sp' s' e'} {dst : Memref sig .tc sp s e}
    {hsrc : src.view.WordExact} {hdst : dst.view.WordExact} (hN : dst.view.dmaCredit = NX 2)
    {k : PUnit → Prog (TpuEff nD τ sig (Elt F) Λ₀ .tc) α}
    (h : iprop(ctx m K ∗ Sent m c j (d.val + 1) ∗ R) ⊢ runs c (k ⟨⟩) Q) :
    iprop(ctx m K ∗ Sent m c j d.val ∗ R) ⊢ runs c (.op (.waitDma2 q src dst hsrc hdst) k) Q := by
  have hs := wait_next m K (R := iprop(Wt m c 0 j ∗ R)) c 2 d ∅ hd0 (fun a ha => absurd ha (Finset.notMem_empty a)) hq (hsrc := hsrc) (hdst := hdst) hN (k := k) (Q := Q) (by
    refine via ?_ h
    unfold Sent
    iintro ⟨H0, H1, H2, H3, H4⟩
    isplitl [H0]; · iexact H0
    isplitr [H4]
    · isplitl [H1]; · iexact H1
      isplitl [H3] <;> iassumption
    iexact H4)
  refine via ?_ hs
  unfold Sent
  iintro ⟨H0, ⟨H1, H2, H3⟩, H4⟩
  isplitl [H0]; · iexact H0
  isplitl [H1]; · iexact H1
  isplitl [H3]; · iexact H3
  isplitl [H2] <;> iassumption

end Cert.KProof
-- ==== Proof.PartsA.lean ====
/-
The kernel's body part by part, at a device that stays a variable: shared tools, and the parts up to the end of the
reduce-scatter's sends.
-/
module

public import proofs.«01_k».proof.Proof.Phases

@[expose] public section

set_option maxRecDepth 10000

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-! ## Buffers, ends of programs, order of the states -/

abbrev xM : Memref sig .tc .vmem S2x256x768 .bf16 := Memref.whole cc0_stg0_0
abbrev wqM : Memref sig .tc .vmem S768x512 .bf16 := Memref.whole cc0_stg1_0
abbrev woM : Memref sig .tc .vmem S512x768 .bf16 := Memref.whole cc0_stg2_0
abbrev wkM : Memref sig .tc .vmem S768x512 .bf16 := Memref.whole cc0_stg3_0
abbrev wvM : Memref sig .tc .vmem S768x512 .bf16 := Memref.whole cc0_stg4_0
theorem whole {r : Ref sig .tc} : (Memref.whole r : Memref sig .tc _ _ _).IsWhole := Memref.isWhole_whole _

omit [FloatOps F] in
/-- A program that has ended. -/
theorem ret_step [FloatOps F] {α : Type} {c : Dev nD} {v : α} {Q : α → sProp 𝕄} {P : sProp 𝕄} (h : P ⊢ Q v) : P ⊢ runs c (.ret v) Q := by
  refine via h ?_
  show _ ⊢ wp _ _ _ _ _
  rw [wp_ret]; iintro H; imodintro; iexact H

omit [FloatOps F] in
theorem rot {A B C R X : sProp 𝕄} (h : iprop(A ∗ C ∗ B ∗ R) ⊢ X) : iprop(A ∗ B ∗ C ∗ R) ⊢ X := by
  refine via ?_ h
  iintro ⟨H0, H1, H2, H3⟩
  isplitl [H0]; · iexact H0
  isplitl [H2]; · iexact H2
  isplitl [H1] <;> iassumption
omit [FloatOps F] in
theorem rot3 {A B C D R X : sProp 𝕄} (h : iprop(A ∗ D ∗ B ∗ C ∗ R) ⊢ X) : iprop(A ∗ B ∗ C ∗ D ∗ R) ⊢ X := by
  refine via ?_ h
  iintro ⟨H0, H1, H2, H3, H4⟩
  isplitl [H0]; · iexact H0
  isplitl [H3]; · iexact H3
  isplitl [H1]; · iexact H1
  isplitl [H2] <;> iassumption
omit [FloatOps F] in
theorem pairs {A B C D E R X : sProp 𝕄} (h : iprop(A ∗ D ∗ E ∗ B ∗ C ∗ R) ⊢ X) : iprop(A ∗ B ∗ C ∗ D ∗ E ∗ R) ⊢ X := by
  refine via ?_ h
  iintro ⟨H0, H1, H2, H3, H4, H5⟩
  isplitl [H0]; · iexact H0
  isplitl [H3]; · iexact H3
  isplitl [H4]; · iexact H4
  isplitl [H1]; · iexact H1
  isplitl [H2] <;> iassumption
/-- A device asks for its own number. -/
theorem dev_step {α : Type} {c : Dev nD} {Q : α → sProp 𝕄} {P : sProp 𝕄} {k : Dev nD → Prog (TpuEff nD τ sig (Elt F) Λ₀ .tc) α}
    (h : P ⊢ runs c (k c) Q) : P ⊢ runs c (.op .deviceId k) Q := by
  refine via h ?_
  show _ ⊢ wp _ _ _ _ _
  rw [wp_deviceId]
/-! ## The kernel's slices and conditions -/

theorem work_slice (c d : Fin 16) {off : Fin 2 → ℕ} (h : off = ![32 * ((c.val + d.val) % 16), 0]) {hin : ∀ a, off a + S32x768.size a ≤ S512x768.size a}
    {hr : ∀ a, (Rect.unit (s := S512x768) off S32x768.size hin).stride a = 1} :
    workM.slice (Rect.unit (s := S512x768) off S32x768.size hin) hr = workBlk (nxt c d) := by
  subst h; rfl
theorem out_slice (c : Fin 16) {off : Fin 3 → ℕ} (h : off = ![c.val / 8, 32 * (c.val % 8), 0]) {hin : ∀ a, off a + S1x32x768.size a ≤ S2x256x768.size a}
    {hr : ∀ a, (Rect.unit (s := S2x256x768) off S1x32x768.size hin).stride a = 1} :
    (outM.slice (Rect.unit (s := S2x256x768) off S1x32x768.size hin) hr).squeeze S32x768 squeezes_S1x32x768_S32x768 = outBlk c := by
  subst h; rfl

theorem cond1 (c : Fin 16) : k0_cond1 c = 1#1 ↔ (nxt c 1).val / 8 = ((0 : Fin 2)).val := by revert c; decide +kernel
theorem cond2 (c : Fin 16) : k0_cond2 c = 1#1 ↔ (nxt c 2).val / 8 = ((0 : Fin 2)).val := by revert c; decide +kernel
theorem cond3 (c : Fin 16) : k0_cond3 c = 1#1 ↔ (nxt c 3).val / 8 = ((0 : Fin 2)).val := by revert c; decide +kernel
theorem cond4 (c : Fin 16) : k0_cond4 c = 1#1 ↔ (nxt c 4).val / 8 = ((0 : Fin 2)).val := by revert c; decide +kernel
theorem cond5 (c : Fin 16) : k0_cond5 c = 1#1 ↔ (nxt c 5).val / 8 = ((0 : Fin 2)).val := by revert c; decide +kernel
theorem cond6 (c : Fin 16) : k0_cond6 c = 1#1 ↔ (nxt c 6).val / 8 = ((0 : Fin 2)).val := by revert c; decide +kernel
theorem cond7 (c : Fin 16) : k0_cond7 c = 1#1 ↔ (nxt c 7).val / 8 = ((0 : Fin 2)).val := by revert c; decide +kernel
theorem cond8 (c : Fin 16) : k0_cond8 c = 1#1 ↔ (nxt c 8).val / 8 = ((0 : Fin 2)).val := by revert c; decide +kernel
theorem cond9 (c : Fin 16) : k0_cond9 c = 1#1 ↔ (nxt c 9).val / 8 = ((0 : Fin 2)).val := by revert c; decide +kernel
theorem cond10 (c : Fin 16) : k0_cond10 c = 1#1 ↔ (nxt c 10).val / 8 = ((0 : Fin 2)).val := by revert c; decide +kernel
theorem cond11 (c : Fin 16) : k0_cond11 c = 1#1 ↔ (nxt c 11).val / 8 = ((0 : Fin 2)).val := by revert c; decide +kernel
theorem cond12 (c : Fin 16) : k0_cond12 c = 1#1 ↔ (nxt c 12).val / 8 = ((0 : Fin 2)).val := by revert c; decide +kernel
theorem cond13 (c : Fin 16) : k0_cond13 c = 1#1 ↔ (nxt c 13).val / 8 = ((0 : Fin 2)).val := by revert c; decide +kernel
theorem cond14 (c : Fin 16) : k0_cond14 c = 1#1 ↔ (nxt c 14).val / 8 = ((0 : Fin 2)).val := by revert c; decide +kernel
theorem cond15 (c : Fin 16) : k0_cond15 c = 1#1 ↔ (nxt c 15).val / 8 = ((0 : Fin 2)).val := by revert c; decide +kernel
theorem cond16 (c : Fin 16) : k0_cond16 c = 1#1 ↔ (nxt c 1).val / 8 = ((1 : Fin 2)).val := by revert c; decide +kernel
theorem cond17 (c : Fin 16) : k0_cond17 c = 1#1 ↔ (nxt c 2).val / 8 = ((1 : Fin 2)).val := by revert c; decide +kernel
theorem cond18 (c : Fin 16) : k0_cond18 c = 1#1 ↔ (nxt c 3).val / 8 = ((1 : Fin 2)).val := by revert c; decide +kernel
theorem cond19 (c : Fin 16) : k0_cond19 c = 1#1 ↔ (nxt c 4).val / 8 = ((1 : Fin 2)).val := by revert c; decide +kernel
theorem cond20 (c : Fin 16) : k0_cond20 c = 1#1 ↔ (nxt c 5).val / 8 = ((1 : Fin 2)).val := by revert c; decide +kernel
theorem cond21 (c : Fin 16) : k0_cond21 c = 1#1 ↔ (nxt c 6).val / 8 = ((1 : Fin 2)).val := by revert c; decide +kernel
theorem cond22 (c : Fin 16) : k0_cond22 c = 1#1 ↔ (nxt c 7).val / 8 = ((1 : Fin 2)).val := by revert c; decide +kernel
theorem cond23 (c : Fin 16) : k0_cond23 c = 1#1 ↔ (nxt c 8).val / 8 = ((1 : Fin 2)).val := by revert c; decide +kernel
theorem cond24 (c : Fin 16) : k0_cond24 c = 1#1 ↔ (nxt c 9).val / 8 = ((1 : Fin 2)).val := by revert c; decide +kernel
theorem cond25 (c : Fin 16) : k0_cond25 c = 1#1 ↔ (nxt c 10).val / 8 = ((1 : Fin 2)).val := by revert c; decide +kernel
theorem cond26 (c : Fin 16) : k0_cond26 c = 1#1 ↔ (nxt c 11).val / 8 = ((1 : Fin 2)).val := by revert c; decide +kernel
theorem cond27 (c : Fin 16) : k0_cond27 c = 1#1 ↔ (nxt c 12).val / 8 = ((1 : Fin 2)).val := by revert c; decide +kernel
theorem cond28 (c : Fin 16) : k0_cond28 c = 1#1 ↔ (nxt c 13).val / 8 = ((1 : Fin 2)).val := by revert c; decide +kernel
theorem cond29 (c : Fin 16) : k0_cond29 c = 1#1 ↔ (nxt c 14).val / 8 = ((1 : Fin 2)).val := by revert c; decide +kernel
theorem cond30 (c : Fin 16) : k0_cond30 c = 1#1 ↔ (nxt c 15).val / 8 = ((1 : Fin 2)).val := by revert c; decide +kernel

attribute [local irreducible] k0_cond1 k0_cond2 k0_cond3 k0_cond4 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30

/-! ## The inputs -/

/-- The staged inputs. -/
def Win (c : Dev nD) : sProp 𝕄 :=
  iprop(((c : Thread nD τ).loc cc0_stg0_0 ↦{fullShare} xIn m c) ∗ ((c : Thread nD τ).loc cc0_stg1_0 ↦{fullShare} wqIn m c)
    ∗ ((c : Thread nD τ).loc cc0_stg2_0 ↦{fullShare} woIn m c) ∗ ((c : Thread nD τ).loc cc0_stg3_0 ↦{fullShare} wkIn m c)
    ∗ ((c : Thread nD τ).loc cc0_stg4_0 ↦{fullShare} wvIn m c))

omit [FloatOps F] in
theorem read_all (r : Ref sig .tc) (hin : ∀ a, (fun _ => 0 : Fin r.ty.shape.rank → ℕ) a + r.ty.shape.size a ≤ r.ty.shape.size a)
    (f : r.ty.Contents (Elt F)) :
    ((Memref.whole r).access (Rect.unit (s := r.ty.shape) (fun _ => 0) r.ty.shape.size hin)).read (Elt F) f = f := by
  funext x
  refine congrArg f (funext fun a => Fin.ext ?_)
  exact (ValueKit.view_emb_slice_whole_unit_val r _ _ _ _ a).trans (Nat.zero_add _)

omit [FloatOps F] in
theorem read_x (b : Fin 2) (hin : ∀ a, (![b.val, 0, 0] : Fin 3 → ℕ) a + S1x256x768.size a ≤ S2x256x768.size a)
    (f : (cc0_stg0_0 : Ref sig .tc).ty.Contents (Elt F)) :
    (xM.access (Rect.unit (s := S2x256x768) ![b.val, 0, 0] S1x256x768.size hin)).read (Elt F) f = xBatch b f := by
  funext x
  refine congrArg f (funext fun a => Fin.ext ?_)
  refine (ValueKit.view_emb_slice_whole_unit_val cc0_stg0_0 _ _ _ _ a).trans ?_
  fin_cases a
  · have hx : (x 0).val < 1 := (x 0).isLt
    show b.val + (x 0).val = b.val; omega
  · exact Nat.zero_add _
  · exact Nat.zero_add _

/-- The load of a batch of `x`. -/
theorem x_load {α : Type} {Q : α → sProp 𝕄} {R : sProp 𝕄} (c : Dev nD) (b : Fin 2) {off : Fin 3 → ℕ} (ho : off = ![b.val, 0, 0])
    {hin : ∀ a, off a + S1x256x768.size a ≤ S2x256x768.size a}
    {hl : xM.view.LoadsAt (Rect.unit (s := S2x256x768) off S1x256x768.size hin).toLoadRect}
    {k : Vec F S1x256x768 .bf16 → Prog (TpuEff nD τ sig (Elt F) Λ₀ .tc) α}
    (h : iprop(ctx m K ∗ Win m c ∗ R) ⊢ runs c (k (xBatch b (xIn m c))) Q) :
    iprop(ctx m K ∗ Win m c ∗ R) ⊢ runs c (.op (.load xM (Rect.unit (s := S2x256x768) off S1x256x768.size hin).toLoadRect hl) k) Q := by
  subst ho
  unfold Win
  iintro ⟨#Hc, ⟨Hx, H1, H2, H3, H4⟩, HR⟩
  iapply (wp_load_rect 𝒱₀ (c : Thread nD τ) none Set.univ (m := xM) (r := Rect.unit (s := S2x256x768) ![b.val, 0, 0] S1x256x768.size hin) (Finset.subset_univ _)) $$ Hx
  iintro Hx
  rw [read_x b hin]
  iapply h
  unfold Win
  isplitr; · iexact Hc
  isplitr [HR]
  · isplitl [Hx]; · iexact Hx
    isplitl [H1]; · iexact H1
    isplitl [H2]; · iexact H2
    isplitl [H3] <;> iassumption
  iexact HR

/-- The load of `wq`. -/
theorem wq_load {α : Type} {Q : α → sProp 𝕄} {R : sProp 𝕄} (c : Dev nD)
    {hin : ∀ a, (![0, 0] : Fin 2 → ℕ) a + S768x512.size a ≤ S768x512.size a}
    {hl : wqM.view.LoadsAt (Rect.unit (s := S768x512) ![0, 0] S768x512.size hin).toLoadRect}
    {k : Vec F S768x512 .bf16 → Prog (TpuEff nD τ sig (Elt F) Λ₀ .tc) α}
    (h : iprop(ctx m K ∗ Win m c ∗ R) ⊢ runs c (k (wqIn m c)) Q) :
    iprop(ctx m K ∗ Win m c ∗ R) ⊢ runs c (.op (.load wqM (Rect.unit (s := S768x512) ![0, 0] S768x512.size hin).toLoadRect hl) k) Q := by
  have e : (wqM.access (Rect.unit (s := S768x512) ![0, 0] S768x512.size hin)).read (Elt F) (wqIn m c) = wqIn m c := by
    revert hin; rw [show (![0, 0] : Fin 2 → ℕ) = fun _ => 0 from funext fun a => by fin_cases a <;> rfl]
    intro hin _; exact read_all cc0_stg1_0 hin _
  unfold Win
  iintro ⟨#Hc, ⟨H0, H1, H2, H3, H4⟩, HR⟩
  iapply (wp_load_rect 𝒱₀ (c : Thread nD τ) none Set.univ (m := wqM) (r := Rect.unit (s := S768x512) ![0, 0] S768x512.size hin) (Finset.subset_univ _)) $$ H1
  iintro H1
  rw [e]
  iapply h
  unfold Win
  isplitr; · iexact Hc
  isplitr [HR]
  · isplitl [H0]; · iexact H0
    isplitl [H1]; · iexact H1
    isplitl [H2]; · iexact H2
    isplitl [H3] <;> iassumption
  iexact HR

/-- The load of `wo`. -/
theorem wo_load {α : Type} {Q : α → sProp 𝕄} {R : sProp 𝕄} (c : Dev nD)
    {hin : ∀ a, (![0, 0] : Fin 2 → ℕ) a + S512x768.size a ≤ S512x768.size a}
    {hl : woM.view.LoadsAt (Rect.unit (s := S512x768) ![0, 0] S512x768.size hin).toLoadRect}
    {k : Vec F S512x768 .bf16 → Prog (TpuEff nD τ sig (Elt F) Λ₀ .tc) α}
    (h : iprop(ctx m K ∗ Win m c ∗ R) ⊢ runs c (k (woIn m c)) Q) :
    iprop(ctx m K ∗ Win m c ∗ R) ⊢ runs c (.op (.load woM (Rect.unit (s := S512x768) ![0, 0] S512x768.size hin).toLoadRect hl) k) Q := by
  have e : (woM.access (Rect.unit (s := S512x768) ![0, 0] S512x768.size hin)).read (Elt F) (woIn m c) = woIn m c := by
    revert hin; rw [show (![0, 0] : Fin 2 → ℕ) = fun _ => 0 from funext fun a => by fin_cases a <;> rfl]
    intro hin _; exact read_all cc0_stg2_0 hin _
  unfold Win
  iintro ⟨#Hc, ⟨H0, H1, H2, H3, H4⟩, HR⟩
  iapply (wp_load_rect 𝒱₀ (c : Thread nD τ) none Set.univ (m := woM) (r := Rect.unit (s := S512x768) ![0, 0] S512x768.size hin) (Finset.subset_univ _)) $$ H2
  iintro H2
  rw [e]
  iapply h
  unfold Win
  isplitr; · iexact Hc
  isplitr [HR]
  · isplitl [H0]; · iexact H0
    isplitl [H1]; · iexact H1
    isplitl [H2]; · iexact H2
    isplitl [H3] <;> iassumption
  iexact HR

/-- The load of `wk`. -/
theorem wk_load {α : Type} {Q : α → sProp 𝕄} {R : sProp 𝕄} (c : Dev nD)
    {hin : ∀ a, (![0, 0] : Fin 2 → ℕ) a + S768x512.size a ≤ S768x512.size a}
    {hl : wkM.view.LoadsAt (Rect.unit (s := S768x512) ![0, 0] S768x512.size hin).toLoadRect}
    {k : Vec F S768x512 .bf16 → Prog (TpuEff nD τ sig (Elt F) Λ₀ .tc) α}
    (h : iprop(ctx m K ∗ Win m c ∗ R) ⊢ runs c (k (wkIn m c)) Q) :
    iprop(ctx m K ∗ Win m c ∗ R) ⊢ runs c (.op (.load wkM (Rect.unit (s := S768x512) ![0, 0] S768x512.size hin).toLoadRect hl) k) Q := by
  have e : (wkM.access (Rect.unit (s := S768x512) ![0, 0] S768x512.size hin)).read (Elt F) (wkIn m c) = wkIn m c := by
    revert hin; rw [show (![0, 0] : Fin 2 → ℕ) = fun _ => 0 from funext fun a => by fin_cases a <;> rfl]
    intro hin _; exact read_all cc0_stg3_0 hin _
  unfold Win
  iintro ⟨#Hc, ⟨H0, H1, H2, H3, H4⟩, HR⟩
  iapply (wp_load_rect 𝒱₀ (c : Thread nD τ) none Set.univ (m := wkM) (r := Rect.unit (s := S768x512) ![0, 0] S768x512.size hin) (Finset.subset_univ _)) $$ H3
  iintro H3
  rw [e]
  iapply h
  unfold Win
  isplitr; · iexact Hc
  isplitr [HR]
  · isplitl [H0]; · iexact H0
    isplitl [H1]; · iexact H1
    isplitl [H2]; · iexact H2
    isplitl [H3] <;> iassumption
  iexact HR

/-- The load of `wv`. -/
theorem wv_load {α : Type} {Q : α → sProp 𝕄} {R : sProp 𝕄} (c : Dev nD)
    {hin : ∀ a, (![0, 0] : Fin 2 → ℕ) a + S768x512.size a ≤ S768x512.size a}
    {hl : wvM.view.LoadsAt (Rect.unit (s := S768x512) ![0, 0] S768x512.size hin).toLoadRect}
    {k : Vec F S768x512 .bf16 → Prog (TpuEff nD τ sig (Elt F) Λ₀ .tc) α}
    (h : iprop(ctx m K ∗ Win m c ∗ R) ⊢ runs c (k (wvIn m c)) Q) :
    iprop(ctx m K ∗ Win m c ∗ R) ⊢ runs c (.op (.load wvM (Rect.unit (s := S768x512) ![0, 0] S768x512.size hin).toLoadRect hl) k) Q := by
  have e : (wvM.access (Rect.unit (s := S768x512) ![0, 0] S768x512.size hin)).read (Elt F) (wvIn m c) = wvIn m c := by
    revert hin; rw [show (![0, 0] : Fin 2 → ℕ) = fun _ => 0 from funext fun a => by fin_cases a <;> rfl]
    intro hin _; exact read_all cc0_stg4_0 hin _
  unfold Win
  iintro ⟨#Hc, ⟨H0, H1, H2, H3, H4⟩, HR⟩
  iapply (wp_load_rect 𝒱₀ (c : Thread nD τ) none Set.univ (m := wvM) (r := Rect.unit (s := S768x512) ![0, 0] S768x512.size hin) (Finset.subset_univ _)) $$ H4
  iintro H4
  rw [e]
  iapply h
  unfold Win
  isplitr; · iexact Hc
  isplitr [HR]
  · isplitl [H0]; · iexact H0
    isplitl [H1]; · iexact H1
    isplitl [H2]; · iexact H2
    isplitl [H3] <;> iassumption
  iexact HR

/-- A batch's queries, keys and values. -/
abbrev qB (c : Dev nD) (b : Fin 2) : FVec F S256x512 .bf16 := k0_pay6 (wqIn m c) (xBatch b (xIn m c))
abbrev kB (c : Dev nD) (b : Fin 2) : FVec F S256x512 .bf16 := k0_pay7 (wkIn m c) (xBatch b (xIn m c))
abbrev vB (c : Dev nD) (b : Fin 2) : FVec F S256x512 .bf16 := k0_pay8 (wvIn m c) (xBatch b (xIn m c))

/-! ## Between phases -/

theorem sig_end {R X : sProp 𝕄} (c : Dev nD) (h : iprop(ctx m K ∗ Ow c ∅ NZ NZ ∗ R) ⊢ X) : iprop(ctx m K ∗ Sigs (F := F) c 16 ∗ R) ⊢ X := by
  refine via ?_ h
  unfold Sigs; rw [ge_last]
  iintro ⟨H0, ⟨H1, -⟩, H2⟩
  isplitl [H0]; · iexact H0
  isplitl [H1] <;> iassumption

theorem turn_step {A R X : sProp 𝕄} (c : Dev nD) (h : iprop(ctx m K ∗ Rs m c 1 1 ∗ A ∗ R) ⊢ X) :
    iprop(ctx m K ∗ workHeld m c (blocksOf 1) ∗ A ∗ Rs m c 0 16 ∗ R) ⊢ X := by
  refine via ?_ h
  iintro ⟨H0, H1, H2, H3, H4⟩
  isplitl [H0]; · iexact H0
  isplitl [H1 H3]
  · iapply (rs_turn m c); isplitl [H3] <;> iassumption
  isplitl [H2] <;> iassumption

theorem rs_done {S W R X : sProp 𝕄} (c : Dev nD)
    (h : iprop(ctx m K ∗ workPts c c (workAt m c) ∗ S ∗ Ow (F := F) c ∅ ∅ NZ ∗ W ∗ creds (F := F) c 0 NZ ∗ R) ⊢ X) :
    iprop(ctx m K ∗ Rs m c 1 16 ∗ S ∗ W ∗ R) ⊢ X := by
  refine via ?_ h
  iintro ⟨H0, H1, H2, H3, H4⟩
  isplitl [H0]; · iexact H0
  ihave H1' := (rs_end m c) $$ H1
  icases H1' with ⟨Ha, Hb, Hc⟩
  isplitl [Hb]; · iexact Hb
  isplitl [H2]; · iexact H2
  isplitl [Ha]; · iexact Ha
  isplitl [H3]; · iexact H3
  isplitl [Hc] <;> iassumption

/-! ## The parts -/

theorem part1 (c : Dev nD) {Q : _ → sProp 𝕄} {R : sProp 𝕄}
    (h : ∀ a1 a2, iprop(ctx m K ∗ Attn m c 0 0 ∗ Win m c ∗ R) ⊢ Q ⟨c, a1, k0_pay1 (wqIn m c), k0_pay2 (wkIn m c), k0_pay3 (wvIn m c),
      k0_pay4 (woIn m c), qB m c 0, kB m c 0, vB m c 0, k0_pay9 (wqIn m c) (wkIn m c) (wvIn m c) (xBatch 0 (xIn m c)), a2⟩) :
    iprop(ctx m K ∗ Win m c ∗ Attn m c 0 0 ∗ R) ⊢ runs c (k0_part1 xM whole wqM whole woM whole wkM whole wvM whole outM whole attnM whole workM whole rsM whole cc0_scratch3 cc0_scratch4 cc0_scratch5 cc0_scratch6) Q := by
  rw [k0_part1_eq_skeleton]; unfold k0_part1_skel
  simp (zeta := false) only [semSignalWord, semWaitWord, Prog.lift, Prog.bind_op, Prog.bind_ret, Prog.pure_eq_ret, wp_deviceId]
  refine dev_step ?_
  refine wq_load m K c ?_
  refine wk_load m K c ?_
  refine wv_load m K c ?_
  refine wo_load m K c ?_
  refine x_load m K c 0 (by rfl) ?_
  refine rot ?_
  refine attn_skip m K c 0 0 _ (fun _ => ?_)
  exact ret_step (h _ _)

theorem part2 (c : Dev nD) (v35 : Vec F S256x64 .bf16) {Q : _ → sProp 𝕄} {R : sProp 𝕄}
    (h : iprop(ctx m K ∗ Attn m c 0 3 ∗ R) ⊢ Q ⟨k0_pay14 (qB m c 0) (kB m c 0), k0_pay15 (qB m c 0) (kB m c 0)⟩) :
    iprop(ctx m K ∗ Attn m c 0 0 ∗ R) ⊢ runs c (k0_part2 xM whole wqM whole woM whole wkM whole wvM whole outM whole attnM whole workM whole rsM whole cc0_scratch3 cc0_scratch4 cc0_scratch5 cc0_scratch6 (qB m c 0) (kB m c 0) (vB m c 0) (k0_pay9 (wqIn m c) (wkIn m c) (wvIn m c) (xBatch 0 (xIn m c))) v35) Q := by
  rw [k0_part2_eq_skeleton]; unfold k0_part2_skel
  simp (zeta := false) only [semSignalWord, semWaitWord, Prog.lift, Prog.bind_op, Prog.bind_ret, Prog.pure_eq_ret, wp_deviceId]
  refine attn_store m K c 0 0 (by rfl) (by exact pay_head00 _ _ _ _) ?_
  refine attn_skip m K c 0 1 _ (fun _ => ?_)
  refine attn_store m K c 0 1 (by rfl) (by exact pay_head01 _ _ _) ?_
  refine attn_skip m K c 0 2 _ (fun _ => ?_)
  refine attn_store m K c 0 2 (by rfl) (by exact pay_head02 _ _ _) ?_
  exact ret_step h

theorem part3 (c : Dev nD) {Q : _ → sProp 𝕄} {R : sProp 𝕄}
    (h : ∀ a1, iprop(ctx m K ∗ Attn m c 0 5 ∗ R) ⊢ Q ⟨k0_pay18 (qB m c 0) (kB m c 0) (vB m c 0), a1⟩) :
    iprop(ctx m K ∗ Attn m c 0 3 ∗ R) ⊢ runs c (k0_part3 xM whole wqM whole woM whole wkM whole wvM whole outM whole attnM whole workM whole rsM whole cc0_scratch3 cc0_scratch4 cc0_scratch5 cc0_scratch6 (qB m c 0) (kB m c 0) (vB m c 0) (k0_pay14 (qB m c 0) (kB m c 0)) (k0_pay15 (qB m c 0) (kB m c 0))) Q := by
  rw [k0_part3_eq_skeleton]; unfold k0_part3_skel
  simp (zeta := false) only [semSignalWord, semWaitWord, Prog.lift, Prog.bind_op, Prog.bind_ret, Prog.pure_eq_ret, wp_deviceId]
  refine attn_skip m K c 0 3 _ (fun _ => ?_)
  refine attn_store m K c 0 3 (by rfl) (by exact pay_head03 _ _ _) ?_
  refine attn_skip m K c 0 4 _ (fun _ => ?_)
  refine attn_store m K c 0 4 (by rfl) (by exact pay_head04 _ _ _) ?_
  refine attn_skip m K c 0 5 _ (fun _ => ?_)
  exact ret_step (h _)

theorem part4 (c : Dev nD) (v120 : Vec F S256x64 .bf16) {Q : _ → sProp 𝕄} {R : sProp 𝕄}
    (h : ∀ a1, iprop(ctx m K ∗ WorkH (F := F) c 0 ∗ Attn m c 0 8 ∗ R) ⊢ Q ⟨k0_pay22 (k0_pay4 (woIn m c)) (attnB m c 0), a1⟩) :
    iprop(ctx m K ∗ Attn m c 0 5 ∗ WorkH (F := F) c 0 ∗ R) ⊢ runs c (k0_part4 xM whole wqM whole woM whole wkM whole wvM whole outM whole attnM whole workM whole rsM whole cc0_scratch3 cc0_scratch4 cc0_scratch5 cc0_scratch6 (k0_pay4 (woIn m c)) (qB m c 0) (kB m c 0) (vB m c 0) (k0_pay18 (qB m c 0) (kB m c 0) (vB m c 0)) v120) Q := by
  rw [k0_part4_eq_skeleton]; unfold k0_part4_skel
  simp (zeta := false) only [semSignalWord, semWaitWord, Prog.lift, Prog.bind_op, Prog.bind_ret, Prog.pure_eq_ret, wp_deviceId]
  refine attn_store m K c 0 5 (by rfl) (by exact pay_head05 _ _ _) ?_
  refine attn_skip m K c 0 6 _ (fun _ => ?_)
  refine attn_store m K c 0 6 (by rfl) (by exact pay_head06 _ _ _) ?_
  refine attn_skip m K c 0 7 _ (fun _ => ?_)
  refine attn_store m K c 0 7 (by rfl) (by exact pay_head07 _ _ _) ?_
  refine attn_load m K c 0 (by rfl) ?_
  refine rot ?_
  refine work_skip m K c 0 (by rfl) (fun _ => ?_)
  exact ret_step (h _)

theorem part5 (c : Dev nD) (v2 : BitVec 32) (v160 : Vec F S256x768 .bf16) {Q : _ → sProp 𝕄} {R : sProp 𝕄}
    (h : ∀ a1 a2, iprop(ctx m K ∗ Sigs (F := F) c 6 ∗ workHeld m c (blocksOf 0) ∗ R) ⊢ Q ⟨(SemArray.scalar (sig.barrier 0 rfl)), a1, a2⟩) :
    iprop(ctx m K ∗ WorkH (F := F) c 0 ∗ Sigs (F := F) c 1 ∗ R) ⊢ runs c (k0_part5 xM whole wqM whole woM whole wkM whole wvM whole outM whole attnM whole workM whole rsM whole cc0_scratch3 cc0_scratch4 cc0_scratch5 cc0_scratch6 c v2 (k0_pay22 (k0_pay4 (woIn m c)) (attnB m c 0)) v160) Q := by
  rw [k0_part5_eq_skeleton]; unfold k0_part5_skel
  simp (zeta := false) only [semSignalWord, semWaitWord, Prog.lift, Prog.bind_op, Prog.bind_ret, Prog.pure_eq_ret, wp_deviceId]
  refine work_store m K c 0 (by rfl) (by rfl) ?_
  refine rot ?_
  refine sig_next m K c 1 (by decide) (by exact Fin.ext (k0_dev1_eq c)) (by rfl) (by rfl) ?_
  refine sig_next m K c 2 (by decide) (by exact Fin.ext (k0_dev2_eq c)) (by rfl) (by rfl) ?_
  refine sig_next m K c 3 (by decide) (by exact Fin.ext (k0_dev3_eq c)) (by rfl) (by rfl) ?_
  refine sig_next m K c 4 (by decide) (by exact Fin.ext (k0_dev4_eq c)) (by rfl) (by rfl) ?_
  refine sig_next m K c 5 (by decide) (by exact Fin.ext (k0_dev5_eq c)) (by rfl) (by rfl) ?_
  exact ret_step (h _ _)

theorem part6 (c : Dev nD) (v2 v185 c1_i32_81 : BitVec 32) {Q : _ → sProp 𝕄} {R : sProp 𝕄}
    (h : ∀ a1 a2, iprop(ctx m K ∗ Sigs (F := F) c 12 ∗ R) ⊢ Q ⟨a1, a2⟩) :
    iprop(ctx m K ∗ Sigs (F := F) c 6 ∗ R) ⊢ runs c (k0_part6 xM whole wqM whole woM whole wkM whole wvM whole outM whole attnM whole workM whole rsM whole cc0_scratch3 cc0_scratch4 cc0_scratch5 cc0_scratch6 c v2 (SemArray.scalar (sig.barrier 0 rfl)) v185 c1_i32_81) Q := by
  rw [k0_part6_eq_skeleton]; unfold k0_part6_skel
  simp (zeta := false) only [semSignalWord, semWaitWord, Prog.lift, Prog.bind_op, Prog.bind_ret, Prog.pure_eq_ret, wp_deviceId]
  refine sig_next m K c 6 (by decide) (by exact Fin.ext (k0_dev6_eq c)) (by rfl) (by rfl) ?_
  refine sig_next m K c 7 (by decide) (by exact Fin.ext (k0_dev7_eq c)) (by rfl) (by rfl) ?_
  refine sig_next m K c 8 (by decide) (by exact Fin.ext (k0_dev8_eq c)) (by rfl) (by rfl) ?_
  refine sig_next m K c 9 (by decide) (by exact Fin.ext (k0_dev9_eq c)) (by rfl) (by rfl) ?_
  refine sig_next m K c 10 (by decide) (by exact Fin.ext (k0_dev10_eq c)) (by rfl) (by rfl) ?_
  refine sig_next m K c 11 (by decide) (by exact Fin.ext (k0_dev11_eq c)) (by rfl) (by rfl) ?_
  exact ret_step (h _ _)

theorem part7 (c : Dev nD) (v2 v209 c1_i32_105 : BitVec 32) {Q : _ → sProp 𝕄} {R : sProp 𝕄}
    (h : ∀ a1 a2 a3 a4 a5 a6 a7, iprop(ctx m K ∗ Ow (F := F) c ∅ NZ NZ ∗ semVal (barCell c) 0
      ∗ bigSep NZ (fun d => iprop((∃ f, slotPts (F := F) (nxt c d) d f) ∗ (∃ f, outPts (F := F) (nxt c d) c fullShare f))) ∗ R) ⊢ Q ⟨a1, a2, a3, a4, a5, a6, a7⟩) :
    iprop(ctx m K ∗ Sigs (F := F) c 12 ∗ cred (tallyAt (barCell c) () 15) ∗ atPos ER (barCell c) 0 ∅ 0 ∗ R) ⊢ runs c (k0_part7 xM whole wqM whole woM whole wkM whole wvM whole outM whole attnM whole workM whole rsM whole cc0_scratch3 cc0_scratch4 cc0_scratch5 cc0_scratch6 c v2 (SemArray.scalar (sig.barrier 0 rfl)) v209 c1_i32_105) Q := by
  rw [k0_part7_eq_skeleton]; unfold k0_part7_skel
  simp (zeta := false) only [semSignalWord, semWaitWord, Prog.lift, Prog.bind_op, Prog.bind_ret, Prog.pure_eq_ret, wp_deviceId]
  refine sig_next m K c 12 (by decide) (by exact Fin.ext (k0_dev12_eq c)) (by rfl) (by rfl) ?_
  refine sig_next m K c 13 (by decide) (by exact Fin.ext (k0_dev13_eq c)) (by rfl) (by rfl) ?_
  refine sig_next m K c 14 (by decide) (by exact Fin.ext (k0_dev14_eq c)) (by rfl) (by rfl) ?_
  refine sig_next m K c 15 (by decide) (by exact Fin.ext (k0_dev15_eq c)) (by rfl) (by rfl) ?_
  refine sig_end m K c ?_
  refine bar_step m K c (by rfl) ?_
  exact ret_step (h _ _ _ _ _ _ _)

theorem part8 (c : Dev nD) (v2 v225 v227 v229 v231 v234 c16_i32_131 : BitVec 32) {Q : _ → sProp 𝕄} {R : sProp 𝕄}
    (h : ∀ a1 a2 a3 a4 a5 a6 a7 a8 a9 a10, iprop(ctx m K ∗ Rs m c 0 4 ∗ R) ⊢ Q ⟨a1, a2, a3, a4, a5, a6, a7, a8, a9, a10⟩) :
    iprop(ctx m K ∗ Rs m c 0 1 ∗ R) ⊢ runs c (k0_part8 xM whole wqM whole woM whole wkM whole wvM whole outM whole attnM whole workM whole rsM whole cc0_scratch3 cc0_scratch4 cc0_scratch5 cc0_scratch6 c v2 v225 v227 v229 v231 v234 c16_i32_131) Q := by
  rw [k0_part8_eq_skeleton]; unfold k0_part8_skel
  simp (zeta := false) only [semSignalWord, semWaitWord, Prog.lift, Prog.bind_op, Prog.bind_ret, Prog.pure_eq_ret, wp_deviceId]
  refine rs_next m K c 0 1 (by decide) (by exact cond1 c) (by exact fun _ => Fin.ext (k0_dev16_eq c)) (by exact fun _ => work_slice c 1 (k0_off1_eq c)) (by rfl) (by rfl) (by rfl) (by rfl) (by rfl) rfl ?_
  refine rs_next m K c 0 2 (by decide) (by exact cond2 c) (by exact fun _ => Fin.ext (k0_dev17_eq c)) (by exact fun _ => work_slice c 2 (k0_off2_eq c)) (by rfl) (by rfl) (by rfl) (by rfl) (by rfl) rfl ?_
  refine rs_next m K c 0 3 (by decide) (by exact cond3 c) (by exact fun _ => Fin.ext (k0_dev18_eq c)) (by exact fun _ => work_slice c 3 (k0_off3_eq c)) (by rfl) (by rfl) (by rfl) (by rfl) (by rfl) rfl ?_
  exact ret_step (h _ _ _ _ _ _ _ _ _ _)

theorem part9 (c : Dev nD) (v231 v233 v235 v237 v239 v241 v243 v245 v247 v249 v251 : BitVec 32) {Q : _ → sProp 𝕄} {R : sProp 𝕄}
    (h : iprop(ctx m K ∗ Rs m c 0 14 ∗ R) ⊢ Q ⟨⟩) :
    iprop(ctx m K ∗ Rs m c 0 4 ∗ R) ⊢ runs c (k0_part9 xM whole wqM whole woM whole wkM whole wvM whole outM whole attnM whole workM whole rsM whole cc0_scratch3 cc0_scratch4 cc0_scratch5 cc0_scratch6 c v231 v233 v235 v237 v239 v241 v243 v245 v247 v249 v251) Q := by
  rw [k0_part9_eq_skeleton]; unfold k0_part9_skel
  simp (zeta := false) only [semSignalWord, semWaitWord, Prog.lift, Prog.bind_op, Prog.bind_ret, Prog.pure_eq_ret, wp_deviceId]
  refine rs_next m K c 0 4 (by decide) (by exact cond4 c) (by exact fun _ => Fin.ext (k0_dev19_eq c)) (by exact fun _ => work_slice c 4 (k0_off4_eq c)) (by rfl) (by rfl) (by rfl) (by rfl) (by rfl) rfl ?_
  refine rs_next m K c 0 5 (by decide) (by exact cond5 c) (by exact fun _ => Fin.ext (k0_dev20_eq c)) (by exact fun _ => work_slice c 5 (k0_off5_eq c)) (by rfl) (by rfl) (by rfl) (by rfl) (by rfl) rfl ?_
  refine rs_next m K c 0 6 (by decide) (by exact cond6 c) (by exact fun _ => Fin.ext (k0_dev21_eq c)) (by exact fun _ => work_slice c 6 (k0_off6_eq c)) (by rfl) (by rfl) (by rfl) (by rfl) (by rfl) rfl ?_
  refine rs_next m K c 0 7 (by decide) (by exact cond7 c) (by exact fun _ => Fin.ext (k0_dev22_eq c)) (by exact fun _ => work_slice c 7 (k0_off7_eq c)) (by rfl) (by rfl) (by rfl) (by rfl) (by rfl) rfl ?_
  refine rs_next m K c 0 8 (by decide) (by exact cond8 c) (by exact fun _ => Fin.ext (k0_dev23_eq c)) (by exact fun _ => work_slice c 8 (k0_off8_eq c)) (by rfl) (by rfl) (by rfl) (by rfl) (by rfl) rfl ?_
  refine rs_next m K c 0 9 (by decide) (by exact cond9 c) (by exact fun _ => Fin.ext (k0_dev24_eq c)) (by exact fun _ => work_slice c 9 (k0_off9_eq c)) (by rfl) (by rfl) (by rfl) (by rfl) (by rfl) rfl ?_
  refine rs_next m K c 0 10 (by decide) (by exact cond10 c) (by exact fun _ => Fin.ext (k0_dev25_eq c)) (by exact fun _ => work_slice c 10 (k0_off10_eq c)) (by rfl) (by rfl) (by rfl) (by rfl) (by rfl) rfl ?_
  refine rs_next m K c 0 11 (by decide) (by exact cond11 c) (by exact fun _ => Fin.ext (k0_dev26_eq c)) (by exact fun _ => work_slice c 11 (k0_off11_eq c)) (by rfl) (by rfl) (by rfl) (by rfl) (by rfl) rfl ?_
  refine rs_next m K c 0 12 (by decide) (by exact cond12 c) (by exact fun _ => Fin.ext (k0_dev27_eq c)) (by exact fun _ => work_slice c 12 (k0_off12_eq c)) (by rfl) (by rfl) (by rfl) (by rfl) (by rfl) rfl ?_
  refine rs_next m K c 0 13 (by decide) (by exact cond13 c) (by exact fun _ => Fin.ext (k0_dev28_eq c)) (by exact fun _ => work_slice c 13 (k0_off13_eq c)) (by rfl) (by rfl) (by rfl) (by rfl) (by rfl) rfl ?_
  exact ret_step h

theorem part10 (c : Dev nD) (v251 v253 : BitVec 32) {Q : _ → sProp 𝕄} {R : sProp 𝕄}
    (h : iprop(ctx m K ∗ Attn m c 1 1 ∗ Rs m c 0 16 ∗ Win m c ∗ R) ⊢ Q ⟨qB m c 1, kB m c 1, vB m c 1,
      k0_pay30 (k0_pay1 (wqIn m c)) (k0_pay2 (wkIn m c)) (xBatch 1 (xIn m c)),
      k0_pay31 (k0_pay1 (wqIn m c)) (k0_pay2 (wkIn m c)) (k0_pay3 (wvIn m c)) (xBatch 1 (xIn m c))⟩) :
    iprop(ctx m K ∗ Rs m c 0 14 ∗ Win m c ∗ Attn m c 1 0 ∗ R) ⊢ runs c (k0_part10 xM whole wqM whole woM whole wkM whole wvM whole outM whole attnM whole workM whole rsM whole cc0_scratch3 cc0_scratch4 cc0_scratch5 cc0_scratch6 c (k0_pay1 (wqIn m c)) (k0_pay2 (wkIn m c)) (k0_pay3 (wvIn m c)) v251 v253) Q := by
  rw [k0_part10_eq_skeleton]; unfold k0_part10_skel
  simp (zeta := false) only [semSignalWord, semWaitWord, Prog.lift, Prog.bind_op, Prog.bind_ret, Prog.pure_eq_ret, wp_deviceId]
  refine rs_next m K c 0 14 (by decide) (by exact cond14 c) (by exact fun _ => Fin.ext (k0_dev29_eq c)) (by exact fun _ => work_slice c 14 (k0_off14_eq c)) (by rfl) (by rfl) (by rfl) (by rfl) (by rfl) rfl ?_
  refine rs_next m K c 0 15 (by decide) (by exact cond15 c) (by exact fun _ => Fin.ext (k0_dev30_eq c)) (by exact fun _ => work_slice c 15 (k0_off15_eq c)) (by rfl) (by rfl) (by rfl) (by rfl) (by rfl) rfl ?_
  refine rot ?_
  refine x_load m K c 1 (by rfl) ?_
  refine rot ?_
  refine rot3 ?_
  refine attn_skip m K c 1 0 _ (fun _ => ?_)
  refine attn_store m K c 1 0 (by rfl) (by exact pay_head10 _ _ _ _) ?_
  exact ret_step h

theorem part11 (c : Dev nD) {Q : _ → sProp 𝕄} {R : sProp 𝕄}
    (h : iprop(ctx m K ∗ Attn m c 1 4 ∗ R) ⊢ Q ⟨⟩) :
    iprop(ctx m K ∗ Attn m c 1 1 ∗ R) ⊢ runs c (k0_part11 xM whole wqM whole woM whole wkM whole wvM whole outM whole attnM whole workM whole rsM whole cc0_scratch3 cc0_scratch4 cc0_scratch5 cc0_scratch6 (qB m c 1) (kB m c 1) (vB m c 1) (k0_pay30 (k0_pay1 (wqIn m c)) (k0_pay2 (wkIn m c)) (xBatch 1 (xIn m c))) (k0_pay31 (k0_pay1 (wqIn m c)) (k0_pay2 (wkIn m c)) (k0_pay3 (wvIn m c)) (xBatch 1 (xIn m c)))) Q := by
  rw [k0_part11_eq_skeleton]; unfold k0_part11_skel
  simp (zeta := false) only [semSignalWord, semWaitWord, Prog.lift, Prog.bind_op, Prog.bind_ret, Prog.pure_eq_ret, wp_deviceId]
  refine attn_skip m K c 1 1 _ (fun _ => ?_)
  refine attn_store m K c 1 1 (by rfl) (by exact pay_head11 _ _ _ _) ?_
  refine attn_skip m K c 1 2 _ (fun _ => ?_)
  refine attn_store m K c 1 2 (by rfl) (by exact pay_head12 _ _ _) ?_
  refine attn_skip m K c 1 3 _ (fun _ => ?_)
  refine attn_store m K c 1 3 (by rfl) (by exact pay_head13 _ _ _) ?_
  exact ret_step h

theorem part12 (c : Dev nD) {Q : _ → sProp 𝕄} {R : sProp 𝕄}
    (h : iprop(ctx m K ∗ Attn m c 1 6 ∗ R) ⊢ Q ⟨k0_pay38 (qB m c 1) (kB m c 1), k0_pay39 (qB m c 1) (kB m c 1) (vB m c 1)⟩) :
    iprop(ctx m K ∗ Attn m c 1 4 ∗ R) ⊢ runs c (k0_part12 xM whole wqM whole woM whole wkM whole wvM whole outM whole attnM whole workM whole rsM whole cc0_scratch3 cc0_scratch4 cc0_scratch5 cc0_scratch6 (qB m c 1) (kB m c 1) (vB m c 1)) Q := by
  rw [k0_part12_eq_skeleton]; unfold k0_part12_skel
  simp (zeta := false) only [semSignalWord, semWaitWord, Prog.lift, Prog.bind_op, Prog.bind_ret, Prog.pure_eq_ret, wp_deviceId]
  refine attn_skip m K c 1 4 _ (fun _ => ?_)
  refine attn_store m K c 1 4 (by rfl) (by exact pay_head14 _ _ _) ?_
  refine attn_skip m K c 1 5 _ (fun _ => ?_)
  refine attn_store m K c 1 5 (by rfl) (by exact pay_head15 _ _ _) ?_
  exact ret_step h

theorem part13 (c : Dev nD) (v225 v227 : BitVec 32) {Q : _ → sProp 𝕄} {R : sProp 𝕄}
    (h : iprop(ctx m K ∗ Rs m c 1 3 ∗ Attn m c 1 8 ∗ R) ⊢ Q ⟨⟩) :
    iprop(ctx m K ∗ Attn m c 1 6 ∗ WorkH (F := F) c 1 ∗ Rs m c 0 16 ∗ R) ⊢ runs c (k0_part13 xM whole wqM whole woM whole wkM whole wvM whole outM whole attnM whole workM whole rsM whole cc0_scratch3 cc0_scratch4 cc0_scratch5 cc0_scratch6 c (k0_pay4 (woIn m c)) v225 v227 (qB m c 1) (kB m c 1) (vB m c 1) (k0_pay38 (qB m c 1) (kB m c 1)) (k0_pay39 (qB m c 1) (kB m c 1) (vB m c 1))) Q := by
  rw [k0_part13_eq_skeleton]; unfold k0_part13_skel
  simp (zeta := false) only [semSignalWord, semWaitWord, Prog.lift, Prog.bind_op, Prog.bind_ret, Prog.pure_eq_ret, wp_deviceId]
  refine attn_skip m K c 1 6 _ (fun _ => ?_)
  refine attn_store m K c 1 6 (by rfl) (by exact pay_head16 _ _ _) ?_
  refine attn_skip m K c 1 7 _ (fun _ => ?_)
  refine attn_store m K c 1 7 (by rfl) (by exact pay_head17 _ _ _) ?_
  refine attn_load m K c 1 (by rfl) ?_
  refine rot ?_
  refine work_skip m K c 1 (by rfl) (fun _ => ?_)
  refine work_store m K c 1 (by rfl) (by rfl) ?_
  refine turn_step m K c ?_
  refine rs_next m K c 1 1 (by decide) (by exact cond16 c) (by exact fun _ => Fin.ext (k0_dev31_eq c)) (by exact fun _ => work_slice c 1 (k0_off16_eq c)) (by rfl) (by rfl) (by rfl) (by rfl) (by rfl) rfl ?_
  refine rs_next m K c 1 2 (by decide) (by exact cond17 c) (by exact fun _ => Fin.ext (k0_dev32_eq c)) (by exact fun _ => work_slice c 2 (k0_off17_eq c)) (by rfl) (by rfl) (by rfl) (by rfl) (by rfl) rfl ?_
  exact ret_step h

theorem part14 (c : Dev nD) (v229 v231 v233 v235 v237 v239 v241 v243 v245 v247 : BitVec 32) {Q : _ → sProp 𝕄} {R : sProp 𝕄}
    (h : iprop(ctx m K ∗ Rs m c 1 13 ∗ R) ⊢ Q ⟨⟩) :
    iprop(ctx m K ∗ Rs m c 1 3 ∗ R) ⊢ runs c (k0_part14 xM whole wqM whole woM whole wkM whole wvM whole outM whole attnM whole workM whole rsM whole cc0_scratch3 cc0_scratch4 cc0_scratch5 cc0_scratch6 c v229 v231 v233 v235 v237 v239 v241 v243 v245 v247) Q := by
  rw [k0_part14_eq_skeleton]; unfold k0_part14_skel
  simp (zeta := false) only [semSignalWord, semWaitWord, Prog.lift, Prog.bind_op, Prog.bind_ret, Prog.pure_eq_ret, wp_deviceId]
  refine rs_next m K c 1 3 (by decide) (by exact cond18 c) (by exact fun _ => Fin.ext (k0_dev33_eq c)) (by exact fun _ => work_slice c 3 (k0_off18_eq c)) (by rfl) (by rfl) (by rfl) (by rfl) (by rfl) rfl ?_
  refine rs_next m K c 1 4 (by decide) (by exact cond19 c) (by exact fun _ => Fin.ext (k0_dev34_eq c)) (by exact fun _ => work_slice c 4 (k0_off19_eq c)) (by rfl) (by rfl) (by rfl) (by rfl) (by rfl) rfl ?_
  refine rs_next m K c 1 5 (by decide) (by exact cond20 c) (by exact fun _ => Fin.ext (k0_dev35_eq c)) (by exact fun _ => work_slice c 5 (k0_off20_eq c)) (by rfl) (by rfl) (by rfl) (by rfl) (by rfl) rfl ?_
  refine rs_next m K c 1 6 (by decide) (by exact cond21 c) (by exact fun _ => Fin.ext (k0_dev36_eq c)) (by exact fun _ => work_slice c 6 (k0_off21_eq c)) (by rfl) (by rfl) (by rfl) (by rfl) (by rfl) rfl ?_
  refine rs_next m K c 1 7 (by decide) (by exact cond22 c) (by exact fun _ => Fin.ext (k0_dev37_eq c)) (by exact fun _ => work_slice c 7 (k0_off22_eq c)) (by rfl) (by rfl) (by rfl) (by rfl) (by rfl) rfl ?_
  refine rs_next m K c 1 8 (by decide) (by exact cond23 c) (by exact fun _ => Fin.ext (k0_dev38_eq c)) (by exact fun _ => work_slice c 8 (k0_off23_eq c)) (by rfl) (by rfl) (by rfl) (by rfl) (by rfl) rfl ?_
  refine rs_next m K c 1 9 (by decide) (by exact cond24 c) (by exact fun _ => Fin.ext (k0_dev39_eq c)) (by exact fun _ => work_slice c 9 (k0_off24_eq c)) (by rfl) (by rfl) (by rfl) (by rfl) (by rfl) rfl ?_
  refine rs_next m K c 1 10 (by decide) (by exact cond25 c) (by exact fun _ => Fin.ext (k0_dev40_eq c)) (by exact fun _ => work_slice c 10 (k0_off25_eq c)) (by rfl) (by rfl) (by rfl) (by rfl) (by rfl) rfl ?_
  refine rs_next m K c 1 11 (by decide) (by exact cond26 c) (by exact fun _ => Fin.ext (k0_dev41_eq c)) (by exact fun _ => work_slice c 11 (k0_off26_eq c)) (by rfl) (by rfl) (by rfl) (by rfl) (by rfl) rfl ?_
  refine rs_next m K c 1 12 (by decide) (by exact cond27 c) (by exact fun _ => Fin.ext (k0_dev42_eq c)) (by exact fun _ => work_slice c 12 (k0_off27_eq c)) (by rfl) (by rfl) (by rfl) (by rfl) (by rfl) rfl ?_
  exact ret_step h

theorem part15 (c : Dev nD) (v2 v225 v227 v249 v251 v253 : BitVec 32) {Q : _ → sProp 𝕄} {R : sProp 𝕄}
    (h : iprop(ctx m K ∗ Ow (F := F) c ∅ ∅ NZ ∗ Wt m c 1 2 ∗ slotPts c 0 (slotsAt m c) ∗ workPts c c (workAt m c) ∗ creds (F := F) c 0 NZ ∗ R) ⊢ Q ⟨⟩) :
    iprop(ctx m K ∗ Rs m c 1 13 ∗ (∃ f, slotPts (F := F) c 0 f) ∗ Wt m c 1 1 ∗ R) ⊢ runs c (k0_part15 xM whole wqM whole woM whole wkM whole wvM whole outM whole attnM whole workM whole rsM whole cc0_scratch3 cc0_scratch4 cc0_scratch5 cc0_scratch6 c v2 v225 v227 v249 v251 v253) Q := by
  rw [k0_part15_eq_skeleton]; unfold k0_part15_skel
  simp (zeta := false) only [semSignalWord, semWaitWord, Prog.lift, Prog.bind_op, Prog.bind_ret, Prog.pure_eq_ret, wp_deviceId]
  refine rs_next m K c 1 13 (by decide) (by exact cond28 c) (by exact fun _ => Fin.ext (k0_dev43_eq c)) (by exact fun _ => work_slice c 13 (k0_off28_eq c)) (by rfl) (by rfl) (by rfl) (by rfl) (by rfl) rfl ?_
  refine rs_next m K c 1 14 (by decide) (by exact cond29 c) (by exact fun _ => Fin.ext (k0_dev44_eq c)) (by exact fun _ => work_slice c 14 (k0_off29_eq c)) (by rfl) (by rfl) (by rfl) (by rfl) (by rfl) rfl ?_
  refine rs_next m K c 1 15 (by decide) (by exact cond30 c) (by exact fun _ => Fin.ext (k0_dev45_eq c)) (by exact fun _ => work_slice c 15 (k0_off30_eq c)) (by rfl) (by rfl) (by rfl) (by rfl) (by rfl) rfl ?_
  refine rs_done m K c ?_
  refine own_load m K c (k0_off31_eq c) ?_
  refine rot ?_
  refine slot_skip m K c 0 (by rfl) (fun _ => ?_)
  refine slot_store m K c (by rfl) ?_
  refine pairs ?_
  refine wait_next m K c 1 1 NZ (by decide) (by exact fun _ _ => by decide) (by rfl) (by exact NX_1.symm) ?_
  exact ret_step h

end Cert.KProof
-- ==== Proof.PartsB.lean ====
/-
The body's parts from the reduce-scatter's waits to the end.
-/
module

public import proofs.«01_k».proof.Proof.PartsA

@[expose] public section

set_option maxRecDepth 10000

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-! ## Between phases -/

/-- The all-gather's duties and places to write. -/
def agPre (c : Dev nD) : sProp 𝕄 :=
  bigSep NZ fun d => iprop((dutyTok ER (xCell 2 d c) 0 0 ∗ dutyTok ER (xCell 3 d (nxt c d)) 0 0) ∗ ∃ f, outPts (F := F) (nxt c d) c fullShare f)

theorem NZ_univ : (Finset.univ : Finset (Fin 16)).erase 0 = NZ := rfl

omit [FloatOps F] in
theorem bigSep_pair {I : Type} (S : Finset I) (Φ Ψ : I → sProp 𝕄) :
    iprop(bigSep S Φ ∗ bigSep S Ψ) = bigSep S fun d => iprop(Φ d ∗ Ψ d) := (bigSep_sep S Φ Ψ).symm

theorem ag_pair (c : Dev nD) :
    iprop((bigSep NZ fun d => outPts c c (leafAt d) (outAt m)) ∗ agPre (F := F) c) ⊢ agTodo m c NZ := by
  unfold agTodo agPre
  refine via (Entails.of_eq (bigSep_pair NZ _ _)) (bigSep_mono fun d _ => ?_)
  show (_ : sProp 𝕄) ⊢ _
  iintro ⟨H1, ⟨H2, H3⟩, H4⟩
  isplitl [H2]; · iexact H2
  isplitl [H3]; · iexact H3
  isplitl [H4] <;> iassumption

theorem ag_begin {R X : sProp 𝕄} (c : Dev nD) (h : iprop(ctx m K ∗ Ag m c 1 ∗ outPts c c (leafAt 0) (outAt m) ∗ R) ⊢ X) :
    iprop(ctx m K ∗ outPts c c fullShare (outAt m) ∗ Ow (F := F) c ∅ ∅ NZ ∗ agPre (F := F) c ∗ R) ⊢ X := by
  refine via ?_ h
  unfold Ag creds
  rw [ge_one, out_leaves, bigSep_out (Finset.mem_univ (0 : Fin 16)), Finset.sdiff_self, bigSep_empty, NZ_univ]
  iintro ⟨H0, ⟨H1, H2⟩, H3, H4, H5⟩
  isplitl [H0]; · iexact H0
  isplitr [H1 H5]
  · isplitl [H3]; · iexact H3
    isplitl [H2 H4]
    · iapply (ag_pair m c)
      isplitl [H2] <;> iassumption
    · iempintro
  isplitl [H1] <;> iassumption

theorem ag_done {W R X : sProp 𝕄} (c : Dev nD) (h : iprop(ctx m K ∗ Ow (F := F) c ∅ ∅ ∅ ∗ W ∗ creds (F := F) c 2 NZ ∗ R) ⊢ X) :
    iprop(ctx m K ∗ Ag m c 16 ∗ W ∗ R) ⊢ X := by
  refine via ?_ h
  unfold Ag; rw [ge_last, Finset.sdiff_empty]
  iintro ⟨H0, ⟨H1, -, H2⟩, H3, H4⟩
  isplitl [H0]; · iexact H0
  isplitl [H1]; · iexact H1
  isplitl [H3]; · iexact H3
  isplitl [H2] <;> iassumption

theorem sent_begin {W R X : sProp 𝕄} (c : Dev nD) (h : iprop(ctx m K ∗ Sent m c 1 1 ∗ W ∗ R) ⊢ X) :
    iprop(ctx m K ∗ Ow (F := F) c ∅ ∅ ∅ ∗ W ∗ Wt m c 0 1 ∗ Wt m c 2 1 ∗ R) ⊢ X := by
  refine via ?_ h
  unfold Sent
  iintro ⟨H0, H1, H2, H3, H4, H5⟩
  isplitl [H0]; · iexact H0
  isplitl [H1 H3 H4]
  · isplitl [H1]; · iexact H1
    isplitl [H3] <;> iassumption
  isplitl [H2] <;> iassumption

/-! ## The parts -/

theorem part16 (c : Dev nD) (v229 v231 v233 : BitVec 32) {Q : _ → sProp 𝕄} {R : sProp 𝕄}
    (h : iprop(ctx m K ∗ Ow (F := F) c ∅ ∅ NZ ∗ Wt m c 1 6 ∗ R) ⊢ Q ⟨⟩) :
    iprop(ctx m K ∗ Ow (F := F) c ∅ ∅ NZ ∗ Wt m c 1 2 ∗ R) ⊢ runs c (k0_part16 xM whole wqM whole woM whole wkM whole wvM whole outM whole attnM whole workM whole rsM whole cc0_scratch3 cc0_scratch4 cc0_scratch5 cc0_scratch6 c v229 v231 v233) Q := by
  rw [k0_part16_eq_skeleton]; unfold k0_part16_skel
  simp (zeta := false) only [semSignalWord, semWaitWord, Prog.lift, Prog.bind_op, Prog.bind_ret, Prog.pure_eq_ret, wp_deviceId]
  refine wait_next m K c 1 2 NZ (by decide) (by exact fun _ _ => by decide) (by rfl) (by exact NX_1.symm) ?_
  refine wait_next m K c 1 3 NZ (by decide) (by exact fun _ _ => by decide) (by rfl) (by exact NX_1.symm) ?_
  refine wait_next m K c 1 4 NZ (by decide) (by exact fun _ _ => by decide) (by rfl) (by exact NX_1.symm) ?_
  refine wait_next m K c 1 5 NZ (by decide) (by exact fun _ _ => by decide) (by rfl) (by exact NX_1.symm) ?_
  exact ret_step h

theorem part17 (c : Dev nD) (v235 v237 v239 v241 : BitVec 32) {Q : _ → sProp 𝕄} {R : sProp 𝕄}
    (h : ∀ a1, iprop(ctx m K ∗ Ow (F := F) c ∅ ∅ NZ ∗ Wt m c 1 9 ∗ R) ⊢ Q a1) :
    iprop(ctx m K ∗ Ow (F := F) c ∅ ∅ NZ ∗ Wt m c 1 6 ∗ R) ⊢ runs c (k0_part17 xM whole wqM whole woM whole wkM whole wvM whole outM whole attnM whole workM whole rsM whole cc0_scratch3 cc0_scratch4 cc0_scratch5 cc0_scratch6 c v235 v237 v239 v241) Q := by
  rw [k0_part17_eq_skeleton]; unfold k0_part17_skel
  simp (zeta := false) only [semSignalWord, semWaitWord, Prog.lift, Prog.bind_op, Prog.bind_ret, Prog.pure_eq_ret, wp_deviceId]
  refine wait_next m K c 1 6 NZ (by decide) (by exact fun _ _ => by decide) (by rfl) (by exact NX_1.symm) ?_
  refine wait_next m K c 1 7 NZ (by decide) (by exact fun _ _ => by decide) (by rfl) (by exact NX_1.symm) ?_
  refine wait_next m K c 1 8 NZ (by decide) (by exact fun _ _ => by decide) (by rfl) (by exact NX_1.symm) ?_
  exact ret_step (h _)

theorem part18 (c : Dev nD) (v241 v243 v245 v247 c1_i32_349 : BitVec 32) {Q : _ → sProp 𝕄} {R : sProp 𝕄}
    (h : iprop(ctx m K ∗ Ow (F := F) c ∅ ∅ NZ ∗ Wt m c 1 12 ∗ R) ⊢ Q ⟨⟩) :
    iprop(ctx m K ∗ Ow (F := F) c ∅ ∅ NZ ∗ Wt m c 1 9 ∗ R) ⊢ runs c (k0_part18 xM whole wqM whole woM whole wkM whole wvM whole outM whole attnM whole workM whole rsM whole cc0_scratch3 cc0_scratch4 cc0_scratch5 cc0_scratch6 c v241 v243 v245 v247 c1_i32_349) Q := by
  rw [k0_part18_eq_skeleton]; unfold k0_part18_skel
  simp (zeta := false) only [semSignalWord, semWaitWord, Prog.lift, Prog.bind_op, Prog.bind_ret, Prog.pure_eq_ret, wp_deviceId]
  refine wait_next m K c 1 9 NZ (by decide) (by exact fun _ _ => by decide) (by rfl) (by exact NX_1.symm) ?_
  refine wait_next m K c 1 10 NZ (by decide) (by exact fun _ _ => by decide) (by rfl) (by exact NX_1.symm) ?_
  refine wait_next m K c 1 11 NZ (by decide) (by exact fun _ _ => by decide) (by rfl) (by exact NX_1.symm) ?_
  exact ret_step h

theorem part19 (c : Dev nD) (v249 v251 v253 : BitVec 32) {Q : _ → sProp 𝕄} {R : sProp 𝕄}
    (h : iprop(ctx m K ∗ Ow (F := F) c ∅ ∅ NZ ∗ Wt m c 1 16 ∗ R) ⊢ Q ⟨⟩) :
    iprop(ctx m K ∗ Ow (F := F) c ∅ ∅ NZ ∗ Wt m c 1 12 ∗ R) ⊢ runs c (k0_part19 xM whole wqM whole woM whole wkM whole wvM whole outM whole attnM whole workM whole rsM whole cc0_scratch3 cc0_scratch4 cc0_scratch5 cc0_scratch6 c v249 v251 v253) Q := by
  rw [k0_part19_eq_skeleton]; unfold k0_part19_skel
  simp (zeta := false) only [semSignalWord, semWaitWord, Prog.lift, Prog.bind_op, Prog.bind_ret, Prog.pure_eq_ret, wp_deviceId]
  refine wait_next m K c 1 12 NZ (by decide) (by exact fun _ _ => by decide) (by rfl) (by exact NX_1.symm) ?_
  refine wait_next m K c 1 13 NZ (by decide) (by exact fun _ _ => by decide) (by rfl) (by exact NX_1.symm) ?_
  refine wait_next m K c 1 14 NZ (by decide) (by exact fun _ _ => by decide) (by rfl) (by exact NX_1.symm) ?_
  refine wait_next m K c 1 15 NZ (by decide) (by exact fun _ _ => by decide) (by rfl) (by exact NX_1.symm) ?_
  exact ret_step h

theorem part20 (c : Dev nD) {Q : _ → sProp 𝕄} {R : sProp 𝕄}
    (h : iprop(ctx m K ∗ (bigSep Finset.univ fun d => slotPts c d (slotsAt m c)) ∗ R) ⊢ Q ⟨k0_pay44 (slotVec m c 0) (slotVec m c 1) (slotVec m c 2) (slotVec m c 3) (slotVec m c 4) (slotVec m c 5) (slotVec m c 6) (slotVec m c 7), k0_pay45 (slotVec m c 8)⟩) :
    iprop(ctx m K ∗ (bigSep Finset.univ fun d => slotPts c d (slotsAt m c)) ∗ R) ⊢ runs c (k0_part20 xM whole wqM whole woM whole wkM whole wvM whole outM whole attnM whole workM whole rsM whole cc0_scratch3 cc0_scratch4 cc0_scratch5 cc0_scratch6 ) Q := by
  rw [k0_part20_eq_skeleton]; unfold k0_part20_skel
  simp (zeta := false) only [semSignalWord, semWaitWord, Prog.lift, Prog.bind_op, Prog.bind_ret, Prog.pure_eq_ret, wp_deviceId]
  refine slot_load m K c 0 (by rfl) ?_
  refine slot_load m K c 1 (by rfl) ?_
  refine slot_load m K c 2 (by rfl) ?_
  refine slot_load m K c 3 (by rfl) ?_
  refine slot_load m K c 4 (by rfl) ?_
  refine slot_load m K c 5 (by rfl) ?_
  refine slot_load m K c 6 (by rfl) ?_
  refine slot_load m K c 7 (by rfl) ?_
  refine slot_load m K c 8 (by rfl) ?_
  exact ret_step h

theorem part21 (c : Dev nD) (v2 : BitVec 32) {Q : _ → sProp 𝕄} {R : sProp 𝕄}
    (h : iprop(ctx m K ∗ (bigSep Finset.univ fun d => slotPts c d (slotsAt m c)) ∗ R) ⊢ Q (accAt m c)) :
    iprop(ctx m K ∗ (bigSep Finset.univ fun d => slotPts c d (slotsAt m c)) ∗ R) ⊢ runs c (k0_part21 xM whole wqM whole woM whole wkM whole wvM whole outM whole attnM whole workM whole rsM whole cc0_scratch3 cc0_scratch4 cc0_scratch5 cc0_scratch6 v2 (k0_pay44 (slotVec m c 0) (slotVec m c 1) (slotVec m c 2) (slotVec m c 3) (slotVec m c 4) (slotVec m c 5) (slotVec m c 6) (slotVec m c 7)) (k0_pay45 (slotVec m c 8))) Q := by
  rw [k0_part21_eq_skeleton]; unfold k0_part21_skel
  simp (zeta := false) only [semSignalWord, semWaitWord, Prog.lift, Prog.bind_op, Prog.bind_ret, Prog.pure_eq_ret, wp_deviceId]
  refine slot_load m K c 9 (by rfl) ?_
  refine slot_load m K c 10 (by rfl) ?_
  refine slot_load m K c 11 (by rfl) ?_
  refine slot_load m K c 12 (by rfl) ?_
  refine slot_load m K c 13 (by rfl) ?_
  refine slot_load m K c 14 (by rfl) ?_
  refine slot_load m K c 15 (by rfl) ?_
  exact ret_step h

theorem part22 (c : Dev nD) (v225 v227 v229 v231 : BitVec 32) {Q : _ → sProp 𝕄} {R : sProp 𝕄}
    (h : ∀ a1, iprop(ctx m K ∗ Ag m c 4 ∗ outPts c c (leafAt 0) (outAt m) ∗ R) ⊢ Q a1) :
    iprop(ctx m K ∗ (∃ f, outPts (F := F) c c fullShare f) ∗ Ow (F := F) c ∅ ∅ NZ ∗ agPre (F := F) c ∗ R) ⊢ runs c (k0_part22 xM whole wqM whole woM whole wkM whole wvM whole outM whole attnM whole workM whole rsM whole cc0_scratch3 cc0_scratch4 cc0_scratch5 cc0_scratch6 c v225 v227 v229 v231 (accAt m c)) Q := by
  rw [k0_part22_eq_skeleton]; unfold k0_part22_skel
  simp (zeta := false) only [semSignalWord, semWaitWord, Prog.lift, Prog.bind_op, Prog.bind_ret, Prog.pure_eq_ret, wp_deviceId]
  refine out_skip m K c (k0_off33_eq c) (fun _ => ?_)
  refine out_store m K c (k0_off33_eq c) ?_
  refine ag_begin m K c ?_
  refine ag_next m K c 1 (by decide) (by exact Fin.ext (k0_dev46_eq c)) (by exact out_slice c (k0_off34_eq c)) (by exact out_slice c (k0_off34_eq c)) (by rfl) (by rfl) ?_
  refine ag_next m K c 2 (by decide) (by exact Fin.ext (k0_dev47_eq c)) (by exact out_slice c (k0_off34_eq c)) (by exact out_slice c (k0_off34_eq c)) (by rfl) (by rfl) ?_
  refine ag_next m K c 3 (by decide) (by exact Fin.ext (k0_dev48_eq c)) (by exact out_slice c (k0_off34_eq c)) (by exact out_slice c (k0_off34_eq c)) (by rfl) (by rfl) ?_
  exact ret_step (h _)

theorem part23 (c : Dev nD) (v233 v235 v237 v724 : BitVec 32) {Q : _ → sProp 𝕄} {R : sProp 𝕄}
    (h : iprop(ctx m K ∗ Ag m c 7 ∗ R) ⊢ Q ⟨⟩) :
    iprop(ctx m K ∗ Ag m c 4 ∗ R) ⊢ runs c (k0_part23 xM whole wqM whole woM whole wkM whole wvM whole outM whole attnM whole workM whole rsM whole cc0_scratch3 cc0_scratch4 cc0_scratch5 cc0_scratch6 c v233 v235 v237 v724) Q := by
  rw [k0_part23_eq_skeleton]; unfold k0_part23_skel
  simp (zeta := false) only [semSignalWord, semWaitWord, Prog.lift, Prog.bind_op, Prog.bind_ret, Prog.pure_eq_ret, wp_deviceId]
  refine ag_next m K c 4 (by decide) (by exact Fin.ext (k0_dev49_eq c)) (by exact out_slice c (k0_off34_eq c)) (by exact out_slice c (k0_off34_eq c)) (by rfl) (by rfl) ?_
  refine ag_next m K c 5 (by decide) (by exact Fin.ext (k0_dev50_eq c)) (by exact out_slice c (k0_off34_eq c)) (by exact out_slice c (k0_off34_eq c)) (by rfl) (by rfl) ?_
  refine ag_next m K c 6 (by decide) (by exact Fin.ext (k0_dev51_eq c)) (by exact out_slice c (k0_off34_eq c)) (by exact out_slice c (k0_off34_eq c)) (by rfl) (by rfl) ?_
  exact ret_step h

theorem part24 (c : Dev nD) (v239 v241 v243 v245 : BitVec 32) {Q : _ → sProp 𝕄} {R : sProp 𝕄}
    (h : ∀ a1 a2, iprop(ctx m K ∗ Ag m c 11 ∗ R) ⊢ Q ⟨a1, a2⟩) :
    iprop(ctx m K ∗ Ag m c 7 ∗ R) ⊢ runs c (k0_part24 xM whole wqM whole woM whole wkM whole wvM whole outM whole attnM whole workM whole rsM whole cc0_scratch3 cc0_scratch4 cc0_scratch5 cc0_scratch6 c v239 v241 v243 v245) Q := by
  rw [k0_part24_eq_skeleton]; unfold k0_part24_skel
  simp (zeta := false) only [semSignalWord, semWaitWord, Prog.lift, Prog.bind_op, Prog.bind_ret, Prog.pure_eq_ret, wp_deviceId]
  refine ag_next m K c 7 (by decide) (by exact Fin.ext (k0_dev52_eq c)) (by exact out_slice c (k0_off34_eq c)) (by exact out_slice c (k0_off34_eq c)) (by rfl) (by rfl) ?_
  refine ag_next m K c 8 (by decide) (by exact Fin.ext (k0_dev53_eq c)) (by exact out_slice c (k0_off34_eq c)) (by exact out_slice c (k0_off34_eq c)) (by rfl) (by rfl) ?_
  refine ag_next m K c 9 (by decide) (by exact Fin.ext (k0_dev54_eq c)) (by exact out_slice c (k0_off34_eq c)) (by exact out_slice c (k0_off34_eq c)) (by rfl) (by rfl) ?_
  refine ag_next m K c 10 (by decide) (by exact Fin.ext (k0_dev55_eq c)) (by exact out_slice c (k0_off34_eq c)) (by exact out_slice c (k0_off34_eq c)) (by rfl) (by rfl) ?_
  exact ret_step (h _ _)

theorem part25 (c : Dev nD) (v247 v249 v251 v794 c0_i32_509 : BitVec 32) {Q : _ → sProp 𝕄} {R : sProp 𝕄}
    (h : iprop(ctx m K ∗ Ag m c 14 ∗ R) ⊢ Q ⟨⟩) :
    iprop(ctx m K ∗ Ag m c 11 ∗ R) ⊢ runs c (k0_part25 xM whole wqM whole woM whole wkM whole wvM whole outM whole attnM whole workM whole rsM whole cc0_scratch3 cc0_scratch4 cc0_scratch5 cc0_scratch6 c v247 v249 v251 v794 c0_i32_509) Q := by
  rw [k0_part25_eq_skeleton]; unfold k0_part25_skel
  simp (zeta := false) only [semSignalWord, semWaitWord, Prog.lift, Prog.bind_op, Prog.bind_ret, Prog.pure_eq_ret, wp_deviceId]
  refine ag_next m K c 11 (by decide) (by exact Fin.ext (k0_dev56_eq c)) (by exact out_slice c (k0_off34_eq c)) (by exact out_slice c (k0_off34_eq c)) (by rfl) (by rfl) ?_
  refine ag_next m K c 12 (by decide) (by exact Fin.ext (k0_dev57_eq c)) (by exact out_slice c (k0_off34_eq c)) (by exact out_slice c (k0_off34_eq c)) (by rfl) (by rfl) ?_
  refine ag_next m K c 13 (by decide) (by exact Fin.ext (k0_dev58_eq c)) (by exact out_slice c (k0_off34_eq c)) (by exact out_slice c (k0_off34_eq c)) (by rfl) (by rfl) ?_
  exact ret_step h

theorem part26 (c : Dev nD) (v225 v227 v229 v253 : BitVec 32) {Q : _ → sProp 𝕄} {R : sProp 𝕄}
    (h : iprop(ctx m K ∗ Ow (F := F) c ∅ ∅ ∅ ∗ Wt m c 3 3 ∗ creds (F := F) c 2 NZ ∗ R) ⊢ Q ⟨⟩) :
    iprop(ctx m K ∗ Ag m c 14 ∗ Wt m c 3 1 ∗ R) ⊢ runs c (k0_part26 xM whole wqM whole woM whole wkM whole wvM whole outM whole attnM whole workM whole rsM whole cc0_scratch3 cc0_scratch4 cc0_scratch5 cc0_scratch6 c v225 v227 v229 v253) Q := by
  rw [k0_part26_eq_skeleton]; unfold k0_part26_skel
  simp (zeta := false) only [semSignalWord, semWaitWord, Prog.lift, Prog.bind_op, Prog.bind_ret, Prog.pure_eq_ret, wp_deviceId]
  refine ag_next m K c 14 (by decide) (by exact Fin.ext (k0_dev59_eq c)) (by exact out_slice c (k0_off34_eq c)) (by exact out_slice c (k0_off34_eq c)) (by rfl) (by rfl) ?_
  refine ag_next m K c 15 (by decide) (by exact Fin.ext (k0_dev60_eq c)) (by exact out_slice c (k0_off34_eq c)) (by exact out_slice c (k0_off34_eq c)) (by rfl) (by rfl) ?_
  refine ag_done m K c ?_
  refine wait_next m K c 3 1 ∅ (by decide) (by exact fun a ha => absurd ha (Finset.notMem_empty a)) (by rfl) (by exact NX_3.symm) ?_
  refine wait_next m K c 3 2 ∅ (by decide) (by exact fun a ha => absurd ha (Finset.notMem_empty a)) (by rfl) (by exact NX_3.symm) ?_
  exact ret_step h

theorem part27 (c : Dev nD) (v231 v233 v235 v237 : BitVec 32) {Q : _ → sProp 𝕄} {R : sProp 𝕄}
    (h : iprop(ctx m K ∗ Ow (F := F) c ∅ ∅ ∅ ∗ Wt m c 3 7 ∗ R) ⊢ Q ⟨⟩) :
    iprop(ctx m K ∗ Ow (F := F) c ∅ ∅ ∅ ∗ Wt m c 3 3 ∗ R) ⊢ runs c (k0_part27 xM whole wqM whole woM whole wkM whole wvM whole outM whole attnM whole workM whole rsM whole cc0_scratch3 cc0_scratch4 cc0_scratch5 cc0_scratch6 c v231 v233 v235 v237) Q := by
  rw [k0_part27_eq_skeleton]; unfold k0_part27_skel
  simp (zeta := false) only [semSignalWord, semWaitWord, Prog.lift, Prog.bind_op, Prog.bind_ret, Prog.pure_eq_ret, wp_deviceId]
  refine wait_next m K c 3 3 ∅ (by decide) (by exact fun a ha => absurd ha (Finset.notMem_empty a)) (by rfl) (by exact NX_3.symm) ?_
  refine wait_next m K c 3 4 ∅ (by decide) (by exact fun a ha => absurd ha (Finset.notMem_empty a)) (by rfl) (by exact NX_3.symm) ?_
  refine wait_next m K c 3 5 ∅ (by decide) (by exact fun a ha => absurd ha (Finset.notMem_empty a)) (by rfl) (by exact NX_3.symm) ?_
  refine wait_next m K c 3 6 ∅ (by decide) (by exact fun a ha => absurd ha (Finset.notMem_empty a)) (by rfl) (by exact NX_3.symm) ?_
  exact ret_step h

theorem part28 (c : Dev nD) (v239 v241 v243 v245 : BitVec 32) {Q : _ → sProp 𝕄} {R : sProp 𝕄}
    (h : iprop(ctx m K ∗ Ow (F := F) c ∅ ∅ ∅ ∗ Wt m c 3 11 ∗ R) ⊢ Q ⟨⟩) :
    iprop(ctx m K ∗ Ow (F := F) c ∅ ∅ ∅ ∗ Wt m c 3 7 ∗ R) ⊢ runs c (k0_part28 xM whole wqM whole woM whole wkM whole wvM whole outM whole attnM whole workM whole rsM whole cc0_scratch3 cc0_scratch4 cc0_scratch5 cc0_scratch6 c v239 v241 v243 v245) Q := by
  rw [k0_part28_eq_skeleton]; unfold k0_part28_skel
  simp (zeta := false) only [semSignalWord, semWaitWord, Prog.lift, Prog.bind_op, Prog.bind_ret, Prog.pure_eq_ret, wp_deviceId]
  refine wait_next m K c 3 7 ∅ (by decide) (by exact fun a ha => absurd ha (Finset.notMem_empty a)) (by rfl) (by exact NX_3.symm) ?_
  refine wait_next m K c 3 8 ∅ (by decide) (by exact fun a ha => absurd ha (Finset.notMem_empty a)) (by rfl) (by exact NX_3.symm) ?_
  refine wait_next m K c 3 9 ∅ (by decide) (by exact fun a ha => absurd ha (Finset.notMem_empty a)) (by rfl) (by exact NX_3.symm) ?_
  refine wait_next m K c 3 10 ∅ (by decide) (by exact fun a ha => absurd ha (Finset.notMem_empty a)) (by rfl) (by exact NX_3.symm) ?_
  exact ret_step h

theorem part29 (c : Dev nD) (v247 v249 v251 v253 : BitVec 32) {Q : _ → sProp 𝕄} {R : sProp 𝕄}
    (h : iprop(ctx m K ∗ Ow (F := F) c ∅ ∅ ∅ ∗ Wt m c 3 15 ∗ R) ⊢ Q ⟨⟩) :
    iprop(ctx m K ∗ Ow (F := F) c ∅ ∅ ∅ ∗ Wt m c 3 11 ∗ R) ⊢ runs c (k0_part29 xM whole wqM whole woM whole wkM whole wvM whole outM whole attnM whole workM whole rsM whole cc0_scratch3 cc0_scratch4 cc0_scratch5 cc0_scratch6 c v247 v249 v251 v253) Q := by
  rw [k0_part29_eq_skeleton]; unfold k0_part29_skel
  simp (zeta := false) only [semSignalWord, semWaitWord, Prog.lift, Prog.bind_op, Prog.bind_ret, Prog.pure_eq_ret, wp_deviceId]
  refine wait_next m K c 3 11 ∅ (by decide) (by exact fun a ha => absurd ha (Finset.notMem_empty a)) (by rfl) (by exact NX_3.symm) ?_
  refine wait_next m K c 3 12 ∅ (by decide) (by exact fun a ha => absurd ha (Finset.notMem_empty a)) (by rfl) (by exact NX_3.symm) ?_
  refine wait_next m K c 3 13 ∅ (by decide) (by exact fun a ha => absurd ha (Finset.notMem_empty a)) (by rfl) (by exact NX_3.symm) ?_
  refine wait_next m K c 3 14 ∅ (by decide) (by exact fun a ha => absurd ha (Finset.notMem_empty a)) (by rfl) (by exact NX_3.symm) ?_
  exact ret_step h

theorem part30 (c : Dev nD) (v225 v227 : BitVec 32) {Q : _ → sProp 𝕄} {R : sProp 𝕄}
    (h : ∀ a1, iprop(ctx m K ∗ Sent m c 3 3 ∗ Wt m c 3 16 ∗ R) ⊢ Q a1) :
    iprop(ctx m K ∗ Ow (F := F) c ∅ ∅ ∅ ∗ Wt m c 3 15 ∗ Wt m c 0 1 ∗ Wt m c 2 1 ∗ R) ⊢ runs c (k0_part30 xM whole wqM whole woM whole wkM whole wvM whole outM whole attnM whole workM whole rsM whole cc0_scratch3 cc0_scratch4 cc0_scratch5 cc0_scratch6 c v225 v227) Q := by
  rw [k0_part30_eq_skeleton]; unfold k0_part30_skel
  simp (zeta := false) only [semSignalWord, semWaitWord, Prog.lift, Prog.bind_op, Prog.bind_ret, Prog.pure_eq_ret, wp_deviceId]
  refine wait_next m K c 3 15 ∅ (by decide) (by exact fun a ha => absurd ha (Finset.notMem_empty a)) (by rfl) (by exact NX_3.symm) ?_
  refine sent_begin m K c ?_
  refine sent_rs m K c 1 1 (by decide) (by rfl) (by exact NX_0.symm) ?_
  refine sent_ag m K c 2 1 (by decide) (by rfl) (by exact NX_2.symm) ?_
  refine sent_rs m K c 2 2 (by decide) (by rfl) (by exact NX_0.symm) ?_
  refine sent_ag m K c 3 2 (by decide) (by rfl) (by exact NX_2.symm) ?_
  exact ret_step (h _)

theorem part31 (c : Dev nD) (v229 v231 v233 c32_i32_652 : BitVec 32) {Q : _ → sProp 𝕄} {R : sProp 𝕄}
    (h : iprop(ctx m K ∗ Sent m c 5 5 ∗ R) ⊢ Q ⟨⟩) :
    iprop(ctx m K ∗ Sent m c 3 3 ∗ R) ⊢ runs c (k0_part31 xM whole wqM whole woM whole wkM whole wvM whole outM whole attnM whole workM whole rsM whole cc0_scratch3 cc0_scratch4 cc0_scratch5 cc0_scratch6 c v229 v231 v233 c32_i32_652) Q := by
  rw [k0_part31_eq_skeleton]; unfold k0_part31_skel
  simp (zeta := false) only [semSignalWord, semWaitWord, Prog.lift, Prog.bind_op, Prog.bind_ret, Prog.pure_eq_ret, wp_deviceId]
  refine sent_rs m K c 3 3 (by decide) (by rfl) (by exact NX_0.symm) ?_
  refine sent_ag m K c 4 3 (by decide) (by rfl) (by exact NX_2.symm) ?_
  refine sent_rs m K c 4 4 (by decide) (by rfl) (by exact NX_0.symm) ?_
  refine sent_ag m K c 5 4 (by decide) (by rfl) (by exact NX_2.symm) ?_
  exact ret_step h

theorem part32 (c : Dev nD) (v235 v237 : BitVec 32) {Q : _ → sProp 𝕄} {R : sProp 𝕄}
    (h : iprop(ctx m K ∗ Sent m c 7 7 ∗ R) ⊢ Q ⟨⟩) :
    iprop(ctx m K ∗ Sent m c 5 5 ∗ R) ⊢ runs c (k0_part32 xM whole wqM whole woM whole wkM whole wvM whole outM whole attnM whole workM whole rsM whole cc0_scratch3 cc0_scratch4 cc0_scratch5 cc0_scratch6 c v235 v237) Q := by
  rw [k0_part32_eq_skeleton]; unfold k0_part32_skel
  simp (zeta := false) only [semSignalWord, semWaitWord, Prog.lift, Prog.bind_op, Prog.bind_ret, Prog.pure_eq_ret, wp_deviceId]
  refine sent_rs m K c 5 5 (by decide) (by rfl) (by exact NX_0.symm) ?_
  refine sent_ag m K c 6 5 (by decide) (by rfl) (by exact NX_2.symm) ?_
  refine sent_rs m K c 6 6 (by decide) (by rfl) (by exact NX_0.symm) ?_
  refine sent_ag m K c 7 6 (by decide) (by rfl) (by exact NX_2.symm) ?_
  exact ret_step h

theorem part33 (c : Dev nD) (v239 v241 : BitVec 32) {Q : _ → sProp 𝕄} {R : sProp 𝕄}
    (h : iprop(ctx m K ∗ Sent m c 10 9 ∗ R) ⊢ Q ⟨⟩) :
    iprop(ctx m K ∗ Sent m c 7 7 ∗ R) ⊢ runs c (k0_part33 xM whole wqM whole woM whole wkM whole wvM whole outM whole attnM whole workM whole rsM whole cc0_scratch3 cc0_scratch4 cc0_scratch5 cc0_scratch6 c v239 v241) Q := by
  rw [k0_part33_eq_skeleton]; unfold k0_part33_skel
  simp (zeta := false) only [semSignalWord, semWaitWord, Prog.lift, Prog.bind_op, Prog.bind_ret, Prog.pure_eq_ret, wp_deviceId]
  refine sent_rs m K c 7 7 (by decide) (by rfl) (by exact NX_0.symm) ?_
  refine sent_ag m K c 8 7 (by decide) (by rfl) (by exact NX_2.symm) ?_
  refine sent_rs m K c 8 8 (by decide) (by rfl) (by exact NX_0.symm) ?_
  refine sent_ag m K c 9 8 (by decide) (by rfl) (by exact NX_2.symm) ?_
  refine sent_rs m K c 9 9 (by decide) (by rfl) (by exact NX_0.symm) ?_
  exact ret_step h

theorem part34 (c : Dev nD) (v243 v245 : BitVec 32) {Q : _ → sProp 𝕄} {R : sProp 𝕄}
    (h : iprop(ctx m K ∗ Sent m c 12 11 ∗ R) ⊢ Q ⟨⟩) :
    iprop(ctx m K ∗ Sent m c 10 9 ∗ R) ⊢ runs c (k0_part34 xM whole wqM whole woM whole wkM whole wvM whole outM whole attnM whole workM whole rsM whole cc0_scratch3 cc0_scratch4 cc0_scratch5 cc0_scratch6 c v243 v245) Q := by
  rw [k0_part34_eq_skeleton]; unfold k0_part34_skel
  simp (zeta := false) only [semSignalWord, semWaitWord, Prog.lift, Prog.bind_op, Prog.bind_ret, Prog.pure_eq_ret, wp_deviceId]
  refine sent_ag m K c 10 9 (by decide) (by rfl) (by exact NX_2.symm) ?_
  refine sent_rs m K c 10 10 (by decide) (by rfl) (by exact NX_0.symm) ?_
  refine sent_ag m K c 11 10 (by decide) (by rfl) (by exact NX_2.symm) ?_
  refine sent_rs m K c 11 11 (by decide) (by rfl) (by exact NX_0.symm) ?_
  exact ret_step h

theorem part35 (c : Dev nD) (v247 v249 v251 : BitVec 32) {Q : _ → sProp 𝕄} {R : sProp 𝕄}
    (h : iprop(ctx m K ∗ Sent m c 14 14 ∗ R) ⊢ Q ⟨⟩) :
    iprop(ctx m K ∗ Sent m c 12 11 ∗ R) ⊢ runs c (k0_part35 xM whole wqM whole woM whole wkM whole wvM whole outM whole attnM whole workM whole rsM whole cc0_scratch3 cc0_scratch4 cc0_scratch5 cc0_scratch6 c v247 v249 v251) Q := by
  rw [k0_part35_eq_skeleton]; unfold k0_part35_skel
  simp (zeta := false) only [semSignalWord, semWaitWord, Prog.lift, Prog.bind_op, Prog.bind_ret, Prog.pure_eq_ret, wp_deviceId]
  refine sent_ag m K c 12 11 (by decide) (by rfl) (by exact NX_2.symm) ?_
  refine sent_rs m K c 12 12 (by decide) (by rfl) (by exact NX_0.symm) ?_
  refine sent_ag m K c 13 12 (by decide) (by rfl) (by exact NX_2.symm) ?_
  refine sent_rs m K c 13 13 (by decide) (by rfl) (by exact NX_0.symm) ?_
  refine sent_ag m K c 14 13 (by decide) (by rfl) (by exact NX_2.symm) ?_
  exact ret_step h

end Cert.KProof
-- ==== Proof.Body.lean ====
/-
The kernel's body at a device: its parts in order.
-/
module

public import proofs.«01_k».proof.Proof.PartsB

@[expose] public section

set_option maxRecDepth 10000

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-! ## A state's parts brought to the front -/

omit [FloatOps F] in
theorem mv2 {C A1 A2 R X : sProp 𝕄} (h : iprop(C ∗ A2 ∗ A1 ∗ R) ⊢ X) : iprop(C ∗ A1 ∗ A2 ∗ R) ⊢ X := by
  refine via ?_ h
  iintro ⟨HC, H1, H2, HR⟩
  isplitl [HC]; · iexact HC
  isplitl [H2]; · iexact H2
  isplitl [H1]; · iexact H1
  iexact HR

omit [FloatOps F] in
theorem mv3 {C A1 A2 A3 R X : sProp 𝕄} (h : iprop(C ∗ A3 ∗ A1 ∗ A2 ∗ R) ⊢ X) : iprop(C ∗ A1 ∗ A2 ∗ A3 ∗ R) ⊢ X := by
  refine via ?_ h
  iintro ⟨HC, H1, H2, H3, HR⟩
  isplitl [HC]; · iexact HC
  isplitl [H3]; · iexact H3
  isplitl [H1]; · iexact H1
  isplitl [H2]; · iexact H2
  iexact HR

omit [FloatOps F] in
theorem mv4 {C A1 A2 A3 A4 R X : sProp 𝕄} (h : iprop(C ∗ A4 ∗ A1 ∗ A2 ∗ A3 ∗ R) ⊢ X) : iprop(C ∗ A1 ∗ A2 ∗ A3 ∗ A4 ∗ R) ⊢ X := by
  refine via ?_ h
  iintro ⟨HC, H1, H2, H3, H4, HR⟩
  isplitl [HC]; · iexact HC
  isplitl [H4]; · iexact H4
  isplitl [H1]; · iexact H1
  isplitl [H2]; · iexact H2
  isplitl [H3]; · iexact H3
  iexact HR

omit [FloatOps F] in
theorem mv5 {C A1 A2 A3 A4 A5 R X : sProp 𝕄} (h : iprop(C ∗ A5 ∗ A1 ∗ A2 ∗ A3 ∗ A4 ∗ R) ⊢ X) : iprop(C ∗ A1 ∗ A2 ∗ A3 ∗ A4 ∗ A5 ∗ R) ⊢ X := by
  refine via ?_ h
  iintro ⟨HC, H1, H2, H3, H4, H5, HR⟩
  isplitl [HC]; · iexact HC
  isplitl [H5]; · iexact H5
  isplitl [H1]; · iexact H1
  isplitl [H2]; · iexact H2
  isplitl [H3]; · iexact H3
  isplitl [H4]; · iexact H4
  iexact HR

omit [FloatOps F] in
theorem mv6 {C A1 A2 A3 A4 A5 A6 R X : sProp 𝕄} (h : iprop(C ∗ A6 ∗ A1 ∗ A2 ∗ A3 ∗ A4 ∗ A5 ∗ R) ⊢ X) : iprop(C ∗ A1 ∗ A2 ∗ A3 ∗ A4 ∗ A5 ∗ A6 ∗ R) ⊢ X := by
  refine via ?_ h
  iintro ⟨HC, H1, H2, H3, H4, H5, H6, HR⟩
  isplitl [HC]; · iexact HC
  isplitl [H6]; · iexact H6
  isplitl [H1]; · iexact H1
  isplitl [H2]; · iexact H2
  isplitl [H3]; · iexact H3
  isplitl [H4]; · iexact H4
  isplitl [H5]; · iexact H5
  iexact HR

omit [FloatOps F] in
theorem mv7 {C A1 A2 A3 A4 A5 A6 A7 R X : sProp 𝕄} (h : iprop(C ∗ A7 ∗ A1 ∗ A2 ∗ A3 ∗ A4 ∗ A5 ∗ A6 ∗ R) ⊢ X) : iprop(C ∗ A1 ∗ A2 ∗ A3 ∗ A4 ∗ A5 ∗ A6 ∗ A7 ∗ R) ⊢ X := by
  refine via ?_ h
  iintro ⟨HC, H1, H2, H3, H4, H5, H6, H7, HR⟩
  isplitl [HC]; · iexact HC
  isplitl [H7]; · iexact H7
  isplitl [H1]; · iexact H1
  isplitl [H2]; · iexact H2
  isplitl [H3]; · iexact H3
  isplitl [H4]; · iexact H4
  isplitl [H5]; · iexact H5
  isplitl [H6]; · iexact H6
  iexact HR

omit [FloatOps F] in
theorem mv8 {C A1 A2 A3 A4 A5 A6 A7 A8 R X : sProp 𝕄} (h : iprop(C ∗ A8 ∗ A1 ∗ A2 ∗ A3 ∗ A4 ∗ A5 ∗ A6 ∗ A7 ∗ R) ⊢ X) : iprop(C ∗ A1 ∗ A2 ∗ A3 ∗ A4 ∗ A5 ∗ A6 ∗ A7 ∗ A8 ∗ R) ⊢ X := by
  refine via ?_ h
  iintro ⟨HC, H1, H2, H3, H4, H5, H6, H7, H8, HR⟩
  isplitl [HC]; · iexact HC
  isplitl [H8]; · iexact H8
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HR

omit [FloatOps F] in
theorem mv9 {C A1 A2 A3 A4 A5 A6 A7 A8 A9 R X : sProp 𝕄} (h : iprop(C ∗ A9 ∗ A1 ∗ A2 ∗ A3 ∗ A4 ∗ A5 ∗ A6 ∗ A7 ∗ A8 ∗ R) ⊢ X) : iprop(C ∗ A1 ∗ A2 ∗ A3 ∗ A4 ∗ A5 ∗ A6 ∗ A7 ∗ A8 ∗ A9 ∗ R) ⊢ X := by
  refine via ?_ h
  iintro ⟨HC, H1, H2, H3, H4, H5, H6, H7, H8, H9, HR⟩
  isplitl [HC]; · iexact HC
  isplitl [H9]; · iexact H9
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HR

omit [FloatOps F] in
theorem mv10 {C A1 A2 A3 A4 A5 A6 A7 A8 A9 A10 R X : sProp 𝕄} (h : iprop(C ∗ A10 ∗ A1 ∗ A2 ∗ A3 ∗ A4 ∗ A5 ∗ A6 ∗ A7 ∗ A8 ∗ A9 ∗ R) ⊢ X) : iprop(C ∗ A1 ∗ A2 ∗ A3 ∗ A4 ∗ A5 ∗ A6 ∗ A7 ∗ A8 ∗ A9 ∗ A10 ∗ R) ⊢ X := by
  refine via ?_ h
  iintro ⟨HC, H1, H2, H3, H4, H5, H6, H7, H8, H9, H10, HR⟩
  isplitl [HC]; · iexact HC
  isplitl [H10]; · iexact H10
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HR

omit [FloatOps F] in
theorem mv11 {C A1 A2 A3 A4 A5 A6 A7 A8 A9 A10 A11 R X : sProp 𝕄} (h : iprop(C ∗ A11 ∗ A1 ∗ A2 ∗ A3 ∗ A4 ∗ A5 ∗ A6 ∗ A7 ∗ A8 ∗ A9 ∗ A10 ∗ R) ⊢ X) : iprop(C ∗ A1 ∗ A2 ∗ A3 ∗ A4 ∗ A5 ∗ A6 ∗ A7 ∗ A8 ∗ A9 ∗ A10 ∗ A11 ∗ R) ⊢ X := by
  refine via ?_ h
  iintro ⟨HC, H1, H2, H3, H4, H5, H6, H7, H8, H9, H10, H11, HR⟩
  isplitl [HC]; · iexact HC
  isplitl [H11]; · iexact H11
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact HR

omit [FloatOps F] in
theorem mv12 {C A1 A2 A3 A4 A5 A6 A7 A8 A9 A10 A11 A12 R X : sProp 𝕄} (h : iprop(C ∗ A12 ∗ A1 ∗ A2 ∗ A3 ∗ A4 ∗ A5 ∗ A6 ∗ A7 ∗ A8 ∗ A9 ∗ A10 ∗ A11 ∗ R) ⊢ X) : iprop(C ∗ A1 ∗ A2 ∗ A3 ∗ A4 ∗ A5 ∗ A6 ∗ A7 ∗ A8 ∗ A9 ∗ A10 ∗ A11 ∗ A12 ∗ R) ⊢ X := by
  refine via ?_ h
  iintro ⟨HC, H1, H2, H3, H4, H5, H6, H7, H8, H9, H10, H11, H12, HR⟩
  isplitl [HC]; · iexact HC
  isplitl [H12]; · iexact H12
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HR

omit [FloatOps F] in
theorem mv13 {C A1 A2 A3 A4 A5 A6 A7 A8 A9 A10 A11 A12 A13 R X : sProp 𝕄} (h : iprop(C ∗ A13 ∗ A1 ∗ A2 ∗ A3 ∗ A4 ∗ A5 ∗ A6 ∗ A7 ∗ A8 ∗ A9 ∗ A10 ∗ A11 ∗ A12 ∗ R) ⊢ X) : iprop(C ∗ A1 ∗ A2 ∗ A3 ∗ A4 ∗ A5 ∗ A6 ∗ A7 ∗ A8 ∗ A9 ∗ A10 ∗ A11 ∗ A12 ∗ A13 ∗ R) ⊢ X := by
  refine via ?_ h
  iintro ⟨HC, H1, H2, H3, H4, H5, H6, H7, H8, H9, H10, H11, H12, H13, HR⟩
  isplitl [HC]; · iexact HC
  isplitl [H13]; · iexact H13
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact HR

omit [FloatOps F] in
theorem mv14 {C A1 A2 A3 A4 A5 A6 A7 A8 A9 A10 A11 A12 A13 A14 R X : sProp 𝕄} (h : iprop(C ∗ A14 ∗ A1 ∗ A2 ∗ A3 ∗ A4 ∗ A5 ∗ A6 ∗ A7 ∗ A8 ∗ A9 ∗ A10 ∗ A11 ∗ A12 ∗ A13 ∗ R) ⊢ X) : iprop(C ∗ A1 ∗ A2 ∗ A3 ∗ A4 ∗ A5 ∗ A6 ∗ A7 ∗ A8 ∗ A9 ∗ A10 ∗ A11 ∗ A12 ∗ A13 ∗ A14 ∗ R) ⊢ X := by
  refine via ?_ h
  iintro ⟨HC, H1, H2, H3, H4, H5, H6, H7, H8, H9, H10, H11, H12, H13, H14, HR⟩
  isplitl [HC]; · iexact HC
  isplitl [H14]; · iexact H14
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact HR

theorem bind_step {α β : Type} {c : Dev nD} {p : Prog (TpuEff nD τ sig (Elt F) Λ₀ .tc) α} {k : α → Prog (TpuEff nD τ sig (Elt F) Λ₀ .tc) β}
    {Q : β → sProp 𝕄} {P : sProp 𝕄} (h : P ⊢ runs c p (fun a => runs c (k a) Q)) : P ⊢ runs c (p >>= k) Q := by
  refine via h ?_
  show _ ⊢ wp _ _ _ _ _
  rw [wp_bind]

/-! ## Between parts -/

/-- The reduce-scatter's duties, and the all-gather's. -/
def rsDuty (c : Dev nD) : sProp 𝕄 := bigSep NZ fun d => iprop(dutyTok ER (xCell 0 d c) 0 0 ∗ dutyTok ER (xCell 1 d (nxt c d)) 0 0)
def agDuty (c : Dev nD) : sProp 𝕄 := bigSep NZ fun d => iprop(dutyTok ER (xCell 2 d c) 0 0 ∗ dutyTok ER (xCell 3 d (nxt c d)) 0 0)
/-- The positions of array `k`, and its semaphores at zero. -/
def atAll (c : Dev nD) (k : Fin 4) : sProp 𝕄 := bigSep NZ fun d => atPos ER (xCell k d c) 0 ∅ 0
def zeros (c : Dev nD) (k : Fin 4) : sProp 𝕄 := bigSep NZ fun d => semVal (xCell k d c) 0
/-- The places to write, from the barrier. -/
def places (c : Dev nD) : sProp 𝕄 :=
  bigSep NZ fun d => iprop((∃ f, slotPts (F := F) (nxt c d) d f) ∗ (∃ f, outPts (F := F) (nxt c d) c fullShare f))

theorem places_split (c : Dev nD) : iprop(rsDuty (F := F) c ∗ agDuty (F := F) c ∗ places (F := F) c) ⊢ iprop(rsTodo (F := F) c NZ ∗ agPre (F := F) c) := by
  unfold rsDuty agDuty places rsTodo agPre
  refine via (Entails.of_eq ((congrArg (fun X : sProp 𝕄 => iprop((bigSep NZ fun d => iprop(dutyTok ER (xCell 0 d c) 0 0 ∗ dutyTok ER (xCell 1 d (nxt c d)) 0 0)) ∗ X))
    (bigSep_pair NZ _ _)).trans (bigSep_pair NZ _ _))) (via (bigSep_mono fun d _ => ?_) (Entails.of_eq (bigSep_pair NZ _ _).symm))
  show (_ : sProp 𝕄) ⊢ _
  iintro ⟨⟨H1, H2⟩, H3, H4, H5⟩
  isplitl [H1 H2 H4]
  · isplitl [H1]; · iexact H1
    isplitl [H2] <;> iassumption
  isplitl [H3] <;> iassumption

theorem rs_ready {R X : sProp 𝕄} (c : Dev nD) (h : iprop(ctx m K ∗ Rs m c 0 1 ∗ agPre (F := F) c ∗ R) ⊢ X) :
    iprop(ctx m K ∗ Ow (F := F) c ∅ NZ NZ ∗ places (F := F) c ∗ workHeld m c (blocksOf 0) ∗ rsDuty (F := F) c ∗ agDuty (F := F) c ∗ R) ⊢ X := by
  refine via ?_ h
  iintro ⟨H0, H1, H2, H3, H4, H5, H6⟩
  ihave H := (places_split (F := F) c) $$ [H4 H5 H2]
  · isplitl [H4]; · iexact H4
    isplitl [H5] <;> iassumption
  icases H with ⟨Ha, Hb⟩
  isplitl [H0]; · iexact H0
  isplitl [H1 Ha H3]
  · iapply (rs_begin m c)
    isplitl [H1]; · iexact H1
    isplitl [Ha] <;> iassumption
  isplitl [Hb] <;> iassumption

/-- The second batch writes over the first's values. -/
theorem attn_again {R X : sProp 𝕄} (c : Dev nD) (h : iprop(ctx m K ∗ Attn m c 1 0 ∗ R) ⊢ X) : iprop(ctx m K ∗ Attn m c 0 8 ∗ R) ⊢ X := by
  refine via ?_ h
  unfold Attn
  iintro ⟨H0, ⟨%f, %hf, Hp⟩, HR⟩
  isplitl [H0]; · iexact H0
  isplitl [Hp]
  · iexists f
    isplitr
    · ipureintro; exact fun r k hk => absurd hk (by rw [Nat.mul_zero]; exact Nat.not_lt_zero _)
    iexact Hp
  iexact HR

theorem waits_ready {R X : sProp 𝕄} (c : Dev nD) (k : Fin 4) (h : iprop(ctx m K ∗ Wt m c k 1 ∗ R) ⊢ X) :
    iprop(ctx m K ∗ atAll (F := F) c k ∗ creds (F := F) c k NZ ∗ R) ⊢ X := by
  refine via ?_ h
  iintro ⟨H0, H1, H2, HR⟩
  isplitl [H0]; · iexact H0
  isplitl [H1 H2]
  · iapply (wt_begin m c k)
    unfold atAll creds waitTodo
    iapply (Entails.of_eq (bigSep_pair NZ (fun d => atPos ER (xCell k d c) 0 ∅ 0) (fun d => cred (tallyAt (xCell k d c) () (NX k)))))
    isplitl [H1] <;> iassumption
  iexact HR

theorem waits_over {R X : sProp 𝕄} (c : Dev nD) (k : Fin 4)
    (h : iprop(ctx m K ∗ (bigSep NZ fun d => xPay m (k.val + 1) d c) ∗ zeros (F := F) c k ∗ R) ⊢ X) :
    iprop(ctx m K ∗ Wt m c k 16 ∗ R) ⊢ X := by
  refine via ?_ h
  iintro ⟨H0, H1, HR⟩
  ihave H := (wt_end m c k) $$ H1
  unfold waitDone zeros
  ihave H' := (Entails.of_eq (bigSep_pair NZ (fun d => semVal (xCell k d c) 0) (fun d => xPay m (k.val + 1) d c)).symm) $$ H
  icases H' with ⟨H2, H3⟩
  isplitl [H0]; · iexact H0
  isplitl [H3]; · iexact H3
  isplitl [H2] <;> iassumption

theorem slots_all {R X : sProp 𝕄} (c : Dev nD)
    (h : iprop(ctx m K ∗ (bigSep Finset.univ fun d => slotPts c d (slotsAt m c)) ∗ R) ⊢ X) :
    iprop(ctx m K ∗ (bigSep NZ fun d => xPay m ((1 : Fin 4).val + 1) d c) ∗ slotPts c 0 (slotsAt m c) ∗ R) ⊢ X := by
  refine via ?_ h
  rw [bigSep_out (Finset.mem_univ (0 : Fin 16)), NZ_univ]
  iintro ⟨H0, H1, H2, HR⟩
  isplitl [H0]; · iexact H0
  isplitr [HR]
  · isplitl [H2]; · iexact H2
    iexact H1
  iexact HR

/-! ## The body -/

attribute [local irreducible] k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35

set_option maxHeartbeats 1000000 in
theorem part36 (c : Dev nD) {Q : _ → sProp 𝕄} {R : sProp 𝕄}
    (h : iprop(ctx m K ∗ Sent m c 15 15 ∗ Wt m c 3 16 ∗ outPts c c (leafAt 0) (outAt m) ∗ (bigSep Finset.univ fun d => slotPts c d (slotsAt m c)) ∗ zeros (F := F) c 1 ∗ workPts c c (workAt m c) ∗ Attn m c 1 8 ∗ Win m c ∗ semVal (barCell c) 0 ∗ R) ⊢ Q c) :
    iprop(ctx m K ∗ Win m c ∗ Attn m c 0 0 ∗ WorkH (F := F) c 0 ∗ WorkH (F := F) c 1 ∗ Sigs (F := F) c 1 ∗ cred (tallyAt (barCell c) () 15) ∗ atPos ER (barCell c) 0 ∅ 0 ∗ rsDuty (F := F) c ∗ agDuty (F := F) c ∗ (∃ f, slotPts (F := F) c 0 f) ∗ Wt m c 1 1 ∗ (∃ f, outPts (F := F) c c fullShare f) ∗ Wt m c 3 1 ∗ atAll (F := F) c 0 ∗ atAll (F := F) c 2 ∗ R)
      ⊢ runs c (k0_part36 xM whole wqM whole woM whole wkM whole wvM whole outM whole attnM whole workM whole rsM whole cc0_scratch3 cc0_scratch4 cc0_scratch5 cc0_scratch6) Q := by
  rw [k0_part36_eq_skeleton]; unfold k0_part36_skel
  refine mv2 ?_
  refine mv2 ?_
  refine bind_step (part1 m K c ?_); intro _ _; dsimp (zeta := false) only
  refine bind_step (part2 m K c _ ?_); dsimp (zeta := false) only
  refine bind_step (part3 m K c ?_); intro _; dsimp (zeta := false) only
  refine mv3 ?_
  refine mv2 ?_
  refine bind_step (part4 m K c _ ?_); intro _; dsimp (zeta := false) only
  refine mv2 ?_
  refine attn_again m K c ?_
  refine mv5 ?_
  refine mv3 ?_
  refine bind_step (part5 m K c _ _ ?_); intro _ _; dsimp (zeta := false) only
  refine bind_step (part6 m K c _ _ _ ?_); intro _ _; dsimp (zeta := false) only
  refine mv7 ?_
  refine mv7 ?_
  refine mv3 ?_
  refine bind_step (part7 m K c _ _ _ ?_); intro _ _ _ _ _ _ _; dsimp (zeta := false) only
  refine mv9 ?_
  refine mv9 ?_
  refine mv6 ?_
  refine mv6 ?_
  refine mv5 ?_
  refine rs_ready m K c ?_
  refine bind_step (part8 m K c _ _ _ _ _ _ _ ?_); intro _ _ _ _ _ _ _ _ _ _; dsimp (zeta := false) only
  refine bind_step (part9 m K c _ _ _ _ _ _ _ _ _ _ _ ?_)
  refine mv4 ?_
  refine mv5 ?_
  refine mv3 ?_
  refine bind_step (part10 m K c _ _ ?_); dsimp (zeta := false) only
  refine bind_step (part11 m K c ?_)
  refine bind_step (part12 m K c ?_); dsimp (zeta := false) only
  refine mv2 ?_
  refine mv6 ?_
  refine mv3 ?_
  refine bind_step (part13 m K c _ _ ?_)
  refine bind_step (part14 m K c _ _ _ _ _ _ _ _ _ _ ?_)
  refine mv7 ?_
  refine mv7 ?_
  refine mv3 ?_
  refine bind_step (part15 m K c _ _ _ _ _ _ ?_)
  refine mv2 ?_
  refine mv2 ?_
  refine bind_step (part16 m K c _ _ _ ?_)
  refine mv2 ?_
  refine mv2 ?_
  refine bind_step (part17 m K c _ _ _ _ ?_); intro _
  refine mv2 ?_
  refine mv2 ?_
  refine bind_step (part18 m K c _ _ _ _ _ ?_)
  refine mv2 ?_
  refine mv2 ?_
  refine bind_step (part19 m K c _ _ _ ?_)
  refine mv2 ?_
  refine waits_over m K c 1 ?_
  refine mv4 ?_
  refine mv2 ?_
  refine slots_all m K c ?_
  refine bind_step (part20 m K c ?_); dsimp (zeta := false) only
  refine bind_step (part21 m K c _ ?_)
  refine mv8 ?_
  refine mv4 ?_
  refine mv10 ?_
  refine bind_step (part22 m K c _ _ _ _ ?_); intro _
  refine bind_step (part23 m K c _ _ _ _ ?_)
  refine bind_step (part24 m K c _ _ _ _ ?_); intro _ _; dsimp (zeta := false) only
  refine bind_step (part25 m K c _ _ _ _ _ ?_)
  refine mv10 ?_
  refine mv2 ?_
  refine bind_step (part26 m K c _ _ _ _ ?_)
  refine mv2 ?_
  refine mv2 ?_
  refine bind_step (part27 m K c _ _ _ _ ?_)
  refine mv2 ?_
  refine mv2 ?_
  refine bind_step (part28 m K c _ _ _ _ ?_)
  refine mv2 ?_
  refine mv2 ?_
  refine bind_step (part29 m K c _ _ _ _ ?_)
  refine mv8 ?_
  refine mv12 ?_
  refine waits_ready m K c 0 ?_
  refine mv4 ?_
  refine mv12 ?_
  refine waits_ready m K c 2 ?_
  refine mv2 ?_
  refine mv4 ?_
  refine mv4 ?_
  refine bind_step (part30 m K c _ _ ?_); intro _
  refine bind_step (part31 m K c _ _ _ _ ?_)
  refine bind_step (part32 m K c _ _ ?_)
  refine bind_step (part33 m K c _ _ ?_)
  refine bind_step (part34 m K c _ _ ?_)
  refine bind_step (part35 m K c _ _ _ ?_)
  simp (zeta := false) only [Prog.lift, Prog.bind_op, Prog.bind_ret, Prog.pure_eq_ret]
  refine sent_rs m K c 14 14 (by decide) (by rfl) (by exact NX_0.symm) ?_
  refine sent_ag m K c 15 14 (by decide) (by rfl) (by exact NX_2.symm) ?_
  exact ret_step h

theorem body (c : Dev nD) {Q : _ → sProp 𝕄} {R : sProp 𝕄}
    (h : iprop(ctx m K ∗ Sent m c 16 16 ∗ Wt m c 3 16 ∗ outPts c c (leafAt 0) (outAt m) ∗ (bigSep Finset.univ fun d => slotPts c d (slotsAt m c)) ∗ zeros (F := F) c 1 ∗ workPts c c (workAt m c) ∗ Attn m c 1 8 ∗ Win m c ∗ semVal (barCell c) 0 ∗ R) ⊢ Q ⟨⟩) :
    iprop(ctx m K ∗ Win m c ∗ Attn m c 0 0 ∗ WorkH (F := F) c 0 ∗ WorkH (F := F) c 1 ∗ Sigs (F := F) c 1 ∗ cred (tallyAt (barCell c) () 15) ∗ atPos ER (barCell c) 0 ∅ 0 ∗ rsDuty (F := F) c ∗ agDuty (F := F) c ∗ (∃ f, slotPts (F := F) c 0 f) ∗ Wt m c 1 1 ∗ (∃ f, outPts (F := F) c c fullShare f) ∗ Wt m c 3 1 ∗ atAll (F := F) c 0 ∗ atAll (F := F) c 2 ∗ R)
      ⊢ runs c (cc0_body xM whole wqM whole woM whole wkM whole wvM whole outM whole attnM whole workM whole rsM whole cc0_scratch3 cc0_scratch4 cc0_scratch5 cc0_scratch6) Q := by
  rw [cc0_body_eq_skeleton]; unfold cc0_body_skel
  refine bind_step (part36 m K c ?_)
  simp (zeta := false) only [Prog.lift, Prog.bind_op, Prog.bind_ret, Prog.pure_eq_ret]
  refine sent_rs m K c 15 15 (by decide) (by rfl) (by exact NX_0.symm) ?_
  refine sent_ag m K c 16 15 (by decide) (by rfl) (by exact NX_2.symm) ?_
  exact ret_step h

end Cert.KProof
-- ==== Proof.Obl.lean ====
/-
The state that the launch gives a device, and the kernel's call as the pipeline's step.
-/
module

public import proofs.«01_k».proof.Proof.Body
public import proofs.«01_k».proof.Proof.Gen.KernelIdeal.Launch
public import proofs.«01_k».proof.Proof.Gen.KernelIdeal.Points

@[expose] public section

set_option maxRecDepth 10000

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-! ## The state at the launch and at the end -/

/-- The duties of `c`'s signals. -/
def barDuty (c : Dev nD) : sProp 𝕄 := bigSep NZ fun d => dutyTok ER (barCell (nxt c d)) 0 c

/-- Positions and duties that device `c` starts with. -/
def own (c : Dev nD) : sProp 𝕄 :=
  iprop(atPos ER (barCell c) 0 ∅ 0 ∗ (bigSep Finset.univ fun kd : Fin 4 × Fin 16 => atPos ER (xCell kd.1 kd.2 c) 0 ∅ 0)
    ∗ barDuty (F := F) c ∗ rsDuty (F := F) c ∗ agDuty (F := F) c)

/-- What device `c` starts from: that, under names that all devices share, and the credits of what others owe it. -/
def start (c : Dev nD) : sProp 𝕄 :=
  iprop((∃ K, ctx m K ∗ own (F := F) c) ∗ cred (tallyAt (barCell c) () 15) ∗ creds (F := F) c 1 NZ ∗ creds (F := F) c 3 NZ)

/-- The three scratch buffers. -/
def scr (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f))

def Φ₀ (c : Dev nD) : sProp 𝕄 := iprop(start m c ∗ scr (F := F) c)
/-- At the end all 65 semaphores are at zero. -/
def Φ₁ (c : Dev nD) : sProp 𝕄 :=
  iprop(scr (F := F) c ∗ (bigSep Finset.univ fun kd : Fin 4 × Fin 16 => semVal (xCell kd.1 kd.2 c) 0) ∗ semVal (barCell c) 0)

def O₀ (c : Dev nD) : CellTallies nD τ sig Unit := owed c NZ NZ NZ

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- Every pair of an array and a distance, by array, distance 0 apart. -/
theorem by_array (Φ : Fin 4 → Fin 16 → sProp 𝕄) :
    bigSep Finset.univ (fun kd : Fin 4 × Fin 16 => Φ kd.1 kd.2)
      = iprop((Φ 0 0 ∗ bigSep NZ (Φ 0)) ∗ (Φ 1 0 ∗ bigSep NZ (Φ 1)) ∗ (Φ 2 0 ∗ bigSep NZ (Φ 2)) ∗ (Φ 3 0 ∗ bigSep NZ (Φ 3))) := by
  have h (k : Fin 4) : bigSep Finset.univ (fun d : Fin 16 => Φ k d) = iprop(Φ k 0 ∗ bigSep NZ (Φ k)) := bigSep_out (Finset.mem_univ 0) _
  rw [bigSep_univ_prod, bigSep_fin4]
  show iprop(bigSep Finset.univ (fun d : Fin 16 => Φ 0 d) ∗ bigSep Finset.univ (fun d : Fin 16 => Φ 1 d)
    ∗ bigSep Finset.univ (fun d : Fin 16 => Φ 2 d) ∗ bigSep Finset.univ (fun d : Fin 16 => Φ 3 d)) = _
  rw [h, h, h, h]

/-! ## The buffers by blocks -/

omit [FloatOps F] in
theorem each_mono {S : Finset (Fin 16)} {Φ Ψ : Fin 16 → sProp 𝕄} (h : ∀ d, Φ d ⊢ Ψ d) : bigSep S Φ ⊢ bigSep S Ψ :=
  bigSep_mono fun d _ => h d

omit [FloatOps F] in
theorem out_open (c : Dev nD) (f : Buf (Elt F) ((c : Thread nD τ).loc cc0_stg5_0)) :
    (((c : Thread nD τ).loc cc0_stg5_0) ↦{fullShare} f : sProp 𝕄)
      ⊢ iprop((∃ f, outPts (F := F) c c fullShare f) ∗ bigSep NZ fun d => iprop(∃ f, outPts (F := F) c (nxt c d) fullShare f)) := by
  rw [out_blocks, bigSep_out (Finset.mem_univ c), ← map_around c, bigSep_map]
  iintro ⟨H1, H2⟩
  isplitl [H1]; · iexists f; iexact H1
  iapply (each_mono fun d => show outPts (F := F) c (nxt c d) fullShare f ⊢ iprop(∃ f, outPts (F := F) c (nxt c d) fullShare f) from by
    iintro H; iexists f; iexact H)
  iexact H2

/-- The slot at which `c`'s signal at distance `d` invites. -/
def mirror (c : Fin 16) : Fin 16 ≃ Fin 16 :=
  ⟨fun d => c - nxt c d, fun d => c - nxt c d, fun d => by revert c d; decide, fun d => by revert c d; decide⟩
theorem map_mirror (c : Fin 16) : NZ.map (mirror c).toEmbedding = NZ := by revert c; decide

omit [FloatOps F] in
theorem slot_open (c : Dev nD) (f : Buf (Elt F) ((c : Thread nD τ).loc cc0_scratch2)) :
    (((c : Thread nD τ).loc cc0_scratch2) ↦{fullShare} f : sProp 𝕄)
      ⊢ iprop((∃ f, slotPts (F := F) c 0 f) ∗ bigSep NZ fun d => iprop(∃ f, slotPts (F := F) c (c - nxt c d) f)) := by
  rw [slot_blocks, bigSep_out (Finset.mem_univ (0 : Fin 16))]
  iintro ⟨H1, H2⟩
  isplitl [H1]; · iexists f; iexact H1
  ihave H3 := (Entails.of_eq (show bigSep NZ (fun b : Fin 16 => slotPts c b f) = bigSep NZ fun d => slotPts c (c - nxt c d) f from by
    conv_lhs => rw [← map_mirror c, bigSep_map]
    rfl)) $$ H2
  iapply (each_mono fun d => show slotPts (F := F) c (c - nxt c d) f ⊢ iprop(∃ f, slotPts (F := F) c (c - nxt c d) f) from by
    iintro H; iexists f; iexact H)
  iexact H3

omit [FloatOps F] in
theorem sigs_open (c : Dev nD) :
    iprop(barDuty (F := F) c ∗ (bigSep NZ fun d => iprop(∃ f, slotPts (F := F) c (c - nxt c d) f))
        ∗ bigSep NZ fun d => iprop(∃ f, outPts (F := F) c (nxt c d) fullShare f)) ⊢ sigTodo (F := F) c NZ := by
  unfold barDuty sigTodo barPay
  rw [bigSep_pair, bigSep_pair]

theorem wt_open (c : Dev nD) (k : Fin 4) : iprop(atAll (F := F) c k ∗ creds (F := F) c k NZ) ⊢ Wt m c k 1 := by
  refine via (Entails.of_eq ?_) (wt_begin m c k)
  unfold atAll creds waitTodo
  exact bigSep_pair NZ _ _

theorem wt_close (c : Dev nD) (k : Fin 4) :
    Wt m c k 16 ⊢ iprop(zeros (F := F) c k ∗ bigSep NZ fun d => xPay m (k.val + 1) d c) := by
  refine via (wt_end m c k) (Entails.of_eq ?_)
  unfold zeros waitDone
  exact (bigSep_pair NZ _ _).symm

theorem work_close (c : Dev nD) :
    iprop(workPts c c (workAt m c) ∗ bigSep NZ fun d => xPay m ((0 : Fin 4).val + 1) d c)
      ⊢ (((c : Thread nD τ).loc cc0_scratch1) ↦{fullShare} workAt m c : sProp 𝕄) := by
  rw [work_blocks, bigSep_out (Finset.mem_univ c), ← map_around c, bigSep_map]
  exact BI.Entails.refl _

theorem out_close (c : Dev nD) :
    iprop(outPts c c (leafAt 0) (outAt m) ∗ (bigSep NZ fun d => xPay m ((2 : Fin 4).val + 1) d c) ∗ bigSep NZ fun d => xPay m ((3 : Fin 4).val + 1) d c)
      ⊢ (((c : Thread nD τ).loc cc0_stg5_0) ↦{fullShare} outAt m : sProp 𝕄) := by
  rw [out_blocks, bigSep_out (Finset.mem_univ c), ← map_back c, bigSep_map, out_leaves c c, bigSep_out (Finset.mem_univ (0 : Fin 16))]
  iintro ⟨H1, H2, H3⟩
  isplitl [H1 H2]
  · isplitl [H1]; · iexact H1
    iexact H2
  iexact H3

/-- The semaphores of the distance 0, which nobody signals. -/
theorem idle (c : Dev nD) (k : Fin 4) :
    iprop(ctx m K ∗ atPos ER (xCell k 0 c) 0 ∅ 0) ⊢ (|={Set.univ}=> semVal (xCell k 0 c) 0 : sProp 𝕄) := by
  iintro ⟨#H, Hat⟩
  ihave HC := (ctx_cell m K (c, some (k, 0))) $$ H
  icases HC with ⟨#HI, -⟩
  imod (Rounds.cell_close ER (sched m) (Set.mem_univ (K (c, some (k, 0)))) (fun h => h) (R := 0) (fun r _ => duties_x0 m c k r)) $$ [Hat] with Hz
  · isplitr; · iexact HI
    iexact Hat
  imodintro; iexact Hz

/-- The four semaphores of the distance 0 at zero. -/
def idles (c : Dev nD) : sProp 𝕄 :=
  iprop(semVal (xCell 0 0 c) 0 ∗ semVal (xCell 1 0 c) 0 ∗ semVal (xCell 2 0 c) 0 ∗ semVal (xCell 3 0 c) 0)

/-- The state after the body, gathered. -/
theorem finish (c : Dev nD) :
    iprop(ctx m K ∗ Sent m c 16 16 ∗ Wt m c 3 16 ∗ outPts c c (leafAt 0) (outAt m) ∗ (bigSep Finset.univ fun d => slotPts c d (slotsAt m c))
        ∗ zeros (F := F) c 1 ∗ workPts c c (workAt m c) ∗ Attn m c 1 8 ∗ Win m c ∗ semVal (barCell c) 0 ∗ idles (F := F) c)
      ⊢ iprop(Φ₁ (F := F) c ∗ Ow (F := F) c ∅ ∅ ∅ ∗ Win m c ∗ ((c : Thread nD τ).loc cc0_stg5_0 ↦{fullShare} outAt m)) := by
  unfold Sent Attn idles Φ₁ scr
  rw [by_array fun k d => (semVal (xCell k d c) 0 : sProp 𝕄)]
  iintro ⟨-, ⟨HO, HW0, HW2⟩, HW3, Hl0, Hsl, HZ1, Hwk, ⟨%fa, -, Ha⟩, HWin, HB, HI0, HI1, HI2, HI3⟩
  ihave H0 := (wt_close m c 0) $$ HW0
  ihave H2 := (wt_close m c 2) $$ HW2
  ihave H3 := (wt_close m c 3) $$ HW3
  unfold zeros
  icases H0 with ⟨HZ0, HP0⟩
  icases H2 with ⟨HZ2, HP2⟩
  icases H3 with ⟨HZ3, HP3⟩
  isplitl [Hsl Hwk HP0 Ha HB HI0 HI1 HI2 HI3 HZ0 HZ1 HZ2 HZ3]
  · isplitl [Hsl Hwk HP0 Ha]
    · isplitl [Ha]; · iexists fa; iexact Ha
      isplitl [Hwk HP0]
      · iexists (workAt m c); iapply (work_close m c)
        isplitl [Hwk] <;> iassumption
      iexists (slotsAt m c); rw [slot_blocks]; iexact Hsl
    isplitr [HB]
    · isplitl [HI0 HZ0]
      · isplitl [HI0]; · iexact HI0
        iexact HZ0
      isplitl [HI1 HZ1]
      · isplitl [HI1]; · iexact HI1
        iexact HZ1
      isplitl [HI2 HZ2]
      · isplitl [HI2]; · iexact HI2
        iexact HZ2
      isplitl [HI3]; · iexact HI3
      iexact HZ3
    iexact HB
  isplitl [HO]; · iexact HO
  isplitl [HWin]; · iexact HWin
  iapply (out_close m c)
  isplitl [Hl0]; · iexact Hl0
  isplitl [HP2] <;> iassumption

/-- The body, from the launch's state. -/
theorem device_runs (c : Dev nD) {Q : PUnit → sProp 𝕄}
    (h : iprop(Φ₁ (F := F) c ∗ Ow (F := F) c ∅ ∅ ∅ ∗ Win m c ∗ ((c : Thread nD τ).loc cc0_stg5_0 ↦{fullShare} outAt m)) ⊢ Q ⟨⟩) :
    iprop(Φ₀ m c ∗ Ow (F := F) c NZ NZ NZ ∗ Win m c ∗ ∃ f : Buf (Elt F) ((c : Thread nD τ).loc cc0_stg5_0), (c : Thread nD τ).loc cc0_stg5_0 ↦{fullShare} f)
      ⊢ runs c (cc0_body xM whole wqM whole woM whole wkM whole wvM whole outM whole attnM whole workM whole rsM whole
          cc0_scratch3 cc0_scratch4 cc0_scratch5 cc0_scratch6) Q := by
  unfold Φ₀ start own scr
  rw [by_array fun k d => (atPos ER (xCell k d c) 0 ∅ 0 : sProp 𝕄)]
  iintro ⟨⟨⟨⟨%K, #HC, HaB, ⟨⟨Hi0, Ha0⟩, ⟨Hi1, Ha1⟩, ⟨Hi2, Ha2⟩, ⟨Hi3, Ha3⟩⟩, HdB, HdR, HdA⟩, HcB, Hc1, Hc3⟩, ⟨⟨%fa, Hfa⟩, ⟨%fw, Hfw⟩, ⟨%fs, Hfs⟩⟩⟩,
    HO, HWin, ⟨%fo, Hfo⟩⟩
  imod (idle m K c 0) $$ [Hi0] with Hz0
  · isplitr; · iexact HC
    iexact Hi0
  imod (idle m K c 1) $$ [Hi1] with Hz1
  · isplitr; · iexact HC
    iexact Hi1
  imod (idle m K c 2) $$ [Hi2] with Hz2
  · isplitr; · iexact HC
    iexact Hi2
  imod (idle m K c 3) $$ [Hi3] with Hz3
  · isplitr; · iexact HC
    iexact Hi3
  ihave Ho := (out_open c fo) $$ Hfo
  ihave Hs := (slot_open c fs) $$ Hfs
  ihave Hw := (work_split c fw) $$ Hfw
  icases Ho with ⟨Ho, Hos⟩
  icases Hs with ⟨Hs, Hss⟩
  icases Hw with ⟨Hw0, Hw1⟩
  iapply (body m K c (R := idles (F := F) c) (via (finish m K c) h))
  isplitr; · iexact HC
  isplitl [HWin]; · iexact HWin
  isplitl [Hfa]
  · unfold Attn; iexists fa; isplitr
    · ipureintro; exact fun r k hk => absurd hk (Nat.not_lt_zero _)
    iexact Hfa
  isplitl [Hw0]; · iexact Hw0
  isplitl [Hw1]; · iexact Hw1
  isplitl [HO HdB Hss Hos]
  · unfold Sigs; rw [ge_one]
    isplitl [HO]; · iexact HO
    iapply (sigs_open (F := F) c)
    isplitl [HdB]; · iexact HdB
    isplitl [Hss] <;> iassumption
  isplitl [HcB]; · iexact HcB
  isplitl [HaB]; · iexact HaB
  isplitl [HdR]; · iexact HdR
  isplitl [HdA]; · iexact HdA
  isplitl [Hs]; · iexact Hs
  isplitl [Ha1 Hc1]
  · iapply (wt_open m c 1); unfold atAll; isplitl [Ha1] <;> iassumption
  isplitl [Ho]; · iexact Ho
  isplitl [Ha3 Hc3]
  · iapply (wt_open m c 3); unfold atAll; isplitl [Ha3] <;> iassumption
  isplitl [Ha0]; · unfold atAll; iexact Ha0
  isplitl [Ha2]; · unfold atAll; iexact Ha2
  unfold idles
  isplitl [Hz0]; · iexact Hz0
  isplitl [Hz1]; · iexact Hz1
  isplitl [Hz2] <;> iassumption

/-! ## The pipeline's data and its obligation -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => wqIn m c
    | ⟨2, _⟩ => woIn m c
    | ⟨3, _⟩ => wkIn m c
    | ⟨4, _⟩ => wvIn m c
    | ⟨5, _⟩ => outAt m
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_open (c : Dev nD) (b : Ref sig .tc) {D : Type} (X : D → b.ty.Contents (Elt F)) (Y : b.ty.Contents (Elt F)) (h : ∀ d, X d = Y) :
    iprop(∃ d, stg (F := F) c b (X d)) ⊢ (((c : Thread nD τ).loc b) ↦{fullShare} Y : sProp 𝕄) := by
  iintro ⟨%d, %f, %hf, H⟩
  rw [hf, h d]; iexact H

omit [FloatOps F] in
theorem stg_close (c : Dev nD) (b : Ref sig .tc) (Y : b.ty.Contents (Elt F)) :
    (((c : Thread nD τ).loc b) ↦{fullShare} Y : sProp 𝕄) ⊢ stg (F := F) c b Y := by
  iintro H; iexists Y; isplitr; · ipureintro; rfl
  iexact H

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))

def bodyPost (c : Dev nD) : sProp 𝕄 :=
  iprop(Φ₁ (F := F) c ∗ (dats m ρ 0 c).owesAt () t0_0.succ ∗ stg c cc0_stg0_0 (xIn m c) ∗ stg c cc0_stg1_0 (wqIn m c)
    ∗ stg c cc0_stg2_0 (woIn m c) ∗ stg c cc0_stg3_0 (wkIn m c) ∗ stg c cc0_stg4_0 (wvIn m c) ∗ stg c cc0_stg5_0 (outAt m))

theorem body_in (c : Dev nD) :
    bodyPre m ρ c ⊢ iprop(Φ₀ m c ∗ Ow (F := F) c NZ NZ NZ ∗ Win m c
      ∗ ∃ f : Buf (Elt F) ((c : Thread nD τ).loc cc0_stg5_0), (c : Thread nD τ).loc cc0_stg5_0 ↦{fullShare} f) := by
  unfold bodyPre Win Ow Dat.owesAt Pipeline.owesWithin
  rw [show (dats m ρ 0 c).owed t0_0.castSucc = owed c NZ NZ NZ from rfl]
  iintro ⟨HΦ, ⟨%W, %hW, HO⟩, H0, H1, H2, H3, H4, ⟨%d, %f, %hf, H5⟩⟩
  ihave H0 := (stg_open c cc0_stg0_0 _ (xIn m c) fun d => by unfold Dat.before; rw [if_pos (fetch0_0 t0_0)]; rfl) $$ H0
  ihave H1 := (stg_open c cc0_stg1_0 _ (wqIn m c) fun d => by unfold Dat.before; rw [if_pos (fetch0_1 t0_0)]; rfl) $$ H1
  ihave H2 := (stg_open c cc0_stg2_0 _ (woIn m c) fun d => by unfold Dat.before; rw [if_pos (fetch0_2 t0_0)]; rfl) $$ H2
  ihave H3 := (stg_open c cc0_stg3_0 _ (wkIn m c) fun d => by unfold Dat.before; rw [if_pos (fetch0_3 t0_0)]; rfl) $$ H3
  ihave H4 := (stg_open c cc0_stg4_0 _ (wvIn m c) fun d => by unfold Dat.before; rw [if_pos (fetch0_4 t0_0)]; rfl) $$ H4
  isplitl [HΦ]; · iexact HΦ
  isplitl [HO]; · iexists W; iexact HO
  isplitr [H5]
  · isplitl [H0]; · iexact H0
    isplitl [H1]; · iexact H1
    isplitl [H2]; · iexact H2
    isplitl [H3] <;> iassumption
  iexists f; iexact H5

theorem body_out (c : Dev nD) :
    iprop(Φ₁ (F := F) c ∗ Ow (F := F) c ∅ ∅ ∅ ∗ Win m c ∗ ((c : Thread nD τ).loc cc0_stg5_0 ↦{fullShare} outAt m)) ⊢ bodyPost m ρ c := by
  unfold bodyPost Win Ow Dat.owesAt Pipeline.owesWithin
  rw [show (dats m ρ 0 c).owed t0_0.succ = 0 from rfl, owed_none]
  iintro ⟨HΦ, ⟨%W, HO⟩, ⟨H0, H1, H2, H3, H4⟩, H5⟩
  isplitl [HΦ]; · iexact HΦ
  isplitl [HO]
  · iexists W; isplitr; · ipureintro; exact fun _ _ => Or.inl trivial
    iexact HO
  isplitl [H0]; · iapply (stg_close (F := F) c cc0_stg0_0); iexact H0
  isplitl [H1]; · iapply (stg_close (F := F) c cc0_stg1_0); iexact H1
  isplitl [H2]; · iapply (stg_close (F := F) c cc0_stg2_0); iexact H2
  isplitl [H3]; · iapply (stg_close (F := F) c cc0_stg3_0); iexact H3
  isplitl [H4]; · iapply (stg_close (F := F) c cc0_stg4_0); iexact H4
  iapply (stg_close (F := F) c cc0_stg5_0); iexact H5

attribute [local irreducible] cc0_body in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ runs c (cc0_body xM whole wqM whole woM whole wkM whole wvM whole outM whole attnM whole workM whole rsM whole
    cc0_scratch3 cc0_scratch4 cc0_scratch5 cc0_scratch6) (fun _ => bodyPost m ρ c)
  exact via (body_in m ρ c) (device_runs m c (body_out m ρ c))

end Cert.KProof
-- ==== Proof.Run.lean ====
/-
The launch: semaphores, duties and credits dealt to the sixteen devices, and the run.
-/
module

public import proofs.«01_k».proof.Proof.Obl
public import Idealize.ShloMosaic.Lib.Pipeline.CollectiveSegs

@[expose] public section

set_option maxRecDepth 10000

noncomputable section

namespace Cert.KProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-! ## The semaphores and the tokens -/

/-- The kernel's own semaphores. -/
abbrev osem (kd : Fin 4 × Fin 16) : SemLoc sig := .dma (xS kd.1 kd.2)

theorem osem_inj : Function.Injective osem := fun a b h => by
  have h1 : xS a.1 a.2 = xS b.1 b.2 := by injection h
  exact Prod.ext (xS_inj h1).1 (xS_inj h1).2

theorem ownSemFacts : Pipeline.OwnSemFacts cfg0.spec osem := ⟨by decide, osem_inj, by decide⟩

theorem share_eq (c : Dev nD) (w : Fin cfg0.W) : (dats m ρ 0 c).share w = fullShare := by unfold Dat.share; split <;> rfl

theorem csem_inj : Function.Injective csem := fun a b h => by
  rcases a with _ | a <;> rcases b with _ | b
  · rfl
  · cases h
  · cases h
  · exact congrArg some (osem_inj h)

theorem kcell_injective : Function.Injective (kcell : Dev nD × CK → GSem nD τ sig) := by
  rintro ⟨c, k⟩ ⟨c', k'⟩ h
  have h1 : c = c' := congrArg (fun g : GSem nD τ sig => g.1.1) h
  have h2 : csem k = csem k' := congrArg Prod.snd h
  rw [h1, csem_inj h2]

def allCells : Finset (GSem nD τ sig) := Finset.univ.map ⟨kcell, kcell_injective⟩

/-- The kinds of duty: a signal, and the end of a copy on each of the four arrays. -/
abbrev Kind : Type := Option (Fin 4)

/-- The duty of each kind and distance on device `c`'s own semaphores. -/
abbrev tokOf (x : Dev nD × Kind × Fin 16) : GSem nD τ sig × ℕ × Fin 16 := match x.2.1 with
  | none => (barCell x.1, 0, prv x.1 x.2.2)
  | some k => (xCell k x.2.2 x.1, 0, 0)

theorem prv_inj (c : Fin 16) {d d' : Fin 16} (h : prv c d = prv c d') : d = d' := (back c).injective h

theorem tokOf_injective : Function.Injective tokOf := by
  rintro ⟨c, k, d⟩ ⟨c', k', d'⟩ h
  rcases k with _ | k <;> rcases k' with _ | k'
  · have h1 : c = c' := congrArg (fun x : GSem nD τ sig × ℕ × Fin 16 => x.1.1.1) h
    subst h1
    have h2 : prv c d = prv c d' := congrArg (fun x : GSem nD τ sig × ℕ × Fin 16 => x.2.2) h
    rw [prv_inj c h2]
  · cases congrArg (fun x : GSem nD τ sig × ℕ × Fin 16 => x.1.2) h
  · cases congrArg (fun x : GSem nD τ sig × ℕ × Fin 16 => x.1.2) h
  · have h1 : c = c' := congrArg (fun x : GSem nD τ sig × ℕ × Fin 16 => x.1.1.1) h
    have h2 : osem (k, d) = osem (k', d') := congrArg (fun x : GSem nD τ sig × ℕ × Fin 16 => x.1.2) h
    have h3 := osem_inj h2
    injection h3 with h4 h5
    subst h1 h4 h5; rfl

def allToks : Finset (GSem nD τ sig × ℕ × Fin 16) := Finset.univ.map ⟨tokOf, tokOf_injective⟩

def u₀ : UU :=
  (initOf (Pipeline.cells cfgs cellOf_inj) (Pipeline.launchToks cfgs cellOf_inj), initOf allCells allToks)

/-- The duties of device `c`'s own semaphores. -/
def toks (c : Dev nD) : sProp 𝕄 :=
  bigSep Finset.univ fun x : Kind × Fin 16 => dutyTok ER (tokOf (c, x)).1 (tokOf (c, x)).2.1 (tokOf (c, x)).2.2

def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks (F := F) c)

def G' (c : Dev nD) : sProp 𝕄 := iprop(∃ K, recs m K ∗ own (F := F) c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem bigSep_option {I : Type} [Fintype I] [DecidableEq I] (Φ : Option I → sProp 𝕄) :
    bigSep Finset.univ Φ = iprop(Φ none ∗ bigSep Finset.univ fun i => Φ (some i)) := by
  have h : (Finset.univ : Finset (Option I)) = insert none (Finset.univ.map Function.Embedding.some) := by
    ext x; cases x <;> simp
  rw [h, bigSep_put (by simp), bigSep_map]
  rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun kd : Fin 4 × Fin 16 => semVal (xCell kd.1 kd.2 c) 0 := rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Each duty's token to the device that pays it -/

/-- Device and distance turned: the device that far ahead. -/
def turn : Fin 16 × Fin 16 ≃ Fin 16 × Fin 16 :=
  ⟨fun x => (nxt x.1 x.2, x.2), fun x => (prv x.1 x.2, x.2), fun x => Prod.ext (prv_nxt x.1 x.2) rfl, fun x => Prod.ext (nxt_prv x.1 x.2) rfl⟩

omit [FloatOps F] in
theorem turned (Φ : Fin 16 → Fin 16 → sProp 𝕄) :
    (bigSep Finset.univ fun c : Fin 16 => bigSep Finset.univ fun d : Fin 16 => Φ c d)
      = bigSep Finset.univ fun c : Fin 16 => bigSep Finset.univ fun d : Fin 16 => Φ (nxt c d) d := by
  have h := bigSep_univ_equiv turn (fun x : Fin 16 × Fin 16 => Φ x.1 x.2)
  rw [bigSep_univ_prod, bigSep_univ_prod] at h
  exact h

/-- The duties that device `c` pays, by kind. -/
def payToks (c : Dev nD) : sProp 𝕄 :=
  iprop((bigSep Finset.univ fun d => dutyTok ER (barCell (nxt c d)) 0 c)
    ∗ (bigSep Finset.univ fun d => dutyTok ER (xCell 0 d c) 0 0) ∗ (bigSep Finset.univ fun d => dutyTok ER (xCell 1 d (nxt c d)) 0 0)
    ∗ (bigSep Finset.univ fun d => dutyTok ER (xCell 2 d c) 0 0) ∗ bigSep Finset.univ fun d => dutyTok ER (xCell 3 d (nxt c d)) 0 0)

omit [FloatOps F] in
theorem toks_eq (c : Dev nD) :
    toks (F := F) c = iprop((bigSep Finset.univ fun d => dutyTok ER (barCell c) 0 (prv c d))
      ∗ (bigSep Finset.univ fun d => dutyTok ER (xCell 0 d c) 0 0) ∗ (bigSep Finset.univ fun d => dutyTok ER (xCell 1 d c) 0 0)
      ∗ (bigSep Finset.univ fun d => dutyTok ER (xCell 2 d c) 0 0) ∗ bigSep Finset.univ fun d => dutyTok ER (xCell 3 d c) 0 0) := by
  unfold toks
  rw [bigSep_univ_prod, bigSep_option, bigSep_fin4]

omit [FloatOps F] in
theorem toks_around : (bigSep Finset.univ fun c : Dev nD => toks (F := F) c) = bigSep Finset.univ fun c : Dev nD => payToks (F := F) c := by
  rw [bigSep_congr (fun c _ => toks_eq (F := F) c)]
  unfold payToks
  rw [bigSep_sep', bigSep_sep', bigSep_sep', bigSep_sep', bigSep_sep', bigSep_sep', bigSep_sep', bigSep_sep',
    turned (F := F) (fun c d => dutyTok ER (barCell c) 0 (prv c d)), turned (F := F) (fun c d => dutyTok ER (xCell 1 d c) 0 0),
    turned (F := F) (fun c d => dutyTok ER (xCell 3 d c) 0 0)]
  simp only [prv_nxt]

omit [FloatOps F] in
theorem pays (c : Dev nD) : payToks (F := F) c ⊢ iprop(barDuty (F := F) c ∗ rsDuty (F := F) c ∗ agDuty (F := F) c) := by
  have hs (Φ : Fin 16 → sProp 𝕄) : bigSep Finset.univ Φ ⊢ bigSep NZ Φ := by
    rw [bigSep_out (Finset.mem_univ (0 : Fin 16))]; exact sep_elim_right (PROP := sProp 𝕄)
  unfold payToks barDuty rsDuty agDuty
  rw [← bigSep_pair, ← bigSep_pair]
  iintro ⟨H0, H1, H2, H3, H4⟩
  isplitl [H0]; · iapply (hs _); iexact H0
  isplitl [H1 H2]
  · isplitl [H1]
    · iapply (hs _); iexact H1
    iapply (hs _); iexact H2
  isplitl [H3]
  · iapply (hs _); iexact H3
  iapply (hs _); iexact H4

omit [FloatOps F] in
/-- What stays with device `c`. -/
theorem own_intro (c : Dev nD) :
    iprop((bigSep Finset.univ fun k : CK => atPos ER (kcell (c, k)) 0 ∅ 0) ∗ payToks (F := F) c) ⊢ own (F := F) c := by
  unfold own
  rw [bigSep_option]
  iintro ⟨⟨HB, HX⟩, HP⟩
  isplitl [HB]; · iexact HB
  isplitl [HX]; · iexact HX
  iapply (pays (F := F) c); iexact HP

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_around]
  iintro ⟨HI, ⟨Hat, #HR⟩, Htok⟩
  ihave HK := (BI.bigSep_exists_pi Finset.univ (fun (ck : Dev nD × CK) (κ : ℕ) => (cellInv ER (sched m) κ (kcell ck) : sProp 𝕄))) $$ HI
  icases HK with ⟨%K, #HI⟩
  iapply (bigSep_with_persistent (R := recs m K) (Φ := fun c => own (F := F) c) fun c _ => show iprop(recs m K ∗ own (F := F) c) ⊢ G' m c from by
    unfold G'; iintro H; iexists K; iexact H)
  isplitr
  · unfold recs; rw [bigSep_sep']; isplitl; · iexact HI
    iexact HR
  · iapply (show iprop((bigSep Finset.univ fun c : Dev nD => bigSep Finset.univ fun k : CK => (atPos ER (kcell (c, k)) 0 ∅ 0 : sProp 𝕄))
        ∗ bigSep Finset.univ fun c : Dev nD => payToks (F := F) c) ⊢ bigSep Finset.univ fun c : Dev nD => own (F := F) c from by
      rw [bigSep_pair]; exact bigSep_mono fun c _ => own_intro c)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

omit [FloatOps F] in
/-- What all devices owe along one array of semaphores is each device's credit on its own. -/
theorem owed_around (sm : Fin 16 → SemLoc sig) (n : ℕ) (c : Dev nD) :
    (Pipeline.launchCred (fun d : Dev nD => ∑ e ∈ NZ, tallyAt ((nxt d e : Thread nD τ), sm e) () n) c : sProp 𝕄)
      ⊢ bigSep NZ fun e => cred (tallyAt ((c : Thread nD τ), sm e) () n) := by
  rw [Pipeline.launchCred_sum NZ (fun e (d : Dev nD) => tallyAt ((nxt d e : Thread nD τ), sm e) () n) c]
  exact bigSep_mono fun e _ => Pipeline.launchCred_tallyAt (sm e) (fun d => nxt d e) (fun d => prv d e) (fun d => nxt_prv d e) (fun d => prv_nxt d e) () n c

omit [FloatOps F] in
theorem units (g : GSem nD τ sig) : (bigSep NZ fun _ : Fin 16 => cred (tallyAt g () 1) : sProp 𝕄) = cred (tallyAt g () 15) := by
  rw [← Pipeline.cred_finsetSum NZ (fun _ => tallyAt g () 1)]
  refine congrArg cred ?_
  funext g'
  refine Finsupp.ext fun u => ?_
  rw [Finset.sum_apply, Finsupp.finsetSum_apply]
  simp only [tallyAt_apply]
  split
  · rfl
  · exact Finset.sum_const_zero

omit [FloatOps F] in
theorem credits (c : Dev nD) :
    (Pipeline.launchCred O₀ c : sProp 𝕄) ⊢ iprop(cred (tallyAt (barCell c) () 15) ∗ creds (F := F) c 1 NZ ∗ creds (F := F) c 3 NZ) := by
  show (Pipeline.launchCred (fun d => ((∑ e ∈ NZ, tallyAt (xCell 3 e (nxt d e)) () N₂) + ∑ e ∈ NZ, tallyAt (xCell 1 e (nxt d e)) () N₁)
    + ∑ e ∈ NZ, tallyAt (barCell (nxt d e)) () 1) c : sProp 𝕄) ⊢ _
  rw [Pipeline.launchCred_add (fun d => (∑ e ∈ NZ, tallyAt (xCell 3 e (nxt d e)) () N₂) + ∑ e ∈ NZ, tallyAt (xCell 1 e (nxt d e)) () N₁)
      (fun d => ∑ e ∈ NZ, tallyAt (barCell (nxt d e)) () 1) c,
    Pipeline.launchCred_add (fun d => ∑ e ∈ NZ, tallyAt (xCell 3 e (nxt d e)) () N₂) (fun d => ∑ e ∈ NZ, tallyAt (xCell 1 e (nxt d e)) () N₁) c]
  iintro ⟨⟨H3, H1⟩, HB⟩
  ihave H3 := (owed_around (F := F) (fun e => .dma (xS 3 e)) N₂ c) $$ H3
  ihave H1 := (owed_around (F := F) (fun e => .dma (xS 1 e)) N₁ c) $$ H1
  ihave HB := (owed_around (F := F) (fun _ => .reg barS) 1 c) $$ HB
  ihave HB := (Entails.of_eq (units (F := F) (barCell c))) $$ HB
  unfold creds; rw [NX_1, NX_3]
  isplitl [HB]; · iexact HB
  isplitl [H1] <;> iassumption

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, #Hlev, Hcr, -, HG⟩
  ihave Hc := (credits (F := F) c) $$ Hcr
  imodintro
  unfold start G' ctx
  isplitl
  · isplitl [HG]
    · icases HG with ⟨%K, #HR, Ho⟩
      iexists K
      isplitr
      · isplitr; · iexact HR
        iexact Hlev
      iexact Ho
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ scr
  iintro ⟨Hr, Hz, HzB⟩
  isplitl [HzB]; · iexact HzB
  isplitl [Hz]; · iexact Hz
  iexact Hr

theorem mayWait_stage (c : Dev nD) (q : DmaSem sig) (hq : lv ((c : Thread nD τ), .dma q) () ≤ 0) (O : CellTallies nD τ sig Unit) (hO : O = O₀ c ∨ O = 0) :
    (levAts L lv : sProp 𝕄) ⊢ MayWait (c : Thread nD τ) (.dma q) () O := by
  rcases hO with rfl | rfl
  · exact mayWait_owed (F := F) c (.dma q) NZ NZ NZ 0 hq (fun _ _ => by decide) (fun _ _ => by decide) (fun _ _ => by decide)
  · rw [MayWait_zero]; iintro -; iempintro

theorem stage_level (w : Fin 6) (s : Fin ((cfg0.win w).nbuf)) (c : Dev nD) : lv ((c : Thread nD τ), .dma ((cfg0.win w).sem s)) () ≤ 0 := by
  fin_cases w <;> fin_cases s <;> exact le_refl _

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_level w s c) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

attribute [local irreducible] cc0_body in
/-- Every weakly fair run of the sixteen devices ends, with each device's result array written, its arguments unchanged
    and all semaphores at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument array holds at the end what it held. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.KProof
-- ==== Proof.Frames.lean ====
/-
What a run of the kernel leaves: the arguments as they were, every semaphore at zero, and on every device the same
result array `outAt`. The two frames of the kernel and the reference's are read off here.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

set_option maxRecDepth 10000

noncomputable section

namespace Cert.KProof

open Cert.KernelIdeal Cert.KernelIdeal.Gen

open Idealize.ShloMosaic
open Idealize.ShloMosaic.TcCoe
open Idealize.ShloMosaic.ValueIdx
open Idealize.SL.Sem

variable {F : FTy → Type} [FloatOps F]

variable (m : (ℓ : Loc nD τ sig) → Buf (Elt F) ℓ) (ρ : Dev nD → PrngReg)

/-- The result array is written back once, whole. -/
theorem finalA_out (c : Dev nD) : finalA m ρ c (5 : Fin cfg0.W) = outAt m :=
  (dats (F := F) m ρ 0 c).arrAt_eq_of_after_last (5 : Fin cfg0.W) ⟨0, by decide⟩
    ⟨by decide +kernel, fun t _ => Fin.ext (Nat.lt_one_iff.mp t.isLt), fun a => by revert a; decide +kernel⟩ (outAt m) fun j => rfl

attribute [local irreducible] cc0_body in
/-- Every run ends with the result at `outAt` on every device, the arguments unchanged and the semaphores at zero. -/
theorem ends : θ_run defs (onTc (τ := τ) (main (F := F))) (s₀ m ρ) fun r =>
    (∀ c : Dev nD, r.2.mem ((c.tc : Thread nD τ).loc main_v1) = outAt m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0 :=
  (θ_run defs _ _).mono (fun _ h => ⟨fun c =>
    ⟨(h.1 c 5).trans (finalA_out m ρ c), (h.1 c 0).trans (finalA_in m ρ c 0 rfl), (h.1 c 1).trans (finalA_in m ρ c 1 rfl),
      (h.1 c 3).trans (finalA_in m ρ c 3 rfl), (h.1 c 4).trans (finalA_in m ρ c 4 rfl), (h.1 c 2).trans (finalA_in m ρ c 2 rfl)⟩,
    h.2⟩) (run_main (F := F) m ρ)

theorem frame_ideal : Cert.quiescent_KernelIdeal := fun m ρ _ =>
  (θ_run Cert.KernelIdeal.defs _ _).mono (fun _ h => ⟨fun c => (h.1 c).2, h.2⟩) (ends (F := Ideal) m ρ)

/-! ## The two programs of the kernel are one -/

theorem body_same : Cert.Kernel.cc0_body (F := Bits) = cc0_body (F := Bits) := rfl

attribute [local irreducible] Cert.Kernel.cc0_body cc0_body in
theorem labels_same : Cert.Kernel.defs₀ (F := Bits) = defs₀ (F := Bits) := by
  unfold Cert.Kernel.defs₀ defs₀
  refine congrArg Defs.onTc ?_
  funext l a
  match l, a with
  | 0, (t, s) =>
    simp only []
    rw [body_same]
  | ⟨_ + 1, h⟩, _ => exact absurd h (Nat.not_lt.2 (Nat.le_add_left _ _))

attribute [local irreducible] Cert.Kernel.cc0_body cc0_body Cert.Kernel.defs₀ defs₀ in
theorem defs_same : Cert.Kernel.defs (F := Bits) = defs (F := Bits) := by
  unfold Cert.Kernel.defs defs
  rw [labels_same]
  rfl

theorem frame_bits : Cert.quiescent_Kernel := fun m ρ _ => by
  rw [defs_same]
  exact (θ_run Cert.KernelIdeal.defs _ _).mono (fun _ h => ⟨fun c => (h.1 c).2, h.2⟩) (ends (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KProof
-- ==== Proof.Softmax.lean ====
/-
The mathematics of one attention row over the extended reals: subtracting a real from every score and dividing at the
end gives what dividing by the plain row sum gives, whatever the values (also infinite ones) are; sums and products of
reals are reals; the maximum of real scores is real.
-/
module

public import Idealize.ShloMosaic.PureOps.Ideal.Laws
public import Idealize.ShloMosaic.Lib.IdealHost

@[expose] public section

noncomputable section

namespace Cert.KProof

open Idealize.ShloMosaic
open scoped BigOperators

/-! ## Real elements -/

/-- An extended real that is a real. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.max {x y : EReal} (hx : IsReal x) (hy : IsReal y) : IsReal (max x y) := by
  rcases max_choice x y with h | h <;> rw [h] <;> assumption

theorem IsReal.sum {ι : Type} (s : Finset ι) {f : ι → EReal} (h : ∀ i, IsReal (f i)) : IsReal (∑ i ∈ s, f i) := by
  classical
  induction s using Finset.induction_on with
  | empty => simpa using IsReal.zero
  | insert a s ha ih => rw [Finset.sum_insert ha]; exact (h a).add ih

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An element whose absolute value lies below +∞ is a real. -/
theorem isReal_of_abs_lt {x : EReal} (h : Max.max x (-x) < ⊤) : IsReal x := by
  induction x using EReal.rec with
  | bot => simp at h
  | top => simp at h
  | coe r => exact ⟨r, rfl⟩

/-- The maximum of a nonempty family of reals, folded from −∞, is a real. -/
theorem isReal_fold_max {ι : Type} (s : Finset ι) {f : ι → EReal} (h : ∀ i, IsReal (f i)) :
    s.Nonempty → IsReal (s.fold Max.max ⊥ f) := by
  classical
  induction s using Finset.induction_on with
  | empty => exact fun h => absurd h Finset.not_nonempty_empty
  | insert a s ha ih =>
    intro _
    rw [Finset.fold_insert ha]
    rcases s.eq_empty_or_nonempty with rfl | hs
    · rw [Finset.fold_empty, max_eq_left bot_le]; exact h a
    · exact (h a).max (ih hs)

/-! ## A real factor -/

theorem sum_mul_coe {ι : Type} (s : Finset ι) (f : ι → EReal) {c : ℝ} (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih, mul_comm (f a + _), mul_comm (f a), mul_comm (∑ i ∈ s, f i),
      EReal.left_distrib_of_nonneg_of_ne_top (by exact_mod_cast hc) (EReal.coe_ne_top c)]

/-- A real common factor moves out of a dot product of reals. -/
theorem scaled_dot {ι : Type} (s : Finset ι) {q k : ι → EReal} {c : EReal} (hq : ∀ i, IsReal (q i)) (hk : ∀ i, IsReal (k i))
    (hc : IsReal c) : ∑ i ∈ s, q i * c * k i = (∑ i ∈ s, q i * k i) * c := by
  choose q' hq' using hq
  choose k' hk' using hk
  obtain ⟨c', rfl⟩ := hc
  simp only [hq', hk', ← EReal.coe_mul, ← coe_sum, Finset.sum_mul]
  congr 1
  exact Finset.sum_congr rfl fun i _ => by ring

/-! ## A row of the softmax -/

theorem exp_coe (r : ℝ) : Ideal.exp (r : EReal) = ((Real.exp r : ℝ) : EReal) := rfl

/-- Row sums first and a reciprocal at the end, or the row shifted by a real and a division at the end: the same. -/
theorem softmax_row {ι : Type} [Fintype ι] [Nonempty ι] {s : ι → EReal} (v : ι → EReal) {m : EReal} (hs : ∀ j, IsReal (s j))
    (hm : IsReal m) :
    (∑ j, Ideal.exp (s j) * v j) * Ideal.div 1 (∑ j, Ideal.exp (s j))
      = Ideal.div (∑ j, v j * Ideal.exp (s j - m)) (∑ j, Ideal.exp (s j - m)) := by
  choose s' hs' using hs
  obtain ⟨m', rfl⟩ := hm
  have hshift : ∀ j, Ideal.exp (s j - (m' : EReal)) = ((Real.exp (s' j) : ℝ) : EReal) * ((Real.exp (-m') : ℝ) : EReal) := fun j => by
    rw [hs', ← EReal.coe_sub, exp_coe, ← EReal.coe_mul, sub_eq_add_neg, Real.exp_add]
  have hplain : ∀ j, Ideal.exp (s j) = ((Real.exp (s' j) : ℝ) : EReal) := fun j => by rw [hs', exp_coe]
  have hE : 0 < ∑ j, Real.exp (s' j) := Finset.sum_pos (fun j _ => Real.exp_pos _) Finset.univ_nonempty
  have hc : 0 < Real.exp (-m') := Real.exp_pos _
  simp only [hshift, hplain]
  simp only [← EReal.coe_mul, ← coe_sum, ← Finset.sum_mul]
  have hv : ∑ j, v j * ((Real.exp (s' j) * Real.exp (-m') : ℝ) : EReal)
      = (∑ j, ((Real.exp (s' j) : ℝ) : EReal) * v j) * ((Real.exp (-m') : ℝ) : EReal) := by
    rw [← sum_mul_coe _ _ hc.le]
    exact Finset.sum_congr rfl fun j _ => by rw [EReal.coe_mul, ← mul_assoc, mul_comm (v j)]
  rw [hv]
  have h0 : ((∑ j, Real.exp (s' j) : ℝ) : EReal) ≠ 0 := by exact_mod_cast hE.ne'
  have h1 : (((∑ j, Real.exp (s' j)) * Real.exp (-m') : ℝ) : EReal) ≠ 0 := by exact_mod_cast (mul_pos hE hc).ne'
  rw [Ideal.div, if_neg h0, Ideal.div, if_neg h1, one_mul, ← EReal.coe_inv, ← EReal.coe_inv, mul_assoc, ← EReal.coe_mul]
  congr 2
  field_simp

end Cert.KProof

end
-- ==== Proof.KernelValue.lean ====
/-
The kernel's result over the extended reals, element by element: sums over the sixteen devices, over a device's 512
columns of the attention output, and over the keys.
-/
module

public import proofs.«01_k».proof.Proof.Contents
public import proofs.«01_k».proof.Proof.Softmax
public import Idealize.ShloMosaic.Lib.MatmulPlain
public import Idealize.ShloMosaic.Lib.IdealHost

@[expose] public section

set_option maxRecDepth 10000

noncomputable section

namespace Cert.KProof

open Cert.KernelIdeal Cert.KernelIdeal.Gen

open Idealize.ShloMosaic
open Idealize.ShloMosaic.TcCoe
open Idealize.ShloMosaic.ValueIdx
open scoped BigOperators

/-- The scores' factor, 1/8. -/
def eighth : EReal := Ideal.ofBits .f32 0x3E000000#32

/-! ## One device -/

theorem drop_unit (v : Vec Ideal S1x256x768 .bf16) (r : Fin 256) (k : Fin 768) : k0_pay5 v (ix2 r k) = v (ix3 (0 : Fin 1) r k) := by
  refine (shapeCast_dropUnit_apply (n := 2) ![256, 768] v _ (ix2 r k)).trans (congrArg v ?_)
  funext a; fin_cases a <;> rfl

/-- A projection: row `r` of the batch times column `n` of the weights. -/
theorem project (xb : Vec Ideal S1x256x768 .bf16) (w : FVec Ideal S768x512 .bf16) (r : Fin 256) (n : Fin 512) :
    matmul dot_S256x768_S768x512_S256x512_1_0_0_1_n_n none (k0_pay5 xb) w (constant S256x512 .f32 0x00000000#32) (ix2 r n)
      = ∑ k : Fin 768, xb (ix3 (0 : Fin 1) r k) * w (ix2 k n) := by
  refine (Ideal.matmul_plain_apply (M := 256) (K := 768) (N := 512) none (k0_pay5 xb) w _ r n).trans ?_
  rw [constant_apply, Ideal.ofBits_zero_f32, zero_add]
  exact Finset.sum_congr rfl fun k _ => by rw [drop_unit]

theorem query_ix (w : Vec Ideal S768x512 .bf16) (xb : Vec Ideal S1x256x768 .bf16) (r : Fin 256) (n : Fin 512) :
    k0_pay6 w xb (ix2 r n) = (∑ k : Fin 768, xb (ix3 (0 : Fin 1) r k) * w (ix2 k n)) * eighth := by
  unfold k0_pay6 k0_pay1
  simp only []
  rw [shapeCast_self, truncf_apply, mulf_apply, project]
  rfl

theorem key_ix (w : Vec Ideal S768x512 .bf16) (xb : Vec Ideal S1x256x768 .bf16) (r : Fin 256) (n : Fin 512) :
    k0_pay7 w xb (ix2 r n) = ∑ k : Fin 768, xb (ix3 (0 : Fin 1) r k) * w (ix2 k n) := by
  unfold k0_pay7 k0_pay2
  simp only []
  rw [shapeCast_self, truncf_apply, project]

theorem value_ix (w : Vec Ideal S768x512 .bf16) (xb : Vec Ideal S1x256x768 .bf16) (r : Fin 256) (n : Fin 512) :
    k0_pay8 w xb (ix2 r n) = ∑ k : Fin 768, xb (ix3 (0 : Fin 1) r k) * w (ix2 k n) := by
  unfold k0_pay8 k0_pay3
  simp only []
  rw [shapeCast_self, truncf_apply, project]

theorem col_lt (h : Fin 8) (d : Fin 64) : 64 * h.val + d.val < 512 := by have := h.isLt; have := d.isLt; omega

/-- A head's columns. -/
theorem cut (v : FVec Ideal S256x512 .bf16) (h : Fin 8) (r : Fin 256) (d : Fin 64) :
    extractStridedSlice S256x64 ![0, 64 * h.val] v (headSlices h) (ix2 r d) = v (ix2 r ⟨64 * h.val + d.val, col_lt h d⟩) :=
  extractStridedSlice_apply _ _ _ _ _ fun a => by
    match a with
    | ⟨0, _⟩ => exact (Nat.zero_add _).symm
    | ⟨1, _⟩ => rfl

/-- A score of a head, the queries scaled already. -/
def headScore (h : Fin 8) (q k : FVec Ideal S256x512 .bf16) (r j : Fin 256) : EReal :=
  ∑ d : Fin 64, q (ix2 r ⟨64 * h.val + d.val, col_lt h d⟩) * k (ix2 j ⟨64 * h.val + d.val, col_lt h d⟩)

theorem score_ix (h : Fin 8) (q k : FVec Ideal S256x512 .bf16) (r j : Fin 256) :
    matmul dot_S256x64_S256x64_S256x256_1_1_0_0_n_n none (extractStridedSlice S256x64 ![0, 64 * h.val] q (headSlices h))
      (extractStridedSlice S256x64 ![0, 64 * h.val] k (headSlices h)) (constant S256x256 .f32 0x00000000#32) (ix2 r j)
      = headScore h q k r j := by
  refine (Ideal.matmul_transposedRhs_apply (M := 256) (K := 64) (N := 256) none _ _ _ r j).trans ?_
  rw [constant_apply, Ideal.ofBits_zero_f32, zero_add]
  exact Finset.sum_congr rfl fun d _ => by rw [cut, cut]

theorem row_sum (e : FVec Ideal S256x256 .f32) (r : Fin 256) :
    shapeCast S256x1 (multiReduction .add [1] S256 e 0x00000000#32 reduces_S256x256_S256 (.inl rfl) rfl) shapeCasts_S256_S256x1 (ix2 r (0 : Fin 1))
      = ∑ j : Fin 256, e (ix2 r j) := by
  refine (shapeCast_apply _ _ (ix2 r (0 : Fin 1)) (ix1 r) ?_).trans ?_
  · rw [Shape.rowMajor_val_one, Shape.rowMajor_val_two]; show r.val = r.val * 1 + 0; omega
  · refine (Ideal.multiReduction_add_single (a := 1) e _ reduces_S256x256_S256 (.inl rfl) rfl (ix1 r)).trans ?_
    refine Finset.sum_congr rfl fun j _ => congrArg e ?_
    funext a; apply Fin.ext; fin_cases a <;> rfl

theorem head_ix (h : Fin 8) (q k v : FVec Ideal S256x512 .bf16) (r : Fin 256) (d : Fin 64) :
    headOut h q k v (ix2 r d)
      = (∑ j : Fin 256, Ideal.exp (headScore h q k r j) * v (ix2 j ⟨64 * h.val + d.val, col_lt h d⟩))
        * Ideal.div 1 (∑ j : Fin 256, Ideal.exp (headScore h q k r j)) := by
  unfold headOut
  simp only []
  rw [truncf_apply, mulf_apply]
  congr 1
  · refine (Ideal.matmul_plain_apply (M := 256) (K := 256) (N := 64) none _ _ _ r d).trans ?_
    rw [constant_apply, Ideal.ofBits_zero_f32, zero_add]
    refine Finset.sum_congr rfl fun j _ => ?_
    rw [cut, truncf_apply]
    exact congrArg (fun z => Ideal.exp z * _) (score_ix h q k r j)
  · refine (broadcastTo_apply _ _ (ix2 r d) (ix2 r (0 : Fin 1)) fun a => by fin_cases a <;> rfl).trans ?_
    rw [divf_apply, row_sum, broadcast_apply]
    congr 1
    · exact Ideal.ofBits_one_f32
    · exact Finset.sum_congr rfl fun j _ => congrArg Ideal.exp (score_ix h q k r j)

/-! ## All devices -/

variable (m : (ℓ : Loc nD τ sig) → Buf (Elt Ideal) ℓ)

/-- A staged input is the argument's buffer. -/
theorem xIn_eq (c : Dev nD) : xIn m c = m ((c : Thread nD τ).loc main_arg0) :=
  Memref.read_access_unit_zero (Elt Ideal) main_arg0 (off := fun a => (win0_0.index (0 : Fin 1)) a * main_arg0.ty.shape.size a)
    (funext fun a => by fin_cases a <;> decide) (fun a => by fin_cases a <;> decide) _

theorem wqIn_eq (c : Dev nD) : wqIn m c = m ((c : Thread nD τ).loc main_arg1) :=
  Memref.read_access_unit_zero (Elt Ideal) main_arg1 (off := fun a => (win0_1.index (0 : Fin 1)) a * main_arg1.ty.shape.size a)
    (funext fun a => by fin_cases a <;> decide) (fun a => by fin_cases a <;> decide) _

theorem woIn_eq (c : Dev nD) : woIn m c = m ((c : Thread nD τ).loc main_arg4) :=
  Memref.read_access_unit_zero (Elt Ideal) main_arg4 (off := fun a => (win0_2.index (0 : Fin 1)) a * main_arg4.ty.shape.size a)
    (funext fun a => by fin_cases a <;> decide) (fun a => by fin_cases a <;> decide) _

theorem wkIn_eq (c : Dev nD) : wkIn m c = m ((c : Thread nD τ).loc main_arg2) :=
  Memref.read_access_unit_zero (Elt Ideal) main_arg2 (off := fun a => (win0_3.index (0 : Fin 1)) a * main_arg2.ty.shape.size a)
    (funext fun a => by fin_cases a <;> decide) (fun a => by fin_cases a <;> decide) _

theorem wvIn_eq (c : Dev nD) : wvIn m c = m ((c : Thread nD τ).loc main_arg3) :=
  Memref.read_access_unit_zero (Elt Ideal) main_arg3 (off := fun a => (win0_4.index (0 : Fin 1)) a * main_arg3.ty.shape.size a)
    (funext fun a => by fin_cases a <;> decide) (fun a => by fin_cases a <;> decide) _

/-- A device's partial product: its 512 columns of the attention output times its rows of `Wo`. -/
theorem work_ix (c : Dev nD) (b : Fin 2) (r : Fin 256) (k : Fin 768) :
    workB m c b (ix2 r k) = ∑ n : Fin 512, attnB m c b (ix2 r n) * woIn m c (ix2 n k) := by
  unfold workB k0_pay23 k0_pay22 k0_pay4
  simp only []
  rw [shapeCast_self, shapeCast_self, truncf_apply]
  refine (Ideal.matmul_plain_apply (M := 256) (K := 512) (N := 768) none _ _ _ r k).trans ?_
  rw [constant_apply, Ideal.ofBits_zero_f32, zero_add]

/-- One slot, its unit axis dropped. -/
theorem slot_ix (v : FVec Ideal S1x32x768 .bf16) (r : Fin 32) (k : Fin 768) :
    shapeCast S32x768 v shapeCasts_S1x32x768_S32x768 (ix2 r k) = v (ix3 (0 : Fin 1) r k) := by
  refine (shapeCast_dropUnit_apply (n := 2) ![32, 768] v _ (ix2 r k)).trans (congrArg v ?_)
  funext a; fin_cases a <;> rfl

/-- An element of a device's partial product. -/
def workRow (c : Dev nD) (r : Fin 512) (k : Fin 768) : EReal := workAt m c (ix2 r k)

theorem sum_sixteen (f : Fin 16 → EReal) :
    ∑ d, f d = f 0 + f 1 + f 2 + f 3 + f 4 + f 5 + f 6 + f 7 + f 8 + f 9 + f 10 + f 11 + f 12 + f 13 + f 14 + f 15 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_eight]
  rfl

/-- The sum of the sixteen slots. -/
theorem acc_ix (c : Dev nD) (r : Fin 32) (k : Fin 768) :
    accAt m c (ix2 r k) = ∑ d : Fin 16, workRow m (prv c d) ⟨32 * c.val + r.val, slot_lt c r⟩ k := by
  have hs : ∀ d : Fin 16, shapeCast S32x768 (slotVec m c d) shapeCasts_S1x32x768_S32x768 (ix2 r k)
      = workRow m (prv c d) ⟨32 * c.val + r.val, slot_lt c r⟩ k := fun d => (slot_ix (slotVec m c d) r k).trans rfl
  unfold accAt k0_pay46 k0_pay45 k0_pay44
  simp only [truncf_apply, addf_apply, extf_apply]
  rw [sum_sixteen, hs 0, hs 1, hs 2, hs 3, hs 4, hs 5, hs 6, hs 7, hs 8, hs 9, hs 10, hs 11, hs 12, hs 13, hs 14, hs 15]

/-- The result: the sum of all devices' partial products. -/
theorem out_ix (b : Fin 2) (i : Fin 256) (k : Fin 768) :
    outAt m (ix3 b i k) = ∑ e : Fin 16, ∑ n : Fin 512, attnB m e b (ix2 i n) * woIn m e (ix2 n k) := by
  have hb := b.isLt
  have hi := i.isLt
  have hrow : ∀ e : Dev nD, workRow m e ⟨32 * (⟨8 * b.val + i.val / 32, own_lt b i⟩ : Fin 16).val + (⟨i.val % 32, Nat.mod_lt _ (by decide)⟩ : Fin 32).val,
      slot_lt (⟨8 * b.val + i.val / 32, own_lt b i⟩ : Fin 16) _⟩ k = workB m e b (ix2 i k) := fun e => by
    have h1 : (⟨(32 * (8 * b.val + i.val / 32) + i.val % 32) / 256, by omega⟩ : Fin 2) = b := Fin.ext (by
      show (32 * (8 * b.val + i.val / 32) + i.val % 32) / 256 = b.val; omega)
    have h2 : (⟨(32 * (8 * b.val + i.val / 32) + i.val % 32) % 256, Nat.mod_lt _ (by decide)⟩ : Fin 256) = i := Fin.ext (by
      show (32 * (8 * b.val + i.val / 32) + i.val % 32) % 256 = i.val; omega)
    show workB m e (⟨(32 * (8 * b.val + i.val / 32) + i.val % 32) / 256, _⟩ : Fin 2)
      (ix2 (⟨(32 * (8 * b.val + i.val / 32) + i.val % 32) % 256, _⟩ : Fin 256) k) = _
    rw [h1, h2]
  show accAt m ⟨8 * b.val + i.val / 32, own_lt b i⟩ (ix2 ⟨i.val % 32, Nat.mod_lt _ (by decide)⟩ k) = _
  refine (acc_ix m _ _ k).trans ?_
  refine (Finset.sum_congr rfl fun d _ => (hrow _).trans (work_ix m _ b i k)).trans ?_
  exact Equiv.sum_comp (Equiv.subLeft (⟨8 * b.val + i.val / 32, own_lt b i⟩ : Fin 16))
    fun e => ∑ n : Fin 512, attnB m e b (ix2 i n) * woIn m e (ix2 n k)

end Cert.KProof

end
-- ==== Proof.RefValue.lean ====
/-
The reference's result over the extended reals, element by element.
-/
module

public import proofs.«01_k».proof.Proof.Gen.ReferenceIdeal.Run
public import proofs.«01_k».proof.Proof.Softmax
public import Idealize.ShloMosaic.Lib.Pointwise

@[expose] public section

set_option maxRecDepth 10000

noncomputable section

namespace Cert.KProof.Ref

open Cert.ReferenceIdeal Cert.ReferenceIdeal.Gen

open Idealize.ShloMosaic
open Idealize.ShloMosaic.TcCoe
open scoped BigOperators

/-! ## The reference in five stages -/

/-- A projection, split into 128 heads of 64. -/
def proj (x : FVec Ideal S2x256x768 .bf16) (w : FVec Ideal S768x8192 .bf16) : FVec Ideal S2x256x128x64 .bf16 :=
  shapeCast _ (truncf .bf16 (Host.dotGeneral dot_S2x256x768_S768x8192_S2x256x8192_2_0_01_1_n_n none x w) bitsLt_bf16_f32)
    shapeCasts_S2x256x8192_S2x256x128x64

/-- The scores, scaled. -/
def score (q k : FVec Ideal S2x256x128x64 .bf16) : FVec Ideal S2x128x256x256 .f32 :=
  mulf (extf .f32 (truncf .bf16 (Host.dotGeneral dot_S2x256x128x64_S2x256x128x64_S2x128x256x256_3_3_1_1_02_02 none q k) bitsLt_bf16_f32)
    bitsLt_bf16_f32) (broadcastInDim S2x128x256x256 ![] bcast_S_S2x128x256x256 (constant S_ .f32 0x3E000000#32))

/-- Each row's largest score. -/
def rowMax (s : FVec Ideal S2x128x256x256 .f32) : FVec Ideal S2x128x256 .f32 :=
  Host.reduce FloatOps.maximumf s (constant S_ .f32 0xFF800000#32) reducesTo_S2x128x256x256_S2x128x256_d3 h_S_

/-- The exponentials of the scores less their row's largest. -/
def weights (s : FVec Ideal S2x128x256x256 .f32) : FVec Ideal S2x128x256x256 .f32 :=
  Host.exp (subf s (broadcastInDim S2x128x256x256 ![0, 1, 2, 3] bcast_S2x128x256x1_S2x128x256x256_0_1_2_3
    (broadcastInDim S2x128x256x1 ![0, 1, 2] bcast_S2x128x256_S2x128x256x1_0_1_2 (rowMax s))))

/-- The average of the values under the weights. -/
def average (v : FVec Ideal S2x256x128x64 .bf16) (p : FVec Ideal S2x128x256x256 .f32) : FVec Ideal S2x256x128x64 .f32 :=
  Host.divf (transpose S2x256x128x64 [0, 3, 1, 2] (Host.dotGeneral dot_S2x256x128x64_S2x128x256x256_S2x128x64x256_1_3_3_2_02_01 none
      (extf .f32 v bitsLt_bf16_f32) p) transposes_S2x128x64x256_S2x256x128x64_0_3_1_2)
    (broadcastInDim S2x256x128x64 ![0, 1, 2, 3] bcast_S2x256x128x1_S2x256x128x64_0_1_2_3
      (transpose S2x256x128x1 [0, 2, 1, 3] (broadcastInDim S2x128x256x1 ![0, 1, 2] bcast_S2x128x256_S2x128x256x1_0_1_2
        (Host.reduceAdd p (constant S_ .f32 0x00000000#32) reducesTo_S2x128x256x256_S2x128x256_d3 h_S_))
        transposes_S2x128x256x1_S2x256x128x1_0_2_1_3))

/-- The heads joined, times `Wo`. -/
def joined (a : FVec Ideal S2x256x128x64 .f32) (w : FVec Ideal S8192x768 .bf16) : FVec Ideal S2x256x768 .bf16 :=
  truncf .bf16 (Host.dotGeneral dot_S2x256x8192_S8192x768_S2x256x768_2_0_01_1_n_n none
    (shapeCast _ a shapeCasts_S2x256x128x64_S2x256x8192) w) bitsLt_bf16_f32

/-- The reference of its five arrays. -/
def attention (x : FVec Ideal S2x256x768 .bf16) (wq wk wv : FVec Ideal S768x8192 .bf16) (wo : FVec Ideal S8192x768 .bf16) :
    FVec Ideal S2x256x768 .bf16 :=
  joined (average (proj x wv) (weights (score (proj x wq) (proj x wk)))) wo

/-- What the reference's run leaves is this. -/
theorem res_eq (m : (ℓ : Loc nD τ sig) → Buf (Elt Ideal) ℓ) (c : Dev nD) :
    Cert.ReferenceIdeal.Value.res_out0 m c = attention (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  rfl

/-! ## Each stage at an index -/

/-- The largest score starts from minus infinity. -/
theorem bits_neg_inf : Ideal.ofBits .f32 0xFF800000#32 = ⊥ := by
  simp [Ideal.ofBits, Ideal.ieee]

/-- The scores' factor is one eighth. -/
theorem bits_eighth : Ideal.ofBits .f32 0x3E000000#32 = ((1 / 8 : ℝ) : EReal) := by
  simp [Ideal.ofBits, Ideal.ieee, -EReal.coe_mul]; norm_num

theorem score_ix (q k : FVec Ideal S2x256x128x64 .bf16) (b : Fin 2) (h : Fin 128) (i j : Fin 256) :
    score q k (ix4 b h i j) = (∑ d : Fin 64, q (ix4 b i h d) * k (ix4 b j h d)) * Ideal.ofBits .f32 0x3E000000#32 := by
  pointwise [score]

theorem proj_ix (x : FVec Ideal S2x256x768 .bf16) (w : FVec Ideal S768x8192 .bf16) (b : Fin 2) (i : Fin 256) (h : Fin 128) (d : Fin 64)
    (n : Fin 8192) (hn : n.val = 64 * h.val + d.val) :
    proj x w (ix4 b i h d) = ∑ k : Fin 768, x (ix3 b i k) * w (ix2 k n) := by
  have e : (⟨h.val * 64 + d.val, by have := h.isLt; have := d.isLt; omega⟩ : Fin 8192) = n :=
    Fin.ext (by show h.val * 64 + d.val = n.val; omega)
  pointwise [proj]
  simp only [e]

theorem rowMax_ix (s : FVec Ideal S2x128x256x256 .f32) (b : Fin 2) (h : Fin 128) (i : Fin 256) :
    rowMax s (ix3 b h i) = (Finset.univ : Finset (Fin 256)).fold max ⊥ fun j => s (ix4 b h i j) := by
  pointwise [rowMax]
  rw [bits_neg_inf]

theorem weights_ix (s : FVec Ideal S2x128x256x256 .f32) (b : Fin 2) (h : Fin 128) (i j : Fin 256) :
    weights s (ix4 b h i j) = Ideal.exp (s (ix4 b h i j) - rowMax s (ix3 b h i)) := by
  pointwise [weights]

theorem average_ix (v : FVec Ideal S2x256x128x64 .bf16) (p : FVec Ideal S2x128x256x256 .f32) (b : Fin 2) (i : Fin 256) (h : Fin 128)
    (d : Fin 64) :
    average v p (ix4 b i h d) = Ideal.div (∑ j : Fin 256, v (ix4 b j h d) * p (ix4 b h i j)) (∑ j : Fin 256, p (ix4 b h i j)) := by
  pointwise [average]

theorem joined_ix (a : FVec Ideal S2x256x128x64 .f32) (w : FVec Ideal S8192x768 .bf16) (b : Fin 2) (i : Fin 256) (k : Fin 768) :
    joined a w (ix3 b i k) = ∑ n : Fin 8192, a (ix4 b i ⟨n.val / 64, by omega⟩ ⟨n.val % 64, by omega⟩) * w (ix2 n k) := by
  pointwise [joined]

/-! ## The whole reference at an index -/

theorem col_lt (h : Fin 128) (d : Fin 64) : 64 * h.val + d.val < 8192 := by have := h.isLt; have := d.isLt; omega

/-- Column `n` of a projection of row `i` of batch `b`. -/
def projected (x : FVec Ideal S2x256x768 .bf16) (w : FVec Ideal S768x8192 .bf16) (b : Fin 2) (i : Fin 256) (n : Fin 8192) : EReal :=
  ∑ k : Fin 768, x (ix3 b i k) * w (ix2 k n)

/-- Head `h`'s scaled score of row `i` and key `j`. -/
def scored (x : FVec Ideal S2x256x768 .bf16) (wq wk : FVec Ideal S768x8192 .bf16) (b : Fin 2) (h : Fin 128) (i j : Fin 256) : EReal :=
  (∑ d : Fin 64, projected x wq b i ⟨64 * h.val + d.val, col_lt h d⟩ * projected x wk b j ⟨64 * h.val + d.val, col_lt h d⟩)
    * Ideal.ofBits .f32 0x3E000000#32

/-- Column `n` of the attention output: the exponentials of the scores times the values, then the reciprocal of their sum. -/
def attended (x : FVec Ideal S2x256x768 .bf16) (wq wk wv : FVec Ideal S768x8192 .bf16) (b : Fin 2) (i : Fin 256) (n : Fin 8192) : EReal :=
  (∑ j : Fin 256, Ideal.exp (scored x wq wk b ⟨n.val / 64, by omega⟩ i j) * projected x wv b j n)
    * Ideal.div 1 (∑ j : Fin 256, Ideal.exp (scored x wq wk b ⟨n.val / 64, by omega⟩ i j))

section
variable {x : FVec Ideal S2x256x768 .bf16} {wq wk : FVec Ideal S768x8192 .bf16}

theorem projected_real {w : FVec Ideal S768x8192 .bf16} (hx : ∀ i, IsReal (x i)) (hw : ∀ i, IsReal (w i)) (b : Fin 2) (i : Fin 256)
    (n : Fin 8192) : IsReal (projected x w b i n) :=
  IsReal.sum _ fun k => (hx _).mul (hw _)

theorem scored_real (hx : ∀ i, IsReal (x i)) (hq : ∀ i, IsReal (wq i)) (hk : ∀ i, IsReal (wk i)) (b : Fin 2) (h : Fin 128)
    (i j : Fin 256) : IsReal (scored x wq wk b h i j) :=
  (IsReal.sum _ fun d => (projected_real hx hq b i _).mul (projected_real hx hk b j _)).mul ⟨_, bits_eighth⟩

theorem scores_eq (b : Fin 2) (h : Fin 128) (i j : Fin 256) :
    score (proj x wq) (proj x wk) (ix4 b h i j) = scored x wq wk b h i j := by
  rw [score_ix]
  unfold scored projected
  refine congrArg (· * _) (Finset.sum_congr rfl fun d _ => ?_)
  rw [proj_ix x wq b i h d ⟨64 * h.val + d.val, col_lt h d⟩ rfl, proj_ix x wk b j h d ⟨64 * h.val + d.val, col_lt h d⟩ rfl]

/-- With real inputs and score weights, an element of the reference: its shift by the row's largest score cancels. -/
theorem attention_ix (hx : ∀ i, IsReal (x i)) (hq : ∀ i, IsReal (wq i)) (hk : ∀ i, IsReal (wk i)) (wv : FVec Ideal S768x8192 .bf16)
    (wo : FVec Ideal S8192x768 .bf16) (b : Fin 2) (i : Fin 256) (k : Fin 768) :
    attention x wq wk wv wo (ix3 b i k) = ∑ n : Fin 8192, attended x wq wk wv b i n * wo (ix2 n k) := by
  unfold attention
  rw [joined_ix]
  refine Finset.sum_congr rfl fun n _ => congrArg (· * wo (ix2 n k)) ?_
  rw [average_ix]
  have hn : n.val = 64 * (n.val / 64) + n.val % 64 := (Nat.div_add_mod n.val 64).symm
  have hm : IsReal (rowMax (score (proj x wq) (proj x wk)) (ix3 b ⟨n.val / 64, by omega⟩ i)) := by
    rw [rowMax_ix]
    exact isReal_fold_max _ (fun j => by rw [scores_eq]; exact scored_real hx hq hk b _ i j) Finset.univ_nonempty
  simp only [weights_ix, scores_eq, fun j => proj_ix x wv b j ⟨n.val / 64, by omega⟩ ⟨n.val % 64, by omega⟩ n hn]
  exact (softmax_row (fun j => projected x wv b j n) (fun j => scored_real hx hq hk b _ i j) hm).symm

end

end Cert.KProof.Ref

end
-- ==== Proof.Finite.lean ====
/-
The precondition: what it takes to state it, and what it says — `x`, `Wq` and `Wk` hold real numbers.
-/
module

public import proofs.«01_k».proof.Defs
public import proofs.«01_k».proof.Proof.Softmax
public import Idealize.ShloMosaic.Lib.ReduceAll
public import Idealize.ShloMosaic.Lib.IdealHost

@[expose] public section

set_option maxRecDepth 10000

noncomputable section

namespace Cert.KProof

open Idealize.ShloMosaic

theorem finite_kernel_facts : Cert.Pre_finite_KernelIdeal.Facts where
  bitsLt_bf16_f32 := by decide
  bcast_S_S2x256x768 := by decide
  reducesTo_S2x256x768_S_d0_1_2 := by decide
  h_S_ := by decide
  bcast_S_S768x512 := by decide
  reducesTo_S768x512_S_d0_1 := by decide

theorem finite_reference_facts : Cert.Pre_finite_ReferenceIdeal.Facts where
  bitsLt_bf16_f32 := by decide
  bcast_S_S2x256x768 := by decide
  reducesTo_S2x256x768_S_d0_1_2 := by decide
  h_S_ := by decide
  bcast_S_S768x8192 := by decide
  reducesTo_S768x8192_S_d0_1 := by decide

theorem bits_inf : Ideal.ofBits .f32 0x7F800000#32 = ⊤ := by
  simp [Ideal.ofBits, Ideal.ieee]

theorem and_one : ∀ {a b : BitVec 1}, IntOp.andi a b = 1#1 → a = 1#1 ∧ b = 1#1 := by decide

/-- An element whose magnitude compares below infinity is real. -/
theorem isReal_of_cmp {a : EReal} (h : Ideal.cmp .olt (max a (-a)) (Ideal.ofBits .f32 0x7F800000#32) = 1#1) : IsReal a := by
  rw [bits_inf] at h
  refine isReal_of_abs_lt ?_
  by_contra hn
  have : Ideal.cmp .olt (max a (-a)) ⊤ = 0#1 := by
    unfold Ideal.cmp
    simp only [hn, decide_false]
    rfl
  rw [this] at h
  exact absurd h (by decide)

/-- An array whose every magnitude compares below infinity is real throughout. -/
theorem isReal_of_all {s : Shape} {axes : List (Fin s.rank)} (x : FVec Ideal s .bf16)
    (hlt : FTy.bits .bf16 < FTy.bits .f32) (hb : (⟨0, ![]⟩ : Shape).BroadcastsInDim s ![]) (hr : s.ReducesTo axes ⟨0, ![]⟩)
    (hu : 0 < (⟨0, ![]⟩ : Shape).numel) (init : IVec ⟨0, ![]⟩ 1) (j : (⟨0, ![]⟩ : Shape).Idx)
    (h : Host.reduce IntOp.andi (cmpf .olt (Host.absf (extf .f32 x hlt)) (broadcastInDim s ![] hb (constant (F := Ideal) ⟨0, ![]⟩ .f32 0x7F800000#32)))
      init hr hu j = 1#1) (i : s.Idx) : IsReal (x i) := by
  haveI : Subsingleton (⟨0, ![]⟩ : Shape).Idx := ⟨fun a b => funext fun t => t.elim0⟩
  have e := Host.reduce_andi_all _ init hr hu j h i
  refine isReal_of_cmp (Eq.trans ?_ e)
  show _ = Ideal.cmp .olt _ _
  rw [ValueIdx.broadcastInDim_scalar_apply]
  rfl

/-- Under the precondition a device's inputs and score weights are real. -/
theorem real_of_finite (m : (ℓ : Loc Cert.KernelIdeal.nD Cert.KernelIdeal.τ Cert.KernelIdeal.sig) → Buf (Elt Ideal) ℓ)
    (h : Cert.Pre_KernelIdeal_finite_KernelIdeal (hPre_finite_KernelIdeal := finite_kernel_facts) m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i)) := by
  have e := congrFun (h c) ValueIdx.ix0
  unfold Cert.Pre_finite_KernelIdeal.fn at e
  change IntOp.andi (IntOp.andi _ _) _ = 1#1 at e
  obtain ⟨e1, ek⟩ := and_one e
  obtain ⟨ex, eq⟩ := and_one e1
  exact ⟨isReal_of_all _ _ _ _ _ _ _ ex, isReal_of_all _ _ _ _ _ _ _ eq, isReal_of_all _ _ _ _ _ _ _ ek⟩

end Cert.KProof

end
-- ==== Proof.Equal.lean ====
/-
The kernel's result is the reference's. A device holds 512 of the 8192 columns of each projection, its eight heads; the sum over
devices and over a device's columns is the sum over all columns.
-/
module

public import proofs.«01_k».proof.Proof.KernelValue
public import proofs.«01_k».proof.Proof.RefValue
public import proofs.«01_k».proof.Proof.Finite
public import proofs.«01_k».proof.Proof.Frames
public import Idealize.ShloMosaic.Lib.Layout

@[expose] public section

set_option maxRecDepth 10000

noncomputable section

namespace Cert.KProof

open Cert.KernelIdeal Cert.KernelIdeal.Gen

open Idealize.ShloMosaic Idealize.SL.Sem
open Idealize.ShloMosaic.TcCoe
open scoped BigOperators

/-- Column `n` of device `e`'s block, among all columns. -/
def wide (e : Fin 16) (n : Fin 512) : Fin 8192 := ⟨512 * e.val + n.val, by have := e.isLt; have := n.isLt; omega⟩

/-- A sum over all columns, device by device. -/
theorem sum_wide (f : Fin 8192 → EReal) : ∑ N : Fin 8192, f N = ∑ e : Fin 16, ∑ n : Fin 512, f (wide e n) := by
  rw [← Fintype.sum_prod_type', ← Equiv.sum_comp (finProdFinEquiv (m := 16) (n := 512))]
  refine Finset.sum_congr rfl fun p _ => congrArg f (Fin.ext ?_)
  show p.2.val + 512 * p.1.val = 512 * p.1.val + p.2.val
  omega

section
variable (m : (ℓ : Loc nD τ sig) → Buf (Elt Ideal) ℓ)
variable (x : FVec Ideal ⟨3, ![2, 256, 768]⟩ .bf16) (wq wk wv : FVec Ideal ⟨2, ![768, 8192]⟩ .bf16) (wo : FVec Ideal ⟨2, ![8192, 768]⟩ .bf16)

/-- An element of a block of columns, and of a block of rows. -/
theorem block_cols (w : FVec Ideal ⟨2, ![768, 8192]⟩ .bf16) (e : Fin 16) (k : Fin 768) (n : Fin 512) :
    Layout.block ⟨2, ![768, 512]⟩ ⟨2, ![768, 8192]⟩ 1 16 e w (by decide) (ValueIdx.ix2 k n) = w (ix2 k (wide e n)) := by
  refine congrArg w (funext fun a => Fin.ext ?_)
  match a with
  | ⟨0, _⟩ => rfl
  | ⟨1, _⟩ => show e.val * 512 + n.val = 512 * e.val + n.val; omega

theorem block_rows (w : FVec Ideal ⟨2, ![8192, 768]⟩ .bf16) (e : Fin 16) (n : Fin 512) (k : Fin 768) :
    Layout.block ⟨2, ![512, 768]⟩ ⟨2, ![8192, 768]⟩ 0 16 e w (by decide) (ValueIdx.ix2 n k) = w (ix2 (wide e n) k) := by
  refine congrArg w (funext fun a => Fin.ext ?_)
  match a with
  | ⟨0, _⟩ => show e.val * 512 + n.val = 512 * e.val + n.val; omega
  | ⟨1, _⟩ => rfl

/-- A device's projection is the reference's at the device's columns. -/
theorem projected_wide {w : FVec Ideal ⟨2, ![768, 8192]⟩ .bf16} {wl : FVec Ideal S768x512 .bf16} {xl : FVec Ideal S2x256x768 .bf16} {e : Fin 16}
    (hx : xl = x) (hw : wl = Layout.block ⟨2, ![768, 512]⟩ ⟨2, ![768, 8192]⟩ 1 16 e w (by decide)) (b : Fin 2) (i : Fin 256) (n : Fin 512) :
    ∑ k : Fin 768, xBatch (F := Ideal) b xl (ValueIdx.ix3 (0 : Fin 1) i k) * wl (ValueIdx.ix2 k n) = Ref.projected x w b i (wide e n) := by
  subst hx hw
  unfold Ref.projected
  refine Finset.sum_congr rfl fun k _ => ?_
  rw [block_cols, ix3_eq_valueIdx]
  rfl

variable {m x wq wk wv wo}

/-- A device's attention output is the reference's at the device's columns. -/
theorem attended_wide {e : Fin 16} (hx : xIn m e = x)
    (hq : wqIn m e = Layout.block ⟨2, ![768, 512]⟩ ⟨2, ![768, 8192]⟩ 1 16 e wq (by decide))
    (hk : wkIn m e = Layout.block ⟨2, ![768, 512]⟩ ⟨2, ![768, 8192]⟩ 1 16 e wk (by decide))
    (hv : wvIn m e = Layout.block ⟨2, ![768, 512]⟩ ⟨2, ![768, 8192]⟩ 1 16 e wv (by decide))
    (rx : ∀ i, IsReal (x i)) (rq : ∀ i, IsReal (wq i)) (rk : ∀ i, IsReal (wk i)) (b : Fin 2) (i : Fin 256) (n : Fin 512) :
    attnB m e b (ValueIdx.ix2 i n) = Ref.attended x wq wk wv b i (wide e n) := by
  have hsplit : 64 * (n.val / 64) + n.val % 64 = n.val := Nat.div_add_mod n.val 64
  have hw : ∀ d : Fin 64, wide e ⟨64 * (⟨n.val / 64, by omega⟩ : Fin 8).val + d.val, col_lt _ d⟩
      = ⟨64 * (⟨(wide e n).val / 64, by have := (wide e n).isLt; omega⟩ : Fin 128).val + d.val, Ref.col_lt _ d⟩ := fun d => Fin.ext (by
    show 512 * e.val + (64 * (n.val / 64) + d.val) = 64 * ((512 * e.val + n.val) / 64) + d.val
    omega)
  have hs : ∀ j : Fin 256, headScore (⟨n.val / 64, by omega⟩ : Fin 8) (k0_pay6 (wqIn m e) (xBatch b (xIn m e)))
      (k0_pay7 (wkIn m e) (xBatch b (xIn m e))) i j = Ref.scored x wq wk b ⟨(wide e n).val / 64, by have := (wide e n).isLt; omega⟩ i j := fun j => by
    unfold headScore Ref.scored
    refine Eq.trans (Finset.sum_congr rfl fun d _ => ?_)
      (scaled_dot _ (fun d => Ref.projected_real rx rq b i _) (fun d => Ref.projected_real rx rk b j _) ⟨_, Ref.bits_eighth⟩)
    rw [← hw d]
    exact congrArg₂ (fun a b : EReal => a * b)
      ((query_ix _ _ i _).trans (congrArg (fun a : EReal => a * eighth) (projected_wide x hx hq b i _)))
      ((key_ix _ _ j _).trans (projected_wide x hx hk b j _))
  have hval : ∀ j : Fin 256, k0_pay8 (wvIn m e) (xBatch b (xIn m e))
      (ValueIdx.ix2 j ⟨64 * (⟨n.val / 64, by omega⟩ : Fin 8).val + (⟨n.val % 64, Nat.mod_lt _ (by decide)⟩ : Fin 64).val, col_lt _ _⟩)
      = Ref.projected x wv b j (wide e n) := fun j => by
    refine (value_ix _ _ j _).trans ((projected_wide x hx hv b j _).trans ?_)
    exact congrArg (Ref.projected x wv b j) (Fin.ext (by
      show 512 * e.val + (64 * (n.val / 64) + n.val % 64) = 512 * e.val + n.val; omega))
  refine (head_ix (⟨n.val / 64, by omega⟩ : Fin 8) _ _ _ i (⟨n.val % 64, Nat.mod_lt _ (by decide)⟩ : Fin 64)).trans ?_
  unfold Ref.attended
  simp only [hs, hval]

/-- The kernel's result is the reference of the whole arrays. -/
theorem out_eq (hx : ∀ e, xIn m e = x)
    (hq : ∀ e, wqIn m e = Layout.block ⟨2, ![768, 512]⟩ ⟨2, ![768, 8192]⟩ 1 16 e wq (by decide))
    (hk : ∀ e, wkIn m e = Layout.block ⟨2, ![768, 512]⟩ ⟨2, ![768, 8192]⟩ 1 16 e wk (by decide))
    (hv : ∀ e, wvIn m e = Layout.block ⟨2, ![768, 512]⟩ ⟨2, ![768, 8192]⟩ 1 16 e wv (by decide))
    (ho : ∀ e, woIn m e = Layout.block ⟨2, ![512, 768]⟩ ⟨2, ![8192, 768]⟩ 0 16 e wo (by decide))
    (rx : ∀ i, IsReal (x i)) (rq : ∀ i, IsReal (wq i)) (rk : ∀ i, IsReal (wk i)) (b : Fin 2) (i : Fin 256) (k : Fin 768) :
    outAt m (ValueIdx.ix3 b i k) = Ref.attention x wq wk wv wo (ix3 b i k) := by
  have ht : ∀ (e : Fin 16) (n : Fin 512), (attnB m e b (ValueIdx.ix2 i n) * woIn m e (ValueIdx.ix2 n k) : EReal)
      = Ref.attended x wq wk wv b i (wide e n) * wo (ix2 (wide e n) k) := fun e n =>
    congrArg₂ (fun a b : EReal => a * b) (attended_wide (hx e) (hq e) (hk e) (hv e) rx rq rk b i n)
      ((congrFun (ho e) _).trans (block_rows wo e n k))
  have hsum : ∑ e : Fin 16, ∑ n : Fin 512, (attnB m e b (ValueIdx.ix2 i n) * woIn m e (ValueIdx.ix2 n k) : EReal)
      = ∑ n : Fin 8192, Ref.attended x wq wk wv b i n * wo (ix2 n k) := by
    rw [sum_wide]
    exact Finset.sum_congr rfl fun e _ => Finset.sum_congr rfl fun n _ => ht e n
  exact (out_ix m b i k).trans (hsum.trans (Ref.attention_ix rx rq rk wv wo b i k).symm)

end

/-- Entries of a whole array are entries of its blocks. -/
theorem real_of_blocks {w : FVec Ideal ⟨2, ![768, 8192]⟩ .bf16} {wl : Fin 16 → FVec Ideal S768x512 .bf16}
    (hw : ∀ e, wl e = Layout.block ⟨2, ![768, 512]⟩ ⟨2, ![768, 8192]⟩ 1 16 e w (by decide)) (h : ∀ e i, IsReal (wl e i)) (i) : IsReal (w i) := by
  have hb : (i 1).val < 8192 := (i 1).isLt
  have e1 : i = ix2 (i 0) (wide ⟨(i 1).val / 512, by omega⟩ ⟨(i 1).val % 512, by omega⟩) := by
    funext a; apply Fin.ext
    match a with
    | ⟨0, _⟩ => rfl
    | ⟨1, _⟩ => exact (Nat.div_add_mod (i 1).val 512).symm
  have e2 : w i = wl ⟨(i 1).val / 512, by omega⟩ (ValueIdx.ix2 (i 0) ⟨(i 1).val % 512, by omega⟩) :=
    (congrArg w e1).trans ((block_cols w _ _ _).symm.trans (congrFun (hw _) _).symm)
  exact e2 ▸ h _ _

/-- Kernel and reference, from memories that hold the same arrays, end with the same result. -/
theorem same_result : Cert.algebraic_KernelIdeal_ReferenceIdeal_pre_finite_KernelIdeal (hPre_finite_KernelIdeal := finite_kernel_facts) := by
  intro m g m' g' hpre hin
  have hr := real_of_finite m hpre
  have hout : outAt m = Cert.ReferenceIdeal.Value.res_out0 m' 0 := by
    rw [Ref.res_eq]
    funext i
    have e3 : i = ValueIdx.ix3 (i 0) (i 1) (i 2) := by
      funext a; match a with | ⟨0, _⟩ => rfl | ⟨1, _⟩ => rfl | ⟨2, _⟩ => rfl
    rw [e3]
    refine (out_eq (fun e => (xIn_eq m e).trans (hin e).1) (fun e => (wqIn_eq m e).trans (hin e).2.1)
      (fun e => (wkIn_eq m e).trans (hin e).2.2.1) (fun e => (wvIn_eq m e).trans (hin e).2.2.2.1)
      (fun e => (woIn_eq m e).trans (hin e).2.2.2.2) (fun j => ?_) (fun j => ?_) (fun j => ?_) (i 0) (i 1) (i 2)).trans ?_
    · rw [← (hin 0).1]; exact (hr 0).1 j
    · exact real_of_blocks (fun e => (hin e).2.1) (fun e => (hr e).2.1) j
    · exact real_of_blocks (fun e => (hin e).2.2.1) (fun e => (hr e).2.2) j
    · exact congrArg (Ref.attention _ _ _ _ _) (ix3_eq_valueIdx (n0 := 2) (n1 := 256) (n2 := 768) (i 0) (i 1) (i 2))
  refine ⟨Cert.ReferenceIdeal.Value.res_out0 m' 0,
    (θ_run Cert.KernelIdeal.defs _ _).mono (fun r h c => ⟨((h.1 c).1).trans hout, (h.1 c).2⟩) (ends (F := Ideal) m g),
    (θ_run Cert.ReferenceIdeal.defs _ _).mono (fun r h => h 0) (Cert.ReferenceIdeal.Value.run (F := Ideal) m' g')⟩

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KProof.finite_kernel_facts, Cert.KProof.finite_reference_facts,
  Cert.KProof.frame_bits, Cert.KProof.frame_ideal, fun m g _ => Cert.KProof.frame_ideal m g trivial,
  Cert.KProof.frame_reference, fun m g _ => Cert.KProof.frame_reference m g trivial, trivial, Cert.KProof.same_result⟩

end Cert.Proof

end
